-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite2 [hPre_all_finite2 : Cert.Pre_all_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite2 [hPre_all_finite2 : Cert.Pre_all_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_all_finite3 [hPre_all_finite3 : Cert.Pre_all_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_all_finite3 [hPre_all_finite3 : Cert.Pre_all_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_all_finite6 [hPre_all_finite6 : Cert.Pre_all_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_all_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_all_finite6 [hPre_all_finite6 : Cert.Pre_all_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_all_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_all_finite2 [hKernel2Ideal : Cert.Kernel2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_all_finite2 [hReference2Ideal : Cert.Reference2Ideal.Facts] [hPre_all_finite2 : Cert.Pre_all_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_all_finite3 [hKernel3Ideal : Cert.Kernel3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_all_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_all_finite3 [hReference3Ideal : Cert.Reference3Ideal.Facts] [hPre_all_finite3 : Cert.Pre_all_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_all_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_all_finite6 [hKernel6Ideal : Cert.Kernel6Ideal.Facts] [hPre_all_finite6 : Cert.Pre_all_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_all_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_all_finite6 [hReference6Ideal : Cert.Reference6Ideal.Facts] [hPre_all_finite6 : Cert.Pre_all_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_all_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_all_finite2 [hKernel2Ideal : Cert.Kernel2Ideal.Facts] [hReference2Ideal : Cert.Reference2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v124) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal_pre_all_finite3 [hKernel3Ideal : Cert.Kernel3Ideal.Facts] [hReference3Ideal : Cert.Reference3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_all_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v123) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_all_finite6 [hKernel6Ideal : Cert.Kernel6Ideal.Facts] [hReference6Ideal : Cert.Reference6Ideal.Facts] [hPre_all_finite6 : Cert.Pre_all_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_all_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v23_0)) (v1 : (c : Dev Cert.Kernel6Ideal.nD) → Buf (Elt Ideal) ((c.tc : Thread Cert.Kernel6Ideal.nD Cert.Kernel6Ideal.τ).loc Cert.Kernel6Ideal.main_v23_1)) (v2 : (c : Dev Cert.Kernel6Ideal.nD) → Buf (Elt Ideal) ((c.tc : Thread Cert.Kernel6Ideal.nD Cert.Kernel6Ideal.τ).loc Cert.Kernel6Ideal.main_v23_2)) (v3 : (c : Dev Cert.Kernel6Ideal.nD) → Buf (Elt Ideal) ((c.tc : Thread Cert.Kernel6Ideal.nD Cert.Kernel6Ideal.τ).loc Cert.Kernel6Ideal.main_v23_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v23_0) = v0 c
          ∧ r.2.mem ((c.tc : Thread Cert.Kernel6Ideal.nD Cert.Kernel6Ideal.τ).loc Cert.Kernel6Ideal.main_v23_1) = v1 c
          ∧ r.2.mem ((c.tc : Thread Cert.Kernel6Ideal.nD Cert.Kernel6Ideal.τ).loc Cert.Kernel6Ideal.main_v23_2) = v2 c
          ∧ r.2.mem ((c.tc : Thread Cert.Kernel6Ideal.nD Cert.Kernel6Ideal.τ).loc Cert.Kernel6Ideal.main_v23_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v93) = v0 c
          ∧ r.2.mem ((c.tc : Thread Cert.Reference6Ideal.nD Cert.Reference6Ideal.τ).loc Cert.Reference6Ideal.main_v94) = v1 c
          ∧ r.2.mem ((c.tc : Thread Cert.Reference6Ideal.nD Cert.Reference6Ideal.τ).loc Cert.Reference6Ideal.main_v96) = v2 c
          ∧ r.2.mem ((c.tc : Thread Cert.Reference6Ideal.nD Cert.Reference6Ideal.τ).loc Cert.Reference6Ideal.main_v97) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_all_finite : Cert.Pre_all_finite.Facts) (hPre_all_finite2 : Cert.Pre_all_finite2.Facts) (hPre_all_finite3 : Cert.Pre_all_finite3.Facts) (hPre_all_finite6 : Cert.Pre_all_finite6.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_all_finite2 (hKernel2Ideal := hKernel2Ideal) (hPre_all_finite2 := hPre_all_finite2)
    ∧ quiescent_Reference2Ideal (hReference2Ideal := hReference2Ideal)
    ∧ quiescent_Reference2Ideal_pre_all_finite2 (hReference2Ideal := hReference2Ideal) (hPre_all_finite2 := hPre_all_finite2)
    ∧ quiescent_Kernel3 (hKernel3 := hKernel3)
    ∧ quiescent_Kernel3Ideal (hKernel3Ideal := hKernel3Ideal)
    ∧ quiescent_Kernel3Ideal_pre_all_finite3 (hKernel3Ideal := hKernel3Ideal) (hPre_all_finite3 := hPre_all_finite3)
    ∧ quiescent_Reference3Ideal (hReference3Ideal := hReference3Ideal)
    ∧ quiescent_Reference3Ideal_pre_all_finite3 (hReference3Ideal := hReference3Ideal) (hPre_all_finite3 := hPre_all_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_all_finite6 (hKernel6Ideal := hKernel6Ideal) (hPre_all_finite6 := hPre_all_finite6)
    ∧ quiescent_Reference6Ideal (hReference6Ideal := hReference6Ideal)
    ∧ quiescent_Reference6Ideal_pre_all_finite6 (hReference6Ideal := hReference6Ideal) (hPre_all_finite6 := hPre_all_finite6)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_all_finite2 (hKernel2Ideal := hKernel2Ideal) (hReference2Ideal := hReference2Ideal) (hPre_all_finite2 := hPre_all_finite2)
    ∧ preserves_Kernel3_Kernel3Ideal
    ∧ algebraic_Kernel3Ideal_Reference3Ideal_pre_all_finite3 (hKernel3Ideal := hKernel3Ideal) (hReference3Ideal := hReference3Ideal) (hPre_all_finite3 := hPre_all_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_all_finite6 (hKernel6Ideal := hKernel6Ideal) (hReference6Ideal := hReference6Ideal) (hPre_all_finite6 := hPre_all_finite6)
-- ==== Pre_all_finite.lean ====
abbrev S16x4096x1024 : Shape := ⟨3, ![16, 4096, 1024]⟩
abbrev S4x1024 : Shape := ⟨2, ![4, 1024]⟩
abbrev S4x16x256x1024 : Shape := ⟨4, ![4, 16, 256, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bitsLt_bf16_f32 : FTy.bits .bf16 < FTy.bits .f32
  bcast_S_S4x16x256x1024 : S_.BroadcastsInDim S4x16x256x1024 (![] : Fin 0 → Fin S4x16x256x1024.rank)
  reducesTo_S4x16x256x1024_S_d0_1_2_3 : S4x16x256x1024.ReducesTo [0, 1, 2, 3] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024x5632 : S_.BroadcastsInDim S4x1024x5632 (![] : Fin 0 → Fin S4x1024x5632.rank)
  reducesTo_S4x1024x5632_S_d0_1_2 : S4x1024x5632.ReducesTo [0, 1, 2] S_
  bcast_S_S4x2816x1024 : S_.BroadcastsInDim S4x2816x1024 (![] : Fin 0 → Fin S4x2816x1024.rank)
  reducesTo_S4x2816x1024_S_d0_1_2 : S4x2816x1024.ReducesTo [0, 1, 2] S_

variable [Facts]

def fn_part3 {F : FTy → Type} [FloatOps F] (main_arg10 : FVec F S4x1024x1024 .f32) (main_arg11 : FVec F S4x1024x5632 .f32) (main_arg12 : FVec F S4x2816x1024 .f32) (main_v46 : IVec S_ 1) (main_v50 : IVec S_ 1) : IVec S_ 1 :=
  let main_v51 : IVec S_ 1 := andi main_v46 main_v50
  let main_v52 : FVec F S4x1024x1024 .f32 := Host.absf main_arg10
  let main_cst_19 : FVec F S_ .f32 := constant S_ .f32 0x7F800000#32
  let main_v53 : FVec F S4x1024x1024 .f32 := broadcastInDim S4x1024x1024 ![] bcast_S_S4x1024x1024 main_cst_19
  let main_v54 : IVec S4x1024x1024 1 := cmpf .olt main_v52 main_v53
  let main_c_20 : IVec S_ 1 := constantI S_ 1 1#1
  let main_v55 : IVec S_ 1 := (fun x v => Host.reduce IntOp.andi x v reducesTo_S4x1024x1024_S_d0_1_2 h_S_) main_v54 main_c_20
  let main_v56 : IVec S_ 1 := andi main_v51 main_v55
  let main_v57 : FVec F S4x1024x5632 .f32 := Host.absf main_arg11
  let main_cst_21 : FVec F S_ .f32 := constant S_ .f32 0x7F800000#32
  let main_v58 : FVec F S4x1024x5632 .f32 := broadcastInDim S4x1024x5632 ![] bcast_S_S4x1024x5632 main_cst_21
  let main_v59 : IVec S4x1024x5632 1 := cmpf .olt main_v57 main_v58
  let main_c_22 : IVec S_ 1 := constantI S_ 1 1#1
  let main_v60 : IVec S_ 1 := (fun x v => Host.reduce IntOp.andi x v reducesTo_S4x1024x5632_S_d0_1_2 h_S_) main_v59 main_c_22
  let main_v61 : IVec S_ 1 := andi main_v56 main_v60
  let main_v62 : FVec F S4x2816x1024 .f32 := Host.absf main_arg12
  let main_cst_23 : FVec F S_ .f32 := constant S_ .f32 0x7F800000#32
  let main_v63 : FVec F S4x2816x1024 .f32 := broadcastInDim S4x2816x1024 ![] bcast_S_S4x2816x1024 main_cst_23
  let main_v64 : IVec S4x2816x1024 1 := cmpf .olt main_v62 main_v63
  let main_c_24 : IVec S_ 1 := constantI S_ 1 1#1
  let main_v65 : IVec S_ 1 := (fun x v => Host.reduce IntOp.andi x v reducesTo_S4x2816x1024_S_d0_1_2 h_S_) main_v64 main_c_24
  let main_v66 : IVec S_ 1 := andi main_v61 main_v65
  main_v66

def fn_part2 {F : FTy → Type} [FloatOps F] (main_arg7 : FVec F S4x16x256x1024 .bf16) (main_arg8 : FVec F S4x16x256x1024 .bf16) (main_arg9 : FVec F S4x1024x1024 .f32) (main_arg10 : FVec F S4x1024x1024 .f32) (main_arg11 : FVec F S4x1024x5632 .f32) (main_arg12 : FVec F S4x2816x1024 .f32) (main_v29 : IVec S_ 1) (main_v32 : IVec S4x1024 1) (main_c_12 : IVec S_ 1) : IVec S_ 1 :=
  let main_v33 : IVec S_ 1 := (fun x v => Host.reduce IntOp.andi x v reducesTo_S4x1024_S_d0_1 h_S_) main_v32 main_c_12
  let main_v34 : IVec S_ 1 := andi main_v29 main_v33
  let main_v35 : FVec F S4x16x256x1024 .f32 := (extf .f32 · bitsLt_bf16_f32) main_arg7
  let main_v36 : FVec F S4x16x256x1024 .f32 := Host.absf main_v35
  let main_cst_13 : FVec F S_ .f32 := constant S_ .f32 0x7F800000#32
  let main_v37 : FVec F S4x16x256x1024 .f32 := broadcastInDim S4x16x256x1024 ![] bcast_S_S4x16x256x1024 main_cst_13
  let main_v38 : IVec S4x16x256x1024 1 := cmpf .olt main_v36 main_v37
  let main_c_14 : IVec S_ 1 := constantI S_ 1 1#1
  let main_v39 : IVec S_ 1 := (fun x v => Host.reduce IntOp.andi x v reducesTo_S4x16x256x1024_S_d0_1_2_3 h_S_) main_v38 main_c_14
  let main_v40 : IVec S_ 1 := andi main_v34 main_v39
  let main_v41 : FVec F S4x16x256x1024 .f32 := (extf .f32 · bitsLt_bf16_f32) main_arg8
  let main_v42 : FVec F S4x16x256x1024 .f32 := Host.absf main_v41
  let main_cst_15 : FVec F S_ .f32 := constant S_ .f32 0x7F800000#32
  let main_v43 : FVec F S4x16x256x1024 .f32 := broadcastInDim S4x16x256x1024 ![] bcast_S_S4x16x256x1024 main_cst_15
  let main_v44 : IVec S4x16x256x1024 1 := cmpf .olt main_v42 main_v43
  let main_c_16 : IVec S_ 1 := constantI S_ 1 1#1
  let main_v45 : IVec S_ 1 := (fun x v => Host.reduce IntOp.andi x v reducesTo_S4x16x256x1024_S_d0_1_2_3 h_S_) main_v44 main_c_16
  let main_v46 : IVec S_ 1 := andi main_v40 main_v45
  let main_v47 : FVec F S4x1024x1024 .f32 := Host.absf main_arg9
  let main_cst_17 : FVec F S_ .f32 := constant S_ .f32 0x7F800000#32
  let main_v48 : FVec F S4x1024x1024 .f32 := broadcastInDim S4x1024x1024 ![] bcast_S_S4x1024x1024 main_cst_17
  let main_v49 : IVec S4x1024x1024 1 := cmpf .olt main_v47 main_v48
  let main_c_18 : IVec S_ 1 := constantI S_ 1 1#1
  let main_v50 : IVec S_ 1 := (fun x v => Host.reduce IntOp.andi x v reducesTo_S4x1024x1024_S_d0_1_2 h_S_) main_v49 main_c_18
  fn_part3 (F := F) main_arg10 main_arg11 main_arg12 main_v46 main_v50

def fn_part1 {F : FTy → Type} [FloatOps F] (main_arg4 : FVec F S4x1024 .f32) (main_arg5 : FVec F S4x1024 .f32) (main_arg6 : FVec F S4x1024 .f32) (main_arg7 : FVec F S4x16x256x1024 .bf16) (main_arg8 : FVec F S4x16x256x1024 .bf16) (main_arg9 : FVec F S4x1024x1024 .f32) (main_arg10 : FVec F S4x1024x1024 .f32) (main_arg11 : FVec F S4x1024x5632 .f32) (main_arg12 : FVec F S4x2816x1024 .f32) (main_v14 : IVec S_ 1) (main_v15 : FVec F S4x1024 .f32) (main_cst_5 : FVec F S_ .f32) : IVec S_ 1 :=
  let main_v16 : FVec F S4x1024 .f32 := broadcastInDim S4x1024 ![] bcast_S_S4x1024 main_cst_5
  let main_v17 : IVec S4x1024 1 := cmpf .olt main_v15 main_v16
  let main_c_6 : IVec S_ 1 := constantI S_ 1 1#1
  let main_v18 : IVec S_ 1 := (fun x v => Host.reduce IntOp.andi x v reducesTo_S4x1024_S_d0_1 h_S_) main_v17 main_c_6
  let main_v19 : IVec S_ 1 := andi main_v14 main_v18
  let main_v20 : FVec F S4x1024 .f32 := Host.absf main_arg4
  let main_cst_7 : FVec F S_ .f32 := constant S_ .f32 0x7F800000#32
  let main_v21 : FVec F S4x1024 .f32 := broadcastInDim S4x1024 ![] bcast_S_S4x1024 main_cst_7
  let main_v22 : IVec S4x1024 1 := cmpf .olt main_v20 main_v21
  let main_c_8 : IVec S_ 1 := constantI S_ 1 1#1
  let main_v23 : IVec S_ 1 := (fun x v => Host.reduce IntOp.andi x v reducesTo_S4x1024_S_d0_1 h_S_) main_v22 main_c_8
  let main_v24 : IVec S_ 1 := andi main_v19 main_v23
  let main_v25 : FVec F S4x1024 .f32 := Host.absf main_arg5
  let main_cst_9 : FVec F S_ .f32 := constant S_ .f32 0x7F800000#32
  let main_v26 : FVec F S4x1024 .f32 := broadcastInDim S4x1024 ![] bcast_S_S4x1024 main_cst_9
  let main_v27 : IVec S4x1024 1 := cmpf .olt main_v25 main_v26
  let main_c_10 : IVec S_ 1 := constantI S_ 1 1#1
  let main_v28 : IVec S_ 1 := (fun x v => Host.reduce IntOp.andi x v reducesTo_S4x1024_S_d0_1 h_S_) main_v27 main_c_10
  let main_v29 : IVec S_ 1 := andi main_v24 main_v28
  let main_v30 : FVec F S4x1024 .f32 := Host.absf main_arg6
  let main_cst_11 : FVec F S_ .f32 := constant S_ .f32 0x7F800000#32
  let main_v31 : FVec F S4x1024 .f32 := broadcastInDim S4x1024 ![] bcast_S_S4x1024 main_cst_11
  let main_v32 : IVec S4x1024 1 := cmpf .olt main_v30 main_v31
  let main_c_12 : IVec S_ 1 := constantI S_ 1 1#1
  fn_part2 (F := F) main_arg7 main_arg8 main_arg9 main_arg10 main_arg11 main_arg12 main_v29 main_v32 main_c_12

def fn {F : FTy → Type} [FloatOps F] (main_arg0 : FVec F S16x4096x1024 .f32) (main_arg1 : FVec F S16x4096x1024 .f32) (main_arg2 : FVec F S4x1024 .f32) (main_arg3 : FVec F S4x1024 .f32) (main_arg4 : FVec F S4x1024 .f32) (main_arg5 : FVec F S4x1024 .f32) (main_arg6 : FVec F S4x1024 .f32) (main_arg7 : FVec F S4x16x256x1024 .bf16) (main_arg8 : FVec F S4x16x256x1024 .bf16) (main_arg9 : FVec F S4x1024x1024 .f32) (main_arg10 : FVec F S4x1024x1024 .f32) (main_arg11 : FVec F S4x1024x5632 .f32) (main_arg12 : FVec F S4x2816x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_c_0 : IVec S_ 1 := constantI S_ 1 1#1
  let main_v4 : IVec S_ 1 := andi main_c_0 main_v3
  let main_v5 : FVec F S16x4096x1024 .f32 := Host.absf main_arg1
  let main_cst_1 : FVec F S_ .f32 := constant S_ .f32 0x7F800000#32
  let main_v6 : FVec F S16x4096x1024 .f32 := broadcastInDim S16x4096x1024 ![] bcast_S_S16x4096x1024 main_cst_1
  let main_v7 : IVec S16x4096x1024 1 := cmpf .olt main_v5 main_v6
  let main_c_2 : IVec S_ 1 := constantI S_ 1 1#1
  let main_v8 : IVec S_ 1 := (fun x v => Host.reduce IntOp.andi x v reducesTo_S16x4096x1024_S_d0_1_2 h_S_) main_v7 main_c_2
  let main_v9 : IVec S_ 1 := andi main_v4 main_v8
  let main_v10 : FVec F S4x1024 .f32 := Host.absf main_arg2
  let main_cst_3 : FVec F S_ .f32 := constant S_ .f32 0x7F800000#32
  let main_v11 : FVec F S4x1024 .f32 := broadcastInDim S4x1024 ![] bcast_S_S4x1024 main_cst_3
  let main_v12 : IVec S4x1024 1 := cmpf .olt main_v10 main_v11
  let main_c_4 : IVec S_ 1 := constantI S_ 1 1#1
  let main_v13 : IVec S_ 1 := (fun x v => Host.reduce IntOp.andi x v reducesTo_S4x1024_S_d0_1 h_S_) main_v12 main_c_4
  let main_v14 : IVec S_ 1 := andi main_v9 main_v13
  let main_v15 : FVec F S4x1024 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_v14 main_v15 main_cst_5
-- ==== Pre_all_finite2.lean ====
abbrev S16x4096x1024 : Shape := ⟨3, ![16, 4096, 1024]⟩
abbrev S1x1024x1024 : Shape := ⟨3, ![1, 1024, 1024]⟩
abbrev S4x1024 : Shape := ⟨2, ![4, 1024]⟩
abbrev S4x16x256x1024 : Shape := ⟨4, ![4, 16, 256, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bitsLt_bf16_f32 : FTy.bits .bf16 < FTy.bits .f32
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S4x1024 : S_.BroadcastsInDim S4x1024 (![] : Fin 0 → Fin S4x1024.rank)
  reducesTo_S4x1024_S_d0_1 : S4x1024.ReducesTo [0, 1] S_
  bcast_S_S4x16x256x1024 : S_.BroadcastsInDim S4x16x256x1024 (![] : Fin 0 → Fin S4x16x256x1024.rank)
  reducesTo_S4x16x256x1024_S_d0_1_2_3 : S4x16x256x1024.ReducesTo [0, 1, 2, 3] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024x5632 : S_.BroadcastsInDim S4x1024x5632 (![] : Fin 0 → Fin S4x1024x5632.rank)
  reducesTo_S4x1024x5632_S_d0_1_2 : S4x1024x5632.ReducesTo [0, 1, 2] S_
  bcast_S_S4x2816x1024 : S_.BroadcastsInDim S4x2816x1024 (![] : Fin 0 → Fin S4x2816x1024.rank)
  reducesTo_S4x2816x1024_S_d0_1_2 : S4x2816x1024.ReducesTo [0, 1, 2] S_

variable [Facts]

def fn_part4 {F : FTy → Type} [FloatOps F] (main_v67 : IVec S_ 1) (main_v68 : FVec F S4x2816x1024 .f32) : IVec S_ 1 :=
  let main_cst_25 : FVec F S_ .f32 := constant S_ .f32 0x7F800000#32
  let main_v69 : FVec F S4x2816x1024 .f32 := broadcastInDim S4x2816x1024 ![] bcast_S_S4x2816x1024 main_cst_25
  let main_v70 : IVec S4x2816x1024 1 := cmpf .olt main_v68 main_v69
  let main_c_26 : IVec S_ 1 := constantI S_ 1 1#1
  let main_v71 : IVec S_ 1 := (fun x v => Host.reduce IntOp.andi x v reducesTo_S4x2816x1024_S_d0_1_2 h_S_) main_v70 main_c_26
  let main_v72 : IVec S_ 1 := andi main_v67 main_v71
  main_v72

def fn_part3 {F : FTy → Type} [FloatOps F] (main_arg10 : FVec F S4x1024x1024 .f32) (main_arg11 : FVec F S4x1024x1024 .f32) (main_arg12 : FVec F S4x1024x5632 .f32) (main_arg13 : FVec F S4x2816x1024 .f32) (main_v46 : IVec S_ 1) (main_v50 : IVec S4x16x256x1024 1) (main_c_18 : IVec S_ 1) : IVec S_ 1 :=
  let main_v51 : IVec S_ 1 := (fun x v => Host.reduce IntOp.andi x v reducesTo_S4x16x256x1024_S_d0_1_2_3 h_S_) main_v50 main_c_18
  let main_v52 : IVec S_ 1 := andi main_v46 main_v51
  let main_v53 : FVec F S4x1024x1024 .f32 := Host.absf main_arg10
  let main_cst_19 : FVec F S_ .f32 := constant S_ .f32 0x7F800000#32
  let main_v54 : FVec F S4x1024x1024 .f32 := broadcastInDim S4x1024x1024 ![] bcast_S_S4x1024x1024 main_cst_19
  let main_v55 : IVec S4x1024x1024 1 := cmpf .olt main_v53 main_v54
  let main_c_20 : IVec S_ 1 := constantI S_ 1 1#1
  let main_v56 : IVec S_ 1 := (fun x v => Host.reduce IntOp.andi x v reducesTo_S4x1024x1024_S_d0_1_2 h_S_) main_v55 main_c_20
  let main_v57 : IVec S_ 1 := andi main_v52 main_v56
  let main_v58 : FVec F S4x1024x1024 .f32 := Host.absf main_arg11
  let main_cst_21 : FVec F S_ .f32 := constant S_ .f32 0x7F800000#32
  let main_v59 : FVec F S4x1024x1024 .f32 := broadcastInDim S4x1024x1024 ![] bcast_S_S4x1024x1024 main_cst_21
  let main_v60 : IVec S4x1024x1024 1 := cmpf .olt main_v58 main_v59
  let main_c_22 : IVec S_ 1 := constantI S_ 1 1#1
  let main_v61 : IVec S_ 1 := (fun x v => Host.reduce IntOp.andi x v reducesTo_S4x1024x1024_S_d0_1_2 h_S_) main_v60 main_c_22
  let main_v62 : IVec S_ 1 := andi main_v57 main_v61
  let main_v63 : FVec F S4x1024x5632 .f32 := Host.absf main_arg12
  let main_cst_23 : FVec F S_ .f32 := constant S_ .f32 0x7F800000#32
  let main_v64 : FVec F S4x1024x5632 .f32 := broadcastInDim S4x1024x5632 ![] bcast_S_S4x1024x5632 main_cst_23
  let main_v65 : IVec S4x1024x5632 1 := cmpf .olt main_v63 main_v64
  let main_c_24 : IVec S_ 1 := constantI S_ 1 1#1
  let main_v66 : IVec S_ 1 := (fun x v => Host.reduce IntOp.andi x v reducesTo_S4x1024x5632_S_d0_1_2 h_S_) main_v65 main_c_24
  let main_v67 : IVec S_ 1 := andi main_v62 main_v66
  let main_v68 : FVec F S4x2816x1024 .f32 := Host.absf main_arg13
  fn_part4 (F := F) main_v67 main_v68

def fn_part2 {F : FTy → Type} [FloatOps F] (main_arg7 : FVec F S4x1024 .f32) (main_arg8 : FVec F S4x16x256x1024 .bf16) (main_arg9 : FVec F S4x16x256x1024 .bf16) (main_arg10 : FVec F S4x1024x1024 .f32) (main_arg11 : FVec F S4x1024x1024 .f32) (main_arg12 : FVec F S4x1024x5632 .f32) (main_arg13 : FVec F S4x2816x1024 .f32) (main_v30 : IVec S_ 1) (main_v33 : IVec S4x1024 1) : IVec S_ 1 :=
  let main_c_12 : IVec S_ 1 := constantI S_ 1 1#1
  let main_v34 : IVec S_ 1 := (fun x v => Host.reduce IntOp.andi x v reducesTo_S4x1024_S_d0_1 h_S_) main_v33 main_c_12
  let main_v35 : IVec S_ 1 := andi main_v30 main_v34
  let main_v36 : FVec F S4x1024 .f32 := Host.absf main_arg7
  let main_cst_13 : FVec F S_ .f32 := constant S_ .f32 0x7F800000#32
  let main_v37 : FVec F S4x1024 .f32 := broadcastInDim S4x1024 ![] bcast_S_S4x1024 main_cst_13
  let main_v38 : IVec S4x1024 1 := cmpf .olt main_v36 main_v37
  let main_c_14 : IVec S_ 1 := constantI S_ 1 1#1
  let main_v39 : IVec S_ 1 := (fun x v => Host.reduce IntOp.andi x v reducesTo_S4x1024_S_d0_1 h_S_) main_v38 main_c_14
  let main_v40 : IVec S_ 1 := andi main_v35 main_v39
  let main_v41 : FVec F S4x16x256x1024 .f32 := (extf .f32 · bitsLt_bf16_f32) main_arg8
  let main_v42 : FVec F S4x16x256x1024 .f32 := Host.absf main_v41
  let main_cst_15 : FVec F S_ .f32 := constant S_ .f32 0x7F800000#32
  let main_v43 : FVec F S4x16x256x1024 .f32 := broadcastInDim S4x16x256x1024 ![] bcast_S_S4x16x256x1024 main_cst_15
  let main_v44 : IVec S4x16x256x1024 1 := cmpf .olt main_v42 main_v43
  let main_c_16 : IVec S_ 1 := constantI S_ 1 1#1
  let main_v45 : IVec S_ 1 := (fun x v => Host.reduce IntOp.andi x v reducesTo_S4x16x256x1024_S_d0_1_2_3 h_S_) main_v44 main_c_16
  let main_v46 : IVec S_ 1 := andi main_v40 main_v45
  let main_v47 : FVec F S4x16x256x1024 .f32 := (extf .f32 · bitsLt_bf16_f32) main_arg9
  let main_v48 : FVec F S4x16x256x1024 .f32 := Host.absf main_v47
  let main_cst_17 : FVec F S_ .f32 := constant S_ .f32 0x7F800000#32
  let main_v49 : FVec F S4x16x256x1024 .f32 := broadcastInDim S4x16x256x1024 ![] bcast_S_S4x16x256x1024 main_cst_17
  let main_v50 : IVec S4x16x256x1024 1 := cmpf .olt main_v48 main_v49
  let main_c_18 : IVec S_ 1 := constantI S_ 1 1#1
  fn_part3 (F := F) main_arg10 main_arg11 main_arg12 main_arg13 main_v46 main_v50 main_c_18

def fn_part1 {F : FTy → Type} [FloatOps F] (main_arg4 : FVec F S4x1024 .f32) (main_arg5 : FVec F S4x1024 .f32) (main_arg6 : FVec F S4x1024 .f32) (main_arg7 : FVec F S4x1024 .f32) (main_arg8 : FVec F S4x16x256x1024 .bf16) (main_arg9 : FVec F S4x16x256x1024 .bf16) (main_arg10 : FVec F S4x1024x1024 .f32) (main_arg11 : FVec F S4x1024x1024 .f32) (main_arg12 : FVec F S4x1024x5632 .f32) (main_arg13 : FVec F S4x2816x1024 .f32) (main_v15 : IVec S_ 1) (main_v16 : FVec F S4x1024 .f32) : IVec S_ 1 :=
  let main_cst_5 : FVec F S_ .f32 := constant S_ .f32 0x7F800000#32
  let main_v17 : FVec F S4x1024 .f32 := broadcastInDim S4x1024 ![] bcast_S_S4x1024 main_cst_5
  let main_v18 : IVec S4x1024 1 := cmpf .olt main_v16 main_v17
  let main_c_6 : IVec S_ 1 := constantI S_ 1 1#1
  let main_v19 : IVec S_ 1 := (fun x v => Host.reduce IntOp.andi x v reducesTo_S4x1024_S_d0_1 h_S_) main_v18 main_c_6
  let main_v20 : IVec S_ 1 := andi main_v15 main_v19
  let main_v21 : FVec F S4x1024 .f32 := Host.absf main_arg4
  let main_cst_7 : FVec F S_ .f32 := constant S_ .f32 0x7F800000#32
  let main_v22 : FVec F S4x1024 .f32 := broadcastInDim S4x1024 ![] bcast_S_S4x1024 main_cst_7
  let main_v23 : IVec S4x1024 1 := cmpf .olt main_v21 main_v22
  let main_c_8 : IVec S_ 1 := constantI S_ 1 1#1
  let main_v24 : IVec S_ 1 := (fun x v => Host.reduce IntOp.andi x v reducesTo_S4x1024_S_d0_1 h_S_) main_v23 main_c_8
  let main_v25 : IVec S_ 1 := andi main_v20 main_v24
  let main_v26 : FVec F S4x1024 .f32 := Host.absf main_arg5
  let main_cst_9 : FVec F S_ .f32 := constant S_ .f32 0x7F800000#32
  let main_v27 : FVec F S4x1024 .f32 := broadcastInDim S4x1024 ![] bcast_S_S4x1024 main_cst_9
  let main_v28 : IVec S4x1024 1 := cmpf .olt main_v26 main_v27
  let main_c_10 : IVec S_ 1 := constantI S_ 1 1#1
  let main_v29 : IVec S_ 1 := (fun x v => Host.reduce IntOp.andi x v reducesTo_S4x1024_S_d0_1 h_S_) main_v28 main_c_10
  let main_v30 : IVec S_ 1 := andi main_v25 main_v29
  let main_v31 : FVec F S4x1024 .f32 := Host.absf main_arg6
  let main_cst_11 : FVec F S_ .f32 := constant S_ .f32 0x7F800000#32
  let main_v32 : FVec F S4x1024 .f32 := broadcastInDim S4x1024 ![] bcast_S_S4x1024 main_cst_11
  let main_v33 : IVec S4x1024 1 := cmpf .olt main_v31 main_v32
  fn_part2 (F := F) main_arg7 main_arg8 main_arg9 main_arg10 main_arg11 main_arg12 main_arg13 main_v30 main_v33

def fn {F : FTy → Type} [FloatOps F] (main_arg0 : FVec F S16x4096x1024 .f32) (main_arg1 : FVec F S16x4096x1024 .bf16) (main_arg2 : FVec F S1x1024x1024 .f32) (main_arg3 : FVec F S4x1024 .f32) (main_arg4 : FVec F S4x1024 .f32) (main_arg5 : FVec F S4x1024 .f32) (main_arg6 : FVec F S4x1024 .f32) (main_arg7 : FVec F S4x1024 .f32) (main_arg8 : FVec F S4x16x256x1024 .bf16) (main_arg9 : FVec F S4x16x256x1024 .bf16) (main_arg10 : FVec F S4x1024x1024 .f32) (main_arg11 : FVec F S4x1024x1024 .f32) (main_arg12 : FVec F S4x1024x5632 .f32) (main_arg13 : FVec F S4x2816x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_c_0 : IVec S_ 1 := constantI S_ 1 1#1
  let main_v4 : IVec S_ 1 := andi main_c_0 main_v3
  let main_v5 : FVec F S16x4096x1024 .f32 := (extf .f32 · bitsLt_bf16_f32) main_arg1
  let main_v6 : FVec F S16x4096x1024 .f32 := Host.absf main_v5
  let main_cst_1 : FVec F S_ .f32 := constant S_ .f32 0x7F800000#32
  let main_v7 : FVec F S16x4096x1024 .f32 := broadcastInDim S16x4096x1024 ![] bcast_S_S16x4096x1024 main_cst_1
  let main_v8 : IVec S16x4096x1024 1 := cmpf .olt main_v6 main_v7
  let main_c_2 : IVec S_ 1 := constantI S_ 1 1#1
  let main_v9 : IVec S_ 1 := (fun x v => Host.reduce IntOp.andi x v reducesTo_S16x4096x1024_S_d0_1_2 h_S_) main_v8 main_c_2
  let main_v10 : IVec S_ 1 := andi main_v4 main_v9
  let main_v11 : FVec F S1x1024x1024 .f32 := Host.absf main_arg2
  let main_cst_3 : FVec F S_ .f32 := constant S_ .f32 0x7F800000#32
  let main_v12 : FVec F S1x1024x1024 .f32 := broadcastInDim S1x1024x1024 ![] bcast_S_S1x1024x1024 main_cst_3
  let main_v13 : IVec S1x1024x1024 1 := cmpf .olt main_v11 main_v12
  let main_c_4 : IVec S_ 1 := constantI S_ 1 1#1
  let main_v14 : IVec S_ 1 := (fun x v => Host.reduce IntOp.andi x v reducesTo_S1x1024x1024_S_d0_1_2 h_S_) main_v13 main_c_4
  let main_v15 : IVec S_ 1 := andi main_v10 main_v14
  let main_v16 : FVec F S4x1024 .f32 := Host.absf main_arg3
  fn_part1 (F := F) main_arg4 main_arg5 main_arg6 main_arg7 main_arg8 main_arg9 main_arg10 main_arg11 main_arg12 main_arg13 main_v15 main_v16
-- ==== Pre_all_finite3.lean ====
abbrev S16x4096x1024 : Shape := ⟨3, ![16, 4096, 1024]⟩
abbrev S16x4096x2048 : Shape := ⟨3, ![16, 4096, 2048]⟩
abbrev S1x2048x1024 : Shape := ⟨3, ![1, 2048, 1024]⟩
abbrev S4x1024 : Shape := ⟨2, ![4, 1024]⟩
abbrev S4x16x256x1024 : Shape := ⟨4, ![4, 16, 256, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x4096x2048 : S_.BroadcastsInDim S16x4096x2048 (![] : Fin 0 → Fin S16x4096x2048.rank)
  reducesTo_S16x4096x2048_S_d0_1_2 : S16x4096x2048.ReducesTo [0, 1, 2] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S4x1024 : S_.BroadcastsInDim S4x1024 (![] : Fin 0 → Fin S4x1024.rank)
  reducesTo_S4x1024_S_d0_1 : S4x1024.ReducesTo [0, 1] S_
  bitsLt_bf16_f32 : FTy.bits .bf16 < FTy.bits .f32
  bcast_S_S4x16x256x1024 : S_.BroadcastsInDim S4x16x256x1024 (![] : Fin 0 → Fin S4x16x256x1024.rank)
  reducesTo_S4x16x256x1024_S_d0_1_2_3 : S4x16x256x1024.ReducesTo [0, 1, 2, 3] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x1024x5632 : S_.BroadcastsInDim S4x1024x5632 (![] : Fin 0 → Fin S4x1024x5632.rank)
  reducesTo_S4x1024x5632_S_d0_1_2 : S4x1024x5632.ReducesTo [0, 1, 2] S_
  bcast_S_S4x2816x1024 : S_.BroadcastsInDim S4x2816x1024 (![] : Fin 0 → Fin S4x2816x1024.rank)
  reducesTo_S4x2816x1024_S_d0_1_2 : S4x2816x1024.ReducesTo [0, 1, 2] S_

variable [Facts]

def fn_part4 {F : FTy → Type} [FloatOps F] (main_v66 : IVec S_ 1) (main_v67 : FVec F S4x2816x1024 .f32) (main_cst_25 : FVec F S_ .f32) : IVec S_ 1 :=
  let main_v68 : FVec F S4x2816x1024 .f32 := broadcastInDim S4x2816x1024 ![] bcast_S_S4x2816x1024 main_cst_25
  let main_v69 : IVec S4x2816x1024 1 := cmpf .olt main_v67 main_v68
  let main_c_26 : IVec S_ 1 := constantI S_ 1 1#1
  let main_v70 : IVec S_ 1 := (fun x v => Host.reduce IntOp.andi x v reducesTo_S4x2816x1024_S_d0_1_2 h_S_) main_v69 main_c_26
  let main_v71 : IVec S_ 1 := andi main_v66 main_v70
  main_v71

def fn_part3 {F : FTy → Type} [FloatOps F] (main_arg10 : FVec F S4x1024x1024 .f32) (main_arg11 : FVec F S4x1024x1024 .f32) (main_arg12 : FVec F S4x1024x5632 .f32) (main_arg13 : FVec F S4x2816x1024 .f32) (main_v45 : IVec S_ 1) (main_v50 : IVec S_ 1) : IVec S_ 1 :=
  let main_v51 : IVec S_ 1 := andi main_v45 main_v50
  let main_v52 : FVec F S4x1024x1024 .f32 := Host.absf main_arg10
  let main_cst_19 : FVec F S_ .f32 := constant S_ .f32 0x7F800000#32
  let main_v53 : FVec F S4x1024x1024 .f32 := broadcastInDim S4x1024x1024 ![] bcast_S_S4x1024x1024 main_cst_19
  let main_v54 : IVec S4x1024x1024 1 := cmpf .olt main_v52 main_v53
  let main_c_20 : IVec S_ 1 := constantI S_ 1 1#1
  let main_v55 : IVec S_ 1 := (fun x v => Host.reduce IntOp.andi x v reducesTo_S4x1024x1024_S_d0_1_2 h_S_) main_v54 main_c_20
  let main_v56 : IVec S_ 1 := andi main_v51 main_v55
  let main_v57 : FVec F S4x1024x1024 .f32 := Host.absf main_arg11
  let main_cst_21 : FVec F S_ .f32 := constant S_ .f32 0x7F800000#32
  let main_v58 : FVec F S4x1024x1024 .f32 := broadcastInDim S4x1024x1024 ![] bcast_S_S4x1024x1024 main_cst_21
  let main_v59 : IVec S4x1024x1024 1 := cmpf .olt main_v57 main_v58
  let main_c_22 : IVec S_ 1 := constantI S_ 1 1#1
  let main_v60 : IVec S_ 1 := (fun x v => Host.reduce IntOp.andi x v reducesTo_S4x1024x1024_S_d0_1_2 h_S_) main_v59 main_c_22
  let main_v61 : IVec S_ 1 := andi main_v56 main_v60
  let main_v62 : FVec F S4x1024x5632 .f32 := Host.absf main_arg12
  let main_cst_23 : FVec F S_ .f32 := constant S_ .f32 0x7F800000#32
  let main_v63 : FVec F S4x1024x5632 .f32 := broadcastInDim S4x1024x5632 ![] bcast_S_S4x1024x5632 main_cst_23
  let main_v64 : IVec S4x1024x5632 1 := cmpf .olt main_v62 main_v63
  let main_c_24 : IVec S_ 1 := constantI S_ 1 1#1
  let main_v65 : IVec S_ 1 := (fun x v => Host.reduce IntOp.andi x v reducesTo_S4x1024x5632_S_d0_1_2 h_S_) main_v64 main_c_24
  let main_v66 : IVec S_ 1 := andi main_v61 main_v65
  let main_v67 : FVec F S4x2816x1024 .f32 := Host.absf main_arg13
  let main_cst_25 : FVec F S_ .f32 := constant S_ .f32 0x7F800000#32
  fn_part4 (F := F) main_v66 main_v67 main_cst_25

def fn_part2 {F : FTy → Type} [FloatOps F] (main_arg7 : FVec F S4x1024 .f32) (main_arg8 : FVec F S4x16x256x1024 .bf16) (main_arg9 : FVec F S4x16x256x1024 .bf16) (main_arg10 : FVec F S4x1024x1024 .f32) (main_arg11 : FVec F S4x1024x1024 .f32) (main_arg12 : FVec F S4x1024x5632 .f32) (main_arg13 : FVec F S4x2816x1024 .f32) (main_v29 : IVec S_ 1) (main_v32 : IVec S4x1024 1) (main_c_12 : IVec S_ 1) : IVec S_ 1 :=
  let main_v33 : IVec S_ 1 := (fun x v => Host.reduce IntOp.andi x v reducesTo_S4x1024_S_d0_1 h_S_) main_v32 main_c_12
  let main_v34 : IVec S_ 1 := andi main_v29 main_v33
  let main_v35 : FVec F S4x1024 .f32 := Host.absf main_arg7
  let main_cst_13 : FVec F S_ .f32 := constant S_ .f32 0x7F800000#32
  let main_v36 : FVec F S4x1024 .f32 := broadcastInDim S4x1024 ![] bcast_S_S4x1024 main_cst_13
  let main_v37 : IVec S4x1024 1 := cmpf .olt main_v35 main_v36
  let main_c_14 : IVec S_ 1 := constantI S_ 1 1#1
  let main_v38 : IVec S_ 1 := (fun x v => Host.reduce IntOp.andi x v reducesTo_S4x1024_S_d0_1 h_S_) main_v37 main_c_14
  let main_v39 : IVec S_ 1 := andi main_v34 main_v38
  let main_v40 : FVec F S4x16x256x1024 .f32 := (extf .f32 · bitsLt_bf16_f32) main_arg8
  let main_v41 : FVec F S4x16x256x1024 .f32 := Host.absf main_v40
  let main_cst_15 : FVec F S_ .f32 := constant S_ .f32 0x7F800000#32
  let main_v42 : FVec F S4x16x256x1024 .f32 := broadcastInDim S4x16x256x1024 ![] bcast_S_S4x16x256x1024 main_cst_15
  let main_v43 : IVec S4x16x256x1024 1 := cmpf .olt main_v41 main_v42
  let main_c_16 : IVec S_ 1 := constantI S_ 1 1#1
  let main_v44 : IVec S_ 1 := (fun x v => Host.reduce IntOp.andi x v reducesTo_S4x16x256x1024_S_d0_1_2_3 h_S_) main_v43 main_c_16
  let main_v45 : IVec S_ 1 := andi main_v39 main_v44
  let main_v46 : FVec F S4x16x256x1024 .f32 := (extf .f32 · bitsLt_bf16_f32) main_arg9
  let main_v47 : FVec F S4x16x256x1024 .f32 := Host.absf main_v46
  let main_cst_17 : FVec F S_ .f32 := constant S_ .f32 0x7F800000#32
  let main_v48 : FVec F S4x16x256x1024 .f32 := broadcastInDim S4x16x256x1024 ![] bcast_S_S4x16x256x1024 main_cst_17
  let main_v49 : IVec S4x16x256x1024 1 := cmpf .olt main_v47 main_v48
  let main_c_18 : IVec S_ 1 := constantI S_ 1 1#1
  let main_v50 : IVec S_ 1 := (fun x v => Host.reduce IntOp.andi x v reducesTo_S4x16x256x1024_S_d0_1_2_3 h_S_) main_v49 main_c_18
  fn_part3 (F := F) main_arg10 main_arg11 main_arg12 main_arg13 main_v45 main_v50

def fn_part1 {F : FTy → Type} [FloatOps F] (main_arg4 : FVec F S4x1024 .f32) (main_arg5 : FVec F S4x1024 .f32) (main_arg6 : FVec F S4x1024 .f32) (main_arg7 : FVec F S4x1024 .f32) (main_arg8 : FVec F S4x16x256x1024 .bf16) (main_arg9 : FVec F S4x16x256x1024 .bf16) (main_arg10 : FVec F S4x1024x1024 .f32) (main_arg11 : FVec F S4x1024x1024 .f32) (main_arg12 : FVec F S4x1024x5632 .f32) (main_arg13 : FVec F S4x2816x1024 .f32) (main_v14 : IVec S_ 1) (main_v15 : FVec F S4x1024 .f32) (main_cst_5 : FVec F S_ .f32) : IVec S_ 1 :=
  let main_v16 : FVec F S4x1024 .f32 := broadcastInDim S4x1024 ![] bcast_S_S4x1024 main_cst_5
  let main_v17 : IVec S4x1024 1 := cmpf .olt main_v15 main_v16
  let main_c_6 : IVec S_ 1 := constantI S_ 1 1#1
  let main_v18 : IVec S_ 1 := (fun x v => Host.reduce IntOp.andi x v reducesTo_S4x1024_S_d0_1 h_S_) main_v17 main_c_6
  let main_v19 : IVec S_ 1 := andi main_v14 main_v18
  let main_v20 : FVec F S4x1024 .f32 := Host.absf main_arg4
  let main_cst_7 : FVec F S_ .f32 := constant S_ .f32 0x7F800000#32
  let main_v21 : FVec F S4x1024 .f32 := broadcastInDim S4x1024 ![] bcast_S_S4x1024 main_cst_7
  let main_v22 : IVec S4x1024 1 := cmpf .olt main_v20 main_v21
  let main_c_8 : IVec S_ 1 := constantI S_ 1 1#1
  let main_v23 : IVec S_ 1 := (fun x v => Host.reduce IntOp.andi x v reducesTo_S4x1024_S_d0_1 h_S_) main_v22 main_c_8
  let main_v24 : IVec S_ 1 := andi main_v19 main_v23
  let main_v25 : FVec F S4x1024 .f32 := Host.absf main_arg5
  let main_cst_9 : FVec F S_ .f32 := constant S_ .f32 0x7F800000#32
  let main_v26 : FVec F S4x1024 .f32 := broadcastInDim S4x1024 ![] bcast_S_S4x1024 main_cst_9
  let main_v27 : IVec S4x1024 1 := cmpf .olt main_v25 main_v26
  let main_c_10 : IVec S_ 1 := constantI S_ 1 1#1
  let main_v28 : IVec S_ 1 := (fun x v => Host.reduce IntOp.andi x v reducesTo_S4x1024_S_d0_1 h_S_) main_v27 main_c_10
  let main_v29 : IVec S_ 1 := andi main_v24 main_v28
  let main_v30 : FVec F S4x1024 .f32 := Host.absf main_arg6
  let main_cst_11 : FVec F S_ .f32 := constant S_ .f32 0x7F800000#32
  let main_v31 : FVec F S4x1024 .f32 := broadcastInDim S4x1024 ![] bcast_S_S4x1024 main_cst_11
  let main_v32 : IVec S4x1024 1 := cmpf .olt main_v30 main_v31
  let main_c_12 : IVec S_ 1 := constantI S_ 1 1#1
  fn_part2 (F := F) main_arg7 main_arg8 main_arg9 main_arg10 main_arg11 main_arg12 main_arg13 main_v29 main_v32 main_c_12

def fn {F : FTy → Type} [FloatOps F] (main_arg0 : FVec F S16x4096x1024 .f32) (main_arg1 : FVec F S16x4096x2048 .f32) (main_arg2 : FVec F S1x2048x1024 .f32) (main_arg3 : FVec F S4x1024 .f32) (main_arg4 : FVec F S4x1024 .f32) (main_arg5 : FVec F S4x1024 .f32) (main_arg6 : FVec F S4x1024 .f32) (main_arg7 : FVec F S4x1024 .f32) (main_arg8 : FVec F S4x16x256x1024 .bf16) (main_arg9 : FVec F S4x16x256x1024 .bf16) (main_arg10 : FVec F S4x1024x1024 .f32) (main_arg11 : FVec F S4x1024x1024 .f32) (main_arg12 : FVec F S4x1024x5632 .f32) (main_arg13 : FVec F S4x2816x1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_c_0 : IVec S_ 1 := constantI S_ 1 1#1
  let main_v4 : IVec S_ 1 := andi main_c_0 main_v3
  let main_v5 : FVec F S16x4096x2048 .f32 := Host.absf main_arg1
  let main_cst_1 : FVec F S_ .f32 := constant S_ .f32 0x7F800000#32
  let main_v6 : FVec F S16x4096x2048 .f32 := broadcastInDim S16x4096x2048 ![] bcast_S_S16x4096x2048 main_cst_1
  let main_v7 : IVec S16x4096x2048 1 := cmpf .olt main_v5 main_v6
  let main_c_2 : IVec S_ 1 := constantI S_ 1 1#1
  let main_v8 : IVec S_ 1 := (fun x v => Host.reduce IntOp.andi x v reducesTo_S16x4096x2048_S_d0_1_2 h_S_) main_v7 main_c_2
  let main_v9 : IVec S_ 1 := andi main_v4 main_v8
  let main_v10 : FVec F S1x2048x1024 .f32 := Host.absf main_arg2
  let main_cst_3 : FVec F S_ .f32 := constant S_ .f32 0x7F800000#32
  let main_v11 : FVec F S1x2048x1024 .f32 := broadcastInDim S1x2048x1024 ![] bcast_S_S1x2048x1024 main_cst_3
  let main_v12 : IVec S1x2048x1024 1 := cmpf .olt main_v10 main_v11
  let main_c_4 : IVec S_ 1 := constantI S_ 1 1#1
  let main_v13 : IVec S_ 1 := (fun x v => Host.reduce IntOp.andi x v reducesTo_S1x2048x1024_S_d0_1_2 h_S_) main_v12 main_c_4
  let main_v14 : IVec S_ 1 := andi main_v9 main_v13
  let main_v15 : FVec F S4x1024 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_arg13 main_v14 main_v15 main_cst_5
-- ==== Pre_all_finite6.lean ====
abbrev S16x4096x1024 : Shape := ⟨3, ![16, 4096, 1024]⟩
abbrev S4x1024 : Shape := ⟨2, ![4, 1024]⟩
abbrev S1x1024x6144 : Shape := ⟨3, ![1, 1024, 6144]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1x1024x6144 : S_.BroadcastsInDim S1x1024x6144 (![] : Fin 0 → Fin S1x1024x6144.rank)
  reducesTo_S1x1024x6144_S_d0_1_2 : S1x1024x6144.ReducesTo [0, 1, 2] S_

variable [Facts]

def fn {F : FTy → Type} [FloatOps F] (main_arg0 : FVec F S16x4096x1024 .f32) (main_arg1 : FVec F S4x1024 .f32) (main_arg2 : FVec F S1x1024x6144 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_c_0 : IVec S_ 1 := constantI S_ 1 1#1
  let main_v4 : IVec S_ 1 := andi main_c_0 main_v3
  let main_v5 : FVec F S4x1024 .f32 := Host.absf main_arg1
  let main_cst_1 : FVec F S_ .f32 := constant S_ .f32 0x7F800000#32
  let main_v6 : FVec F S4x1024 .f32 := broadcastInDim S4x1024 ![] bcast_S_S4x1024 main_cst_1
  let main_v7 : IVec S4x1024 1 := cmpf .olt main_v5 main_v6
  let main_c_2 : IVec S_ 1 := constantI S_ 1 1#1
  let main_v8 : IVec S_ 1 := (fun x v => Host.reduce IntOp.andi x v reducesTo_S4x1024_S_d0_1 h_S_) main_v7 main_c_2
  let main_v9 : IVec S_ 1 := andi main_v4 main_v8
  let main_v10 : FVec F S1x1024x6144 .f32 := Host.absf main_arg2
  let main_cst_3 : FVec F S_ .f32 := constant S_ .f32 0x7F800000#32
  let main_v11 : FVec F S1x1024x6144 .f32 := broadcastInDim S1x1024x6144 ![] bcast_S_S1x1024x6144 main_cst_3
  let main_v12 : IVec S1x1024x6144 1 := cmpf .olt main_v10 main_v11
  let main_c_4 : IVec S_ 1 := constantI S_ 1 1#1
  let main_v13 : IVec S_ 1 := (fun x v => Host.reduce IntOp.andi x v reducesTo_S1x1024x6144_S_d0_1_2 h_S_) main_v12 main_c_4
  let main_v14 : IVec S_ 1 := andi main_v9 main_v13
  main_v14
-- ==== Kernel.lean ====
abbrev S16x4096x1024 : Shape := ⟨3, ![16, 4096, 1024]⟩
abbrev S4x1024 : Shape := ⟨2, ![4, 1024]⟩
abbrev S4x16x256x1024 : Shape := ⟨4, ![4, 16, 256, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x1x1024 : Shape := ⟨3, ![4, 1, 1024]⟩
abbrev S65536x1024 : Shape := ⟨2, ![65536, 1024]⟩
abbrev S512x1024 : Shape := ⟨2, ![512, 1024]⟩
abbrev S1x1x1024 : Shape := ⟨3, ![1, 1, 1024]⟩
abbrev S1x1x256x1024 : Shape := ⟨4, ![1, 1, 256, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S2x512x1024 : Shape := ⟨3, ![2, 512, 1024]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1x1x256x256 : Shape := ⟨4, ![1, 1, 256, 256]⟩
abbrev S256x256 : Shape := ⟨2, ![256, 256]⟩

abbrev nBuf : Space → Nat
  | .hbm => 25
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x16x256x1024, .bf16⟩
  | .hbm, ⟨8, _⟩ => ⟨S4x16x256x1024, .bf16⟩
  | .hbm, ⟨9, _⟩ => ⟨S4x1024x1024, .f32⟩
  | .hbm, ⟨10, _⟩ => ⟨S4x1024x1024, .f32⟩
  | .hbm, ⟨11, _⟩ => ⟨S4x1024x5632, .f32⟩
  | .hbm, ⟨12, _⟩ => ⟨S4x2816x1024, .f32⟩
  | .hbm, ⟨13, _⟩ => ⟨S4x1024x1024, .bf16⟩
  | .hbm, ⟨14, _⟩ => ⟨S4x1024x1024, .bf16⟩
  | .hbm, ⟨15, _⟩ => ⟨S4x1024x5632, .bf16⟩
  | .hbm, ⟨16, _⟩ => ⟨S4x2816x1024, .bf16⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S65536x1024, .f32⟩
  | .hbm, ⟨23, _⟩ => ⟨S65536x1024, .f32⟩
  | .hbm, ⟨24, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x256x1024, .bf16⟩
  | .local _ .vmem, ⟨10, _⟩ => ⟨S1x1x256x1024, .bf16⟩
  | .local _ .vmem, ⟨11, _⟩ => ⟨S1x1x256x1024, .bf16⟩
  | .local _ .vmem, ⟨12, _⟩ => ⟨S1x1x256x1024, .bf16⟩
  | .local _ .vmem, ⟨13, _⟩ => ⟨S1x1024x1024, .bf16⟩
  | .local _ .vmem, ⟨14, _⟩ => ⟨S1x1024x1024, .bf16⟩
  | .local _ .vmem, ⟨15, _⟩ => ⟨S1x1024x5632, .bf16⟩
  | .local _ .vmem, ⟨16, _⟩ => ⟨S1x2816x1024, .bf16⟩
  | .local _ .vmem, ⟨17, _⟩ => ⟨S512x1024, .f32⟩
  | .local _ .vmem, ⟨18, _⟩ => ⟨S512x1024, .f32⟩
  | .local _ .vmem, ⟨19, _⟩ => ⟨S2x512x1024, .f32⟩
  | .local _ .vmem, ⟨20, _⟩ => ⟨S2x512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v14 : Index := Scalar.indexCast v10
  let c0 : Index := 0#32
  let c0_6 : Index := 0#32
  ![v14.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v349 : Index := Scalar.indexCast v9
  let c0_220 : Index := 0#32
  let c0_221 : Index := 0#32
  ![v349.toNat, 0, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_8 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  let c0_i32_7 : BitVec 32 := 0#32
  ![c0_i32_4.toNat, v17.toNat, c0_i32_5.toNat, c0_i32_6.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S16x4096x1024 : Shape := ⟨3, ![16, 4096, 1024]⟩
abbrev S4x1024 : Shape := ⟨2, ![4, 1024]⟩
abbrev S4x16x256x1024 : Shape := ⟨4, ![4, 16, 256, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S65536x1024 : Shape := ⟨2, ![65536, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024x1024 : Shape := ⟨3, ![1, 1024, 1024]⟩
abbrev S1024x1024 : Shape := ⟨2, ![1024, 1024]⟩
abbrev S16x4096x4x256 : Shape := ⟨4, ![16, 4096, 4, 256]⟩
abbrev S1x16x256x1024 : Shape := ⟨4, ![1, 16, 256, 1024]⟩
abbrev S16x256x1024 : Shape := ⟨3, ![16, 256, 1024]⟩
abbrev S16x256x4x256 : Shape := ⟨4, ![16, 256, 4, 256]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x256x4096 : Shape := ⟨4, ![16, 4, 256, 4096]⟩
abbrev S1x1024x5632 : Shape := ⟨3, ![1, 1024, 5632]⟩
abbrev S1024x5632 : Shape := ⟨2, ![1024, 5632]⟩
abbrev S65536x5632 : Shape := ⟨2, ![65536, 5632]⟩
abbrev S65536x2816 : Shape := ⟨2, ![65536, 2816]⟩
abbrev S1x2816x1024 : Shape := ⟨3, ![1, 2816, 1024]⟩
abbrev S2816x1024 : Shape := ⟨2, ![2816, 1024]⟩

abbrev nBuf : Space → Nat
  | .hbm => 162
  | .vmem => 0
  | .smem => 0
  | _ => 0

abbrev hbmTy0_0 (i : Nat) : BufTy := match i % 128 with
  | 0 => ⟨S16x4096x1024, .f32⟩
  | 1 => ⟨S16x4096x1024, .f32⟩
  | 2 => ⟨S4x1024, .f32⟩
  | 3 => ⟨S4x1024, .f32⟩
  | 4 => ⟨S4x1024, .f32⟩
  | 5 => ⟨S4x1024, .f32⟩
  | 6 => ⟨S4x1024, .f32⟩
  | 7 => ⟨S4x16x256x1024, .bf16⟩
  | 8 => ⟨S4x16x256x1024, .bf16⟩
  | 9 => ⟨S4x1024x1024, .f32⟩
  | 10 => ⟨S4x1024x1024, .f32⟩
  | 11 => ⟨S4x1024x5632, .f32⟩
  | 12 => ⟨S4x2816x1024, .f32⟩
  | 13 => ⟨S65536x1024, .f32⟩
  | 14 => ⟨S65536x1024, .f32⟩
  | 15 => ⟨S1x1024, .f32⟩
  | 16 => ⟨S1024, .f32⟩
  | 17 => ⟨S65536x1024, .f32⟩
  | 18 => ⟨S_, .f32⟩
  | 19 => ⟨S65536, .f32⟩
  | 20 => ⟨S65536x1, .f32⟩
  | 21 => ⟨S_, .f32⟩
  | 22 => ⟨S65536x1, .f32⟩
  | 23 => ⟨S65536x1, .f32⟩
  | 24 => ⟨S_, .f32⟩
  | 25 => ⟨S65536x1, .f32⟩
  | 26 => ⟨S65536x1, .f32⟩
  | 27 => ⟨S65536x1, .f32⟩
  | 28 => ⟨S65536x1024, .f32⟩
  | 29 => ⟨S65536x1024, .f32⟩
  | 30 => ⟨S1x1024, .f32⟩
  | 31 => ⟨S65536x1024, .f32⟩
  | 32 => ⟨S65536x1024, .f32⟩
  | 33 => ⟨S65536x1024, .f32⟩
  | 34 => ⟨S1x1024, .f32⟩
  | 35 => ⟨S1024, .f32⟩
  | 36 => ⟨S65536x1024, .f32⟩
  | 37 => ⟨S_, .f32⟩
  | 38 => ⟨S65536, .f32⟩
  | 39 => ⟨S65536x1, .f32⟩
  | 40 => ⟨S_, .f32⟩
  | 41 => ⟨S65536x1, .f32⟩
  | 42 => ⟨S65536x1, .f32⟩
  | 43 => ⟨S_, .f32⟩
  | 44 => ⟨S65536x1, .f32⟩
  | 45 => ⟨S65536x1, .f32⟩
  | 46 => ⟨S65536x1, .f32⟩
  | 47 => ⟨S65536x1024, .f32⟩
  | 48 => ⟨S65536x1024, .f32⟩
  | 49 => ⟨S1x1024, .f32⟩
  | 50 => ⟨S65536x1024, .f32⟩
  | 51 => ⟨S65536x1024, .f32⟩
  | 52 => ⟨S1x1024x1024, .f32⟩
  | 53 => ⟨S1024x1024, .f32⟩
  | 54 => ⟨S65536x1024, .f32⟩
  | 55 => ⟨S16x4096x4x256, .f32⟩
  | 56 => ⟨S1x16x256x1024, .bf16⟩
  | 57 => ⟨S16x256x1024, .bf16⟩
  | 58 => ⟨S16x256x1024, .f32⟩
  | 59 => ⟨S16x256x4x256, .f32⟩
  | 60 => ⟨S1x16x256x1024, .bf16⟩
  | 61 => ⟨S16x256x1024, .bf16⟩
  | 62 => ⟨S16x256x1024, .f32⟩
  | 63 => ⟨S16x256x4x256, .f32⟩
  | 64 => ⟨S16x4x4096x256, .f32⟩
  | 65 => ⟨S_, .f32⟩
  | 66 => ⟨S16x4x4096x256, .f32⟩
  | 67 => ⟨S16x4x4096x256, .f32⟩
  | 68 => ⟨S_, .f32⟩
  | 69 => ⟨S16x4x4096, .f32⟩
  | 70 => ⟨S_, .f32⟩
  | 71 => ⟨S16x4x4096, .f32⟩
  | 72 => ⟨S16x4x4096, .f32⟩
  | 73 => ⟨S16x4x4096x1, .f32⟩
  | 74 => ⟨S16x4x4096x256, .f32⟩
  | 75 => ⟨S16x4x4096x256, .f32⟩
  | 76 => ⟨S16x4x4096x256, .f32⟩
  | 77 => ⟨S_, .f32⟩
  | 78 => ⟨S16x4x4096, .f32⟩
  | 79 => ⟨S16x4x4096x1, .f32⟩
  | 80 => ⟨S16x4x4096x256, .f32⟩
  | 81 => ⟨S16x4x4096x256, .f32⟩
  | 82 => ⟨S16x4x256x4096, .f32⟩
  | 83 => ⟨S16x4096x4x256, .f32⟩
  | 84 => ⟨S65536x1024, .f32⟩
  | 85 => ⟨S1x1024x1024, .f32⟩
  | 86 => ⟨S1024x1024, .f32⟩
  | 87 => ⟨S65536x1024, .f32⟩
  | 88 => ⟨S1x1024, .f32⟩
  | 89 => ⟨S1024, .f32⟩
  | 90 => ⟨S65536x1024, .f32⟩
  | 91 => ⟨S_, .f32⟩
  | 92 => ⟨S65536, .f32⟩
  | 93 => ⟨S65536x1, .f32⟩
  | 94 => ⟨S_, .f32⟩
  | 95 => ⟨S65536x1, .f32⟩
  | 96 => ⟨S65536x1, .f32⟩
  | 97 => ⟨S_, .f32⟩
  | 98 => ⟨S65536x1, .f32⟩
  | 99 => ⟨S65536x1, .f32⟩
  | 100 => ⟨S65536x1, .f32⟩
  | 101 => ⟨S65536x1024, .f32⟩
  | 102 => ⟨S65536x1024, .f32⟩
  | 103 => ⟨S1x1024, .f32⟩
  | 104 => ⟨S65536x1024, .f32⟩
  | 105 => ⟨S65536x1024, .f32⟩
  | 106 => ⟨S65536x1024, .f32⟩
  | 107 => ⟨S1x1024, .f32⟩
  | 108 => ⟨S1024, .f32⟩
  | 109 => ⟨S65536x1024, .f32⟩
  | 110 => ⟨S_, .f32⟩
  | 111 => ⟨S65536, .f32⟩
  | 112 => ⟨S65536x1, .f32⟩
  | 113 => ⟨S_, .f32⟩
  | 114 => ⟨S65536x1, .f32⟩
  | 115 => ⟨S65536x1, .f32⟩
  | 116 => ⟨S_, .f32⟩
  | 117 => ⟨S65536x1, .f32⟩
  | 118 => ⟨S65536x1, .f32⟩
  | 119 => ⟨S65536x1, .f32⟩
  | 120 => ⟨S65536x1024, .f32⟩
  | 121 => ⟨S65536x1024, .f32⟩
  | 122 => ⟨S1x1024, .f32⟩
  | 123 => ⟨S65536x1024, .f32⟩
  | 124 => ⟨S65536x1024, .f32⟩
  | 125 => ⟨S1x1024x5632, .f32⟩
  | 126 => ⟨S1024x5632, .f32⟩
  | 127 => ⟨S65536x5632, .f32⟩
  | _ => ⟨S16x4096x1024, .f32⟩

abbrev hbmTy0_1 (i : Nat) : BufTy := match i % 128 with
  | 0 => ⟨S65536x2816, .f32⟩
  | 1 => ⟨S65536x2816, .f32⟩
  | 2 => ⟨S65536x2816, .f32⟩
  | 3 => ⟨S65536x2816, .f32⟩
  | 4 => ⟨S_, .f32⟩
  | 5 => ⟨S65536x2816, .f32⟩
  | 6 => ⟨S65536x2816, .f32⟩
  | 7 => ⟨S_, .f32⟩
  | 8 => ⟨S65536x2816, .f32⟩
  | 9 => ⟨S65536x2816, .f32⟩
  | 10 => ⟨S65536x2816, .f32⟩
  | 11 => ⟨S65536x2816, .f32⟩
  | 12 => ⟨S1x2816x1024, .f32⟩
  | 13 => ⟨S2816x1024, .f32⟩
  | 14 => ⟨S65536x1024, .f32⟩
  | 15 => ⟨S1x1024, .f32⟩
  | 16 => ⟨S1024, .f32⟩
  | 17 => ⟨S65536x1024, .f32⟩
  | 18 => ⟨S_, .f32⟩
  | 19 => ⟨S65536, .f32⟩
  | 20 => ⟨S65536x1, .f32⟩
  | 21 => ⟨S_, .f32⟩
  | 22 => ⟨S65536x1, .f32⟩
  | 23 => ⟨S65536x1, .f32⟩
  | 24 => ⟨S_, .f32⟩
  | 25 => ⟨S65536x1, .f32⟩
  | 26 => ⟨S65536x1, .f32⟩
  | 27 => ⟨S65536x1, .f32⟩
  | 28 => ⟨S65536x1024, .f32⟩
  | 29 => ⟨S65536x1024, .f32⟩
  | 30 => ⟨S1x1024, .f32⟩
  | 31 => ⟨S65536x1024, .f32⟩
  | 32 => ⟨S65536x1024, .f32⟩
  | 33 => ⟨S65536x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_cst_6 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_9 : Ref sig .tc := ⟨.hbm, 91, rfl⟩
abbrev main_v68 : Ref sig .tc := ⟨.hbm, 92, rfl⟩
abbrev main_v69 : Ref sig .tc := ⟨.hbm, 93, rfl⟩
abbrev main_cst_10 : Ref sig .tc := ⟨.hbm, 94, rfl⟩
abbrev main_v70 : Ref sig .tc := ⟨.hbm, 95, rfl⟩
abbrev main_v71 : Ref sig .tc := ⟨.hbm, 96, rfl⟩
abbrev main_cst_11 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_12 : Ref sig .tc := ⟨.hbm, 110, rfl⟩
abbrev main_v84 : Ref sig .tc := ⟨.hbm, 111, rfl⟩
abbrev main_v85 : Ref sig .tc := ⟨.hbm, 112, rfl⟩
abbrev main_cst_13 : Ref sig .tc := ⟨.hbm, 113, rfl⟩
abbrev main_v86 : Ref sig .tc := ⟨.hbm, 114, rfl⟩
abbrev main_v87 : Ref sig .tc := ⟨.hbm, 115, rfl⟩
abbrev main_cst_14 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_call0_v0 : Ref sig .tc := ⟨.hbm, 130, rfl⟩
abbrev main_call0_v1 : Ref sig .tc := ⟨.hbm, 131, rfl⟩
abbrev main_call0_cst : Ref sig .tc := ⟨.hbm, 132, rfl⟩
abbrev main_call0_v2 : Ref sig .tc := ⟨.hbm, 133, rfl⟩
abbrev main_call0_v3 : Ref sig .tc := ⟨.hbm, 134, rfl⟩
abbrev main_call0_cst_0 : Ref sig .tc := ⟨.hbm, 135, rfl⟩
abbrev main_call0_v4 : Ref sig .tc := ⟨.hbm, 136, rfl⟩
abbrev main_call0_v5 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_15 : Ref sig .tc := ⟨.hbm, 146, rfl⟩
abbrev main_v109 : Ref sig .tc := ⟨.hbm, 147, rfl⟩
abbrev main_v110 : Ref sig .tc := ⟨.hbm, 148, rfl⟩
abbrev main_cst_16 : Ref sig .tc := ⟨.hbm, 149, rfl⟩
abbrev main_v111 : Ref sig .tc := ⟨.hbm, 150, rfl⟩
abbrev main_v112 : Ref sig .tc := ⟨.hbm, 151, rfl⟩
abbrev main_cst_17 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩

abbrev nD : Nat := 1
abbrev τ : Topo := Topo.v7x

variable {F : FTy → Type} [FloatOps F]
-- ==== Kernel2.lean ====
abbrev S16x4096x1024 : Shape := ⟨3, ![16, 4096, 1024]⟩
abbrev S1x1024x1024 : Shape := ⟨3, ![1, 1024, 1024]⟩
abbrev S4x1024 : Shape := ⟨2, ![4, 1024]⟩
abbrev S4x16x256x1024 : Shape := ⟨4, ![4, 16, 256, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x1x1024 : Shape := ⟨3, ![4, 1, 1024]⟩
abbrev S65536x1024 : Shape := ⟨2, ![65536, 1024]⟩
abbrev S512x1024 : Shape := ⟨2, ![512, 1024]⟩
abbrev S1x1x1024 : Shape := ⟨3, ![1, 1, 1024]⟩
abbrev S1x1x256x1024 : Shape := ⟨4, ![1, 1, 256, 1024]⟩
abbrev S1x1024x5632 : Shape := ⟨3, ![1, 1024, 5632]⟩
abbrev S1x2816x1024 : Shape := ⟨3, ![1, 2816, 1024]⟩
abbrev S2x512x1024 : Shape := ⟨3, ![2, 512, 1024]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S1024x1024 : Shape := ⟨2, ![1024, 1024]⟩
abbrev S1x1024 : Shape := ⟨2, ![1, 1024]⟩
abbrev S512 : Shape := ⟨1, ![512]⟩
abbrev S512x1 : Shape := ⟨2, ![512, 1]⟩
abbrev S1x1x256x256 : Shape := ⟨4, ![1, 1, 256, 256]⟩
abbrev S256x256 : Shape := ⟨2, ![256, 256]⟩

abbrev nBuf : Space → Nat
  | .hbm => 27
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S1x1024x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x16x256x1024, .bf16⟩
  | .hbm, ⟨9, _⟩ => ⟨S4x16x256x1024, .bf16⟩
  | .hbm, ⟨10, _⟩ => ⟨S4x1024x1024, .f32⟩
  | .hbm, ⟨11, _⟩ => ⟨S4x1024x1024, .f32⟩
  | .hbm, ⟨12, _⟩ => ⟨S4x1024x5632, .f32⟩
  | .hbm, ⟨13, _⟩ => ⟨S4x2816x1024, .f32⟩
  | .hbm, ⟨14, _⟩ => ⟨S4x1024x1024, .bf16⟩
  | .hbm, ⟨15, _⟩ => ⟨S4x1024x1024, .bf16⟩
  | .hbm, ⟨16, _⟩ => ⟨S4x1024x5632, .bf16⟩
  | .hbm, ⟨17, _⟩ => ⟨S4x2816x1024, .bf16⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S1x1024x1024, .bf16⟩
  | .hbm, ⟨24, _⟩ => ⟨S65536x1024, .f32⟩
  | .hbm, ⟨25, _⟩ => ⟨S65536x1024, .bf16⟩
  | .hbm, ⟨26, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x256x1024, .bf16⟩
  | .local _ .vmem, ⟨11, _⟩ => ⟨S1x1x256x1024, .bf16⟩
  | .local _ .vmem, ⟨12, _⟩ => ⟨S1x1x256x1024, .bf16⟩
  | .local _ .vmem, ⟨13, _⟩ => ⟨S1x1x256x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x5632, .bf16⟩
  | .local _ .vmem, ⟨17, _⟩ => ⟨S1x2816x1024, .bf16⟩
  | .local _ .vmem, ⟨18, _⟩ => ⟨S512x1024, .f32⟩
  | .local _ .vmem, ⟨19, _⟩ => ⟨S512x1024, .f32⟩
  | .local _ .vmem, ⟨20, _⟩ => ⟨S2x512x1024, .f32⟩
  | .local _ .vmem, ⟨21, _⟩ => ⟨S2x512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v14 : Index := Scalar.indexCast v10
  let c0 : Index := 0#32
  let c0_6 : Index := 0#32
  ![v14.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v352 : Index := Scalar.indexCast v9
  let c0_224 : Index := 0#32
  let c0_225 : Index := 0#32
  ![v352.toNat, 0, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c0_i32_5 : BitVec 32 := 0#32
  let c0_i32_6 : BitVec 32 := 0#32
  let c0_i32_7 : BitVec 32 := 0#32
  ![c1_i32_4.toNat, v17.toNat, c0_i32_5.toNat, c0_i32_6.toNat]

def cc0_transform_9 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c1_i32_4 : BitVec 32 := 1#32
  let c0_i32_5 : BitVec 32 := 0#32
  let c0_i32_6 : BitVec 32 := 0#32
  let c0_i32_7 : BitVec 32 := 0#32
  ![c1_i32_4.toNat, v17.toNat, c0_i32_5.toNat, c0_i32_6.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S16x4096x1024 : Shape := ⟨3, ![16, 4096, 1024]⟩
abbrev S1x1024x1024 : Shape := ⟨3, ![1, 1024, 1024]⟩
abbrev S4x1024 : Shape := ⟨2, ![4, 1024]⟩
abbrev S4x16x256x1024 : Shape := ⟨4, ![4, 16, 256, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S65536x1024 : Shape := ⟨2, ![65536, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S16x4096x4x256 : Shape := ⟨4, ![16, 4096, 4, 256]⟩
abbrev S1x16x256x1024 : Shape := ⟨4, ![1, 16, 256, 1024]⟩
abbrev S16x256x1024 : Shape := ⟨3, ![16, 256, 1024]⟩
abbrev S16x256x4x256 : Shape := ⟨4, ![16, 256, 4, 256]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x256x4096 : Shape := ⟨4, ![16, 4, 256, 4096]⟩
abbrev S1x1024x5632 : Shape := ⟨3, ![1, 1024, 5632]⟩
abbrev S1024x5632 : Shape := ⟨2, ![1024, 5632]⟩
abbrev S65536x5632 : Shape := ⟨2, ![65536, 5632]⟩
abbrev S65536x2816 : Shape := ⟨2, ![65536, 2816]⟩
abbrev S1x2816x1024 : Shape := ⟨3, ![1, 2816, 1024]⟩
abbrev S2816x1024 : Shape := ⟨2, ![2816, 1024]⟩

abbrev nBuf : Space → Nat
  | .hbm => 166
  | .vmem => 0
  | .smem => 0
  | _ => 0

abbrev hbmTy0_0 (i : Nat) : BufTy := match i % 128 with
  | 0 => ⟨S16x4096x1024, .f32⟩
  | 1 => ⟨S16x4096x1024, .bf16⟩
  | 2 => ⟨S1x1024x1024, .f32⟩
  | 3 => ⟨S4x1024, .f32⟩
  | 4 => ⟨S4x1024, .f32⟩
  | 5 => ⟨S4x1024, .f32⟩
  | 6 => ⟨S4x1024, .f32⟩
  | 7 => ⟨S4x1024, .f32⟩
  | 8 => ⟨S4x16x256x1024, .bf16⟩
  | 9 => ⟨S4x16x256x1024, .bf16⟩
  | 10 => ⟨S4x1024x1024, .f32⟩
  | 11 => ⟨S4x1024x1024, .f32⟩
  | 12 => ⟨S4x1024x5632, .f32⟩
  | 13 => ⟨S4x2816x1024, .f32⟩
  | 14 => ⟨S16x4096x1024, .f32⟩
  | 15 => ⟨S65536x1024, .f32⟩
  | 16 => ⟨S1024x1024, .f32⟩
  | 17 => ⟨S65536x1024, .f32⟩
  | 18 => ⟨S65536x1024, .f32⟩
  | 19 => ⟨S1x1024, .f32⟩
  | 20 => ⟨S1024, .f32⟩
  | 21 => ⟨S65536x1024, .f32⟩
  | 22 => ⟨S_, .f32⟩
  | 23 => ⟨S65536, .f32⟩
  | 24 => ⟨S65536x1, .f32⟩
  | 25 => ⟨S_, .f32⟩
  | 26 => ⟨S65536x1, .f32⟩
  | 27 => ⟨S65536x1, .f32⟩
  | 28 => ⟨S_, .f32⟩
  | 29 => ⟨S65536x1, .f32⟩
  | 30 => ⟨S65536x1, .f32⟩
  | 31 => ⟨S65536x1, .f32⟩
  | 32 => ⟨S65536x1024, .f32⟩
  | 33 => ⟨S65536x1024, .f32⟩
  | 34 => ⟨S1x1024, .f32⟩
  | 35 => ⟨S65536x1024, .f32⟩
  | 36 => ⟨S65536x1024, .f32⟩
  | 37 => ⟨S65536x1024, .f32⟩
  | 38 => ⟨S1x1024, .f32⟩
  | 39 => ⟨S1024, .f32⟩
  | 40 => ⟨S65536x1024, .f32⟩
  | 41 => ⟨S_, .f32⟩
  | 42 => ⟨S65536, .f32⟩
  | 43 => ⟨S65536x1, .f32⟩
  | 44 => ⟨S_, .f32⟩
  | 45 => ⟨S65536x1, .f32⟩
  | 46 => ⟨S65536x1, .f32⟩
  | 47 => ⟨S_, .f32⟩
  | 48 => ⟨S65536x1, .f32⟩
  | 49 => ⟨S65536x1, .f32⟩
  | 50 => ⟨S65536x1, .f32⟩
  | 51 => ⟨S65536x1024, .f32⟩
  | 52 => ⟨S65536x1024, .f32⟩
  | 53 => ⟨S1x1024, .f32⟩
  | 54 => ⟨S65536x1024, .f32⟩
  | 55 => ⟨S65536x1024, .f32⟩
  | 56 => ⟨S1x1024x1024, .f32⟩
  | 57 => ⟨S1024x1024, .f32⟩
  | 58 => ⟨S65536x1024, .f32⟩
  | 59 => ⟨S16x4096x4x256, .f32⟩
  | 60 => ⟨S1x16x256x1024, .bf16⟩
  | 61 => ⟨S16x256x1024, .bf16⟩
  | 62 => ⟨S16x256x1024, .f32⟩
  | 63 => ⟨S16x256x4x256, .f32⟩
  | 64 => ⟨S1x16x256x1024, .bf16⟩
  | 65 => ⟨S16x256x1024, .bf16⟩
  | 66 => ⟨S16x256x1024, .f32⟩
  | 67 => ⟨S16x256x4x256, .f32⟩
  | 68 => ⟨S16x4x4096x256, .f32⟩
  | 69 => ⟨S_, .f32⟩
  | 70 => ⟨S16x4x4096x256, .f32⟩
  | 71 => ⟨S16x4x4096x256, .f32⟩
  | 72 => ⟨S_, .f32⟩
  | 73 => ⟨S16x4x4096, .f32⟩
  | 74 => ⟨S_, .f32⟩
  | 75 => ⟨S16x4x4096, .f32⟩
  | 76 => ⟨S16x4x4096, .f32⟩
  | 77 => ⟨S16x4x4096x1, .f32⟩
  | 78 => ⟨S16x4x4096x256, .f32⟩
  | 79 => ⟨S16x4x4096x256, .f32⟩
  | 80 => ⟨S16x4x4096x256, .f32⟩
  | 81 => ⟨S_, .f32⟩
  | 82 => ⟨S16x4x4096, .f32⟩
  | 83 => ⟨S16x4x4096x1, .f32⟩
  | 84 => ⟨S16x4x4096x256, .f32⟩
  | 85 => ⟨S16x4x4096x256, .f32⟩
  | 86 => ⟨S16x4x256x4096, .f32⟩
  | 87 => ⟨S16x4096x4x256, .f32⟩
  | 88 => ⟨S65536x1024, .f32⟩
  | 89 => ⟨S1x1024x1024, .f32⟩
  | 90 => ⟨S1024x1024, .f32⟩
  | 91 => ⟨S65536x1024, .f32⟩
  | 92 => ⟨S1x1024, .f32⟩
  | 93 => ⟨S1024, .f32⟩
  | 94 => ⟨S65536x1024, .f32⟩
  | 95 => ⟨S_, .f32⟩
  | 96 => ⟨S65536, .f32⟩
  | 97 => ⟨S65536x1, .f32⟩
  | 98 => ⟨S_, .f32⟩
  | 99 => ⟨S65536x1, .f32⟩
  | 100 => ⟨S65536x1, .f32⟩
  | 101 => ⟨S_, .f32⟩
  | 102 => ⟨S65536x1, .f32⟩
  | 103 => ⟨S65536x1, .f32⟩
  | 104 => ⟨S65536x1, .f32⟩
  | 105 => ⟨S65536x1024, .f32⟩
  | 106 => ⟨S65536x1024, .f32⟩
  | 107 => ⟨S1x1024, .f32⟩
  | 108 => ⟨S65536x1024, .f32⟩
  | 109 => ⟨S65536x1024, .f32⟩
  | 110 => ⟨S65536x1024, .f32⟩
  | 111 => ⟨S1x1024, .f32⟩
  | 112 => ⟨S1024, .f32⟩
  | 113 => ⟨S65536x1024, .f32⟩
  | 114 => ⟨S_, .f32⟩
  | 115 => ⟨S65536, .f32⟩
  | 116 => ⟨S65536x1, .f32⟩
  | 117 => ⟨S_, .f32⟩
  | 118 => ⟨S65536x1, .f32⟩
  | 119 => ⟨S65536x1, .f32⟩
  | 120 => ⟨S_, .f32⟩
  | 121 => ⟨S65536x1, .f32⟩
  | 122 => ⟨S65536x1, .f32⟩
  | 123 => ⟨S65536x1, .f32⟩
  | 124 => ⟨S65536x1024, .f32⟩
  | 125 => ⟨S65536x1024, .f32⟩
  | 126 => ⟨S1x1024, .f32⟩
  | 127 => ⟨S65536x1024, .f32⟩
  | _ => ⟨S16x4096x1024, .f32⟩

abbrev hbmTy0_1 (i : Nat) : BufTy := match i % 128 with
  | 0 => ⟨S65536x1024, .f32⟩
  | 1 => ⟨S1x1024x5632, .f32⟩
  | 2 => ⟨S1024x5632, .f32⟩
  | 3 => ⟨S65536x5632, .f32⟩
  | 4 => ⟨S65536x2816, .f32⟩
  | 5 => ⟨S65536x2816, .f32⟩
  | 6 => ⟨S65536x2816, .f32⟩
  | 7 => ⟨S65536x2816, .f32⟩
  | 8 => ⟨S_, .f32⟩
  | 9 => ⟨S65536x2816, .f32⟩
  | 10 => ⟨S65536x2816, .f32⟩
  | 11 => ⟨S_, .f32⟩
  | 12 => ⟨S65536x2816, .f32⟩
  | 13 => ⟨S65536x2816, .f32⟩
  | 14 => ⟨S65536x2816, .f32⟩
  | 15 => ⟨S65536x2816, .f32⟩
  | 16 => ⟨S1x2816x1024, .f32⟩
  | 17 => ⟨S2816x1024, .f32⟩
  | 18 => ⟨S65536x1024, .f32⟩
  | 19 => ⟨S1x1024, .f32⟩
  | 20 => ⟨S1024, .f32⟩
  | 21 => ⟨S65536x1024, .f32⟩
  | 22 => ⟨S_, .f32⟩
  | 23 => ⟨S65536, .f32⟩
  | 24 => ⟨S65536x1, .f32⟩
  | 25 => ⟨S_, .f32⟩
  | 26 => ⟨S65536x1, .f32⟩
  | 27 => ⟨S65536x1, .f32⟩
  | 28 => ⟨S_, .f32⟩
  | 29 => ⟨S65536x1, .f32⟩
  | 30 => ⟨S65536x1, .f32⟩
  | 31 => ⟨S65536x1, .f32⟩
  | 32 => ⟨S65536x1024, .f32⟩
  | 33 => ⟨S65536x1024, .f32⟩
  | 34 => ⟨S1x1024, .f32⟩
  | 35 => ⟨S65536x1024, .f32⟩
  | 36 => ⟨S65536x1024, .f32⟩
  | 37 => ⟨S65536x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_8 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_9 : Ref sig .tc := ⟨.hbm, 95, rfl⟩
abbrev main_v71 : Ref sig .tc := ⟨.hbm, 96, rfl⟩
abbrev main_v72 : Ref sig .tc := ⟨.hbm, 97, rfl⟩
abbrev main_cst_10 : Ref sig .tc := ⟨.hbm, 98, rfl⟩
abbrev main_v73 : Ref sig .tc := ⟨.hbm, 99, rfl⟩
abbrev main_v74 : Ref sig .tc := ⟨.hbm, 100, rfl⟩
abbrev main_cst_11 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_12 : Ref sig .tc := ⟨.hbm, 114, rfl⟩
abbrev main_v87 : Ref sig .tc := ⟨.hbm, 115, rfl⟩
abbrev main_v88 : Ref sig .tc := ⟨.hbm, 116, rfl⟩
abbrev main_cst_13 : Ref sig .tc := ⟨.hbm, 117, rfl⟩
abbrev main_v89 : Ref sig .tc := ⟨.hbm, 118, rfl⟩
abbrev main_v90 : Ref sig .tc := ⟨.hbm, 119, rfl⟩
abbrev main_cst_14 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_call0_v0 : Ref sig .tc := ⟨.hbm, 134, rfl⟩
abbrev main_call0_v1 : Ref sig .tc := ⟨.hbm, 135, rfl⟩
abbrev main_call0_cst : Ref sig .tc := ⟨.hbm, 136, rfl⟩
abbrev main_call0_v2 : Ref sig .tc := ⟨.hbm, 137, rfl⟩
abbrev main_call0_v3 : Ref sig .tc := ⟨.hbm, 138, rfl⟩
abbrev main_call0_cst_0 : Ref sig .tc := ⟨.hbm, 139, rfl⟩
abbrev main_call0_v4 : Ref sig .tc := ⟨.hbm, 140, rfl⟩
abbrev main_call0_v5 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_15 : Ref sig .tc := ⟨.hbm, 150, rfl⟩
abbrev main_v112 : Ref sig .tc := ⟨.hbm, 151, rfl⟩
abbrev main_v113 : Ref sig .tc := ⟨.hbm, 152, rfl⟩
abbrev main_cst_16 : Ref sig .tc := ⟨.hbm, 153, rfl⟩
abbrev main_v114 : Ref sig .tc := ⟨.hbm, 154, rfl⟩
abbrev main_v115 : Ref sig .tc := ⟨.hbm, 155, rfl⟩
abbrev main_cst_17 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩

abbrev nD : Nat := 1
abbrev τ : Topo := Topo.v7x

variable {F : FTy → Type} [FloatOps F]
-- ==== Kernel3.lean ====
abbrev S16x4096x1024 : Shape := ⟨3, ![16, 4096, 1024]⟩
abbrev S16x4096x2048 : Shape := ⟨3, ![16, 4096, 2048]⟩
abbrev S1x2048x1024 : Shape := ⟨3, ![1, 2048, 1024]⟩
abbrev S4x1024 : Shape := ⟨2, ![4, 1024]⟩
abbrev S4x16x256x1024 : Shape := ⟨4, ![4, 16, 256, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S4x1x1024 : Shape := ⟨3, ![4, 1, 1024]⟩
abbrev S65536x1024 : Shape := ⟨2, ![65536, 1024]⟩
abbrev S65536x2048 : Shape := ⟨2, ![65536, 2048]⟩
abbrev S512x1024 : Shape := ⟨2, ![512, 1024]⟩
abbrev S512x2048 : Shape := ⟨2, ![512, 2048]⟩
abbrev S1x1x1024 : Shape := ⟨3, ![1, 1, 1024]⟩
abbrev S1x1x256x1024 : Shape := ⟨4, ![1, 1, 256, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S2x512x1024 : Shape := ⟨3, ![2, 512, 1024]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S2048x1024 : Shape := ⟨2, ![2048, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1x1x256x256 : Shape := ⟨4, ![1, 1, 256, 256]⟩
abbrev S256x256 : Shape := ⟨2, ![256, 256]⟩

abbrev nBuf : Space → Nat
  | .hbm => 27
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S16x4096x2048, .f32⟩
  | .hbm, ⟨2, _⟩ => ⟨S1x2048x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x16x256x1024, .bf16⟩
  | .hbm, ⟨9, _⟩ => ⟨S4x16x256x1024, .bf16⟩
  | .hbm, ⟨10, _⟩ => ⟨S4x1024x1024, .f32⟩
  | .hbm, ⟨11, _⟩ => ⟨S4x1024x1024, .f32⟩
  | .hbm, ⟨12, _⟩ => ⟨S4x1024x5632, .f32⟩
  | .hbm, ⟨13, _⟩ => ⟨S4x2816x1024, .f32⟩
  | .hbm, ⟨14, _⟩ => ⟨S4x1024x1024, .bf16⟩
  | .hbm, ⟨15, _⟩ => ⟨S4x1024x1024, .bf16⟩
  | .hbm, ⟨16, _⟩ => ⟨S4x1024x5632, .bf16⟩
  | .hbm, ⟨17, _⟩ => ⟨S4x2816x1024, .bf16⟩
  | .hbm, ⟨18, _⟩ => ⟨S4x1x1024, .f32⟩
  | .hbm, ⟨19, _⟩ => ⟨S4x1x1024, .f32⟩
  | .hbm, ⟨20, _⟩ => ⟨S4x1x1024, .f32⟩
  | .hbm, ⟨21, _⟩ => ⟨S4x1x1024, .f32⟩
  | .hbm, ⟨22, _⟩ => ⟨S4x1x1024, .f32⟩
  | .hbm, ⟨23, _⟩ => ⟨S1x2048x1024, .bf16⟩
  | .hbm, ⟨24, _⟩ => ⟨S65536x1024, .f32⟩
  | .hbm, ⟨25, _⟩ => ⟨S65536x2048, .f32⟩
  | .hbm, ⟨26, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .f32⟩
  | .local _ .vmem, ⟨3, _⟩ => ⟨S512x2048, .f32⟩
  | .local _ .vmem, ⟨4, _⟩ => ⟨S1x2048x1024, .bf16⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x256x1024, .bf16⟩
  | .local _ .vmem, ⟨11, _⟩ => ⟨S1x1x256x1024, .bf16⟩
  | .local _ .vmem, ⟨12, _⟩ => ⟨S1x1x256x1024, .bf16⟩
  | .local _ .vmem, ⟨13, _⟩ => ⟨S1x1x256x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x5632, .bf16⟩
  | .local _ .vmem, ⟨17, _⟩ => ⟨S1x2816x1024, .bf16⟩
  | .local _ .vmem, ⟨18, _⟩ => ⟨S512x1024, .f32⟩
  | .local _ .vmem, ⟨19, _⟩ => ⟨S512x1024, .f32⟩
  | .local _ .vmem, ⟨20, _⟩ => ⟨S2x512x1024, .f32⟩
  | .local _ .vmem, ⟨21, _⟩ => ⟨S2x512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![129], ![false]⟩

def k0_off1 (i : grid0.Coords) : Fin 3 → Nat :=
  let c1_i32_3 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v10 : BitVec 32 := Scalar.subi c1_i32_3 v9
  let v14 : Index := Scalar.indexCast v10
  let c0 : Index := 0#32
  let c0_6 : Index := 0#32
  ![v14.toNat, 0, 0]
def k0_off2 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v353 : Index := Scalar.indexCast v9
  let c0_224 : Index := 0#32
  let c0_225 : Index := 0#32
  ![v353.toNat, 0, 0]
def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let c0_i32_5 : BitVec 32 := 0#32
  let c0_i32_6 : BitVec 32 := 0#32
  ![c2_i32.toNat, v17.toNat, c0_i32_4.toNat, c0_i32_5.toNat]

def cc0_transform_9 (i : grid0.Coords) : Fin 4 → Nat :=
  let arg0 : BitVec 32 := BitVec.ofNat 32 (i 0).val
  let c127_i32 : BitVec 32 := 127#32
  let v0 : BitVec 32 := Scalar.minsi arg0 c127_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let c0_i32_4 : BitVec 32 := 0#32
  let c0_i32_5 : BitVec 32 := 0#32
  let c0_i32_6 : BitVec 32 := 0#32
  ![c2_i32.toNat, v17.toNat, c0_i32_4.toNat, c0_i32_5.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_13 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16x4096x1024 : Shape := ⟨3, ![16, 4096, 1024]⟩
abbrev S16x4096x2048 : Shape := ⟨3, ![16, 4096, 2048]⟩
abbrev S1x2048x1024 : Shape := ⟨3, ![1, 2048, 1024]⟩
abbrev S4x1024 : Shape := ⟨2, ![4, 1024]⟩
abbrev S4x16x256x1024 : Shape := ⟨4, ![4, 16, 256, 1024]⟩
abbrev S4x1024x1024 : Shape := ⟨3, ![4, 1024, 1024]⟩
abbrev S4x1024x5632 : Shape := ⟨3, ![4, 1024, 5632]⟩
abbrev S4x2816x1024 : Shape := ⟨3, ![4, 2816, 1024]⟩
abbrev S65536x2048 : Shape := ⟨2, ![65536, 2048]⟩
abbrev S2048x1024 : Shape := ⟨2, ![2048, 1024]⟩
abbrev S65536x1024 : Shape := ⟨2, ![65536, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024x1024 : Shape := ⟨3, ![1, 1024, 1024]⟩
abbrev S1024x1024 : Shape := ⟨2, ![1024, 1024]⟩
abbrev S16x4096x4x256 : Shape := ⟨4, ![16, 4096, 4, 256]⟩
abbrev S1x16x256x1024 : Shape := ⟨4, ![1, 16, 256, 1024]⟩
abbrev S16x256x1024 : Shape := ⟨3, ![16, 256, 1024]⟩
abbrev S16x256x4x256 : Shape := ⟨4, ![16, 256, 4, 256]⟩
abbrev S16x4x4096x256 : Shape := ⟨4, ![16, 4, 4096, 256]⟩
abbrev S16x4x4096 : Shape := ⟨3, ![16, 4, 4096]⟩
abbrev S16x4x4096x1 : Shape := ⟨4, ![16, 4, 4096, 1]⟩
abbrev S16x4x256x4096 : Shape := ⟨4, ![16, 4, 256, 4096]⟩
abbrev S1x1024x5632 : Shape := ⟨3, ![1, 1024, 5632]⟩
abbrev S1024x5632 : Shape := ⟨2, ![1024, 5632]⟩
abbrev S65536x5632 : Shape := ⟨2, ![65536, 5632]⟩
abbrev S65536x2816 : Shape := ⟨2, ![65536, 2816]⟩
abbrev S1x2816x1024 : Shape := ⟨3, ![1, 2816, 1024]⟩
abbrev S2816x1024 : Shape := ⟨2, ![2816, 1024]⟩

abbrev nBuf : Space → Nat
  | .hbm => 165
  | .vmem => 0
  | .smem => 0
  | _ => 0

abbrev hbmTy0_0 (i : Nat) : BufTy := match i % 128 with
  | 0 => ⟨S16x4096x1024, .f32⟩
  | 1 => ⟨S16x4096x2048, .f32⟩
  | 2 => ⟨S1x2048x1024, .f32⟩
  | 3 => ⟨S4x1024, .f32⟩
  | 4 => ⟨S4x1024, .f32⟩
  | 5 => ⟨S4x1024, .f32⟩
  | 6 => ⟨S4x1024, .f32⟩
  | 7 => ⟨S4x1024, .f32⟩
  | 8 => ⟨S4x16x256x1024, .bf16⟩
  | 9 => ⟨S4x16x256x1024, .bf16⟩
  | 10 => ⟨S4x1024x1024, .f32⟩
  | 11 => ⟨S4x1024x1024, .f32⟩
  | 12 => ⟨S4x1024x5632, .f32⟩
  | 13 => ⟨S4x2816x1024, .f32⟩
  | 14 => ⟨S65536x2048, .f32⟩
  | 15 => ⟨S2048x1024, .f32⟩
  | 16 => ⟨S65536x1024, .f32⟩
  | 17 => ⟨S65536x1024, .f32⟩
  | 18 => ⟨S1x1024, .f32⟩
  | 19 => ⟨S1024, .f32⟩
  | 20 => ⟨S65536x1024, .f32⟩
  | 21 => ⟨S_, .f32⟩
  | 22 => ⟨S65536, .f32⟩
  | 23 => ⟨S65536x1, .f32⟩
  | 24 => ⟨S_, .f32⟩
  | 25 => ⟨S65536x1, .f32⟩
  | 26 => ⟨S65536x1, .f32⟩
  | 27 => ⟨S_, .f32⟩
  | 28 => ⟨S65536x1, .f32⟩
  | 29 => ⟨S65536x1, .f32⟩
  | 30 => ⟨S65536x1, .f32⟩
  | 31 => ⟨S65536x1024, .f32⟩
  | 32 => ⟨S65536x1024, .f32⟩
  | 33 => ⟨S1x1024, .f32⟩
  | 34 => ⟨S65536x1024, .f32⟩
  | 35 => ⟨S65536x1024, .f32⟩
  | 36 => ⟨S65536x1024, .f32⟩
  | 37 => ⟨S1x1024, .f32⟩
  | 38 => ⟨S1024, .f32⟩
  | 39 => ⟨S65536x1024, .f32⟩
  | 40 => ⟨S_, .f32⟩
  | 41 => ⟨S65536, .f32⟩
  | 42 => ⟨S65536x1, .f32⟩
  | 43 => ⟨S_, .f32⟩
  | 44 => ⟨S65536x1, .f32⟩
  | 45 => ⟨S65536x1, .f32⟩
  | 46 => ⟨S_, .f32⟩
  | 47 => ⟨S65536x1, .f32⟩
  | 48 => ⟨S65536x1, .f32⟩
  | 49 => ⟨S65536x1, .f32⟩
  | 50 => ⟨S65536x1024, .f32⟩
  | 51 => ⟨S65536x1024, .f32⟩
  | 52 => ⟨S1x1024, .f32⟩
  | 53 => ⟨S65536x1024, .f32⟩
  | 54 => ⟨S65536x1024, .f32⟩
  | 55 => ⟨S1x1024x1024, .f32⟩
  | 56 => ⟨S1024x1024, .f32⟩
  | 57 => ⟨S65536x1024, .f32⟩
  | 58 => ⟨S16x4096x4x256, .f32⟩
  | 59 => ⟨S1x16x256x1024, .bf16⟩
  | 60 => ⟨S16x256x1024, .bf16⟩
  | 61 => ⟨S16x256x1024, .f32⟩
  | 62 => ⟨S16x256x4x256, .f32⟩
  | 63 => ⟨S1x16x256x1024, .bf16⟩
  | 64 => ⟨S16x256x1024, .bf16⟩
  | 65 => ⟨S16x256x1024, .f32⟩
  | 66 => ⟨S16x256x4x256, .f32⟩
  | 67 => ⟨S16x4x4096x256, .f32⟩
  | 68 => ⟨S_, .f32⟩
  | 69 => ⟨S16x4x4096x256, .f32⟩
  | 70 => ⟨S16x4x4096x256, .f32⟩
  | 71 => ⟨S_, .f32⟩
  | 72 => ⟨S16x4x4096, .f32⟩
  | 73 => ⟨S_, .f32⟩
  | 74 => ⟨S16x4x4096, .f32⟩
  | 75 => ⟨S16x4x4096, .f32⟩
  | 76 => ⟨S16x4x4096x1, .f32⟩
  | 77 => ⟨S16x4x4096x256, .f32⟩
  | 78 => ⟨S16x4x4096x256, .f32⟩
  | 79 => ⟨S16x4x4096x256, .f32⟩
  | 80 => ⟨S_, .f32⟩
  | 81 => ⟨S16x4x4096, .f32⟩
  | 82 => ⟨S16x4x4096x1, .f32⟩
  | 83 => ⟨S16x4x4096x256, .f32⟩
  | 84 => ⟨S16x4x4096x256, .f32⟩
  | 85 => ⟨S16x4x256x4096, .f32⟩
  | 86 => ⟨S16x4096x4x256, .f32⟩
  | 87 => ⟨S65536x1024, .f32⟩
  | 88 => ⟨S1x1024x1024, .f32⟩
  | 89 => ⟨S1024x1024, .f32⟩
  | 90 => ⟨S65536x1024, .f32⟩
  | 91 => ⟨S1x1024, .f32⟩
  | 92 => ⟨S1024, .f32⟩
  | 93 => ⟨S65536x1024, .f32⟩
  | 94 => ⟨S_, .f32⟩
  | 95 => ⟨S65536, .f32⟩
  | 96 => ⟨S65536x1, .f32⟩
  | 97 => ⟨S_, .f32⟩
  | 98 => ⟨S65536x1, .f32⟩
  | 99 => ⟨S65536x1, .f32⟩
  | 100 => ⟨S_, .f32⟩
  | 101 => ⟨S65536x1, .f32⟩
  | 102 => ⟨S65536x1, .f32⟩
  | 103 => ⟨S65536x1, .f32⟩
  | 104 => ⟨S65536x1024, .f32⟩
  | 105 => ⟨S65536x1024, .f32⟩
  | 106 => ⟨S1x1024, .f32⟩
  | 107 => ⟨S65536x1024, .f32⟩
  | 108 => ⟨S65536x1024, .f32⟩
  | 109 => ⟨S65536x1024, .f32⟩
  | 110 => ⟨S1x1024, .f32⟩
  | 111 => ⟨S1024, .f32⟩
  | 112 => ⟨S65536x1024, .f32⟩
  | 113 => ⟨S_, .f32⟩
  | 114 => ⟨S65536, .f32⟩
  | 115 => ⟨S65536x1, .f32⟩
  | 116 => ⟨S_, .f32⟩
  | 117 => ⟨S65536x1, .f32⟩
  | 118 => ⟨S65536x1, .f32⟩
  | 119 => ⟨S_, .f32⟩
  | 120 => ⟨S65536x1, .f32⟩
  | 121 => ⟨S65536x1, .f32⟩
  | 122 => ⟨S65536x1, .f32⟩
  | 123 => ⟨S65536x1024, .f32⟩
  | 124 => ⟨S65536x1024, .f32⟩
  | 125 => ⟨S1x1024, .f32⟩
  | 126 => ⟨S65536x1024, .f32⟩
  | 127 => ⟨S65536x1024, .f32⟩
  | _ => ⟨S16x4096x1024, .f32⟩

abbrev hbmTy0_1 (i : Nat) : BufTy := match i % 128 with
  | 0 => ⟨S1x1024x5632, .f32⟩
  | 1 => ⟨S1024x5632, .f32⟩
  | 2 => ⟨S65536x5632, .f32⟩
  | 3 => ⟨S65536x2816, .f32⟩
  | 4 => ⟨S65536x2816, .f32⟩
  | 5 => ⟨S65536x2816, .f32⟩
  | 6 => ⟨S65536x2816, .f32⟩
  | 7 => ⟨S_, .f32⟩
  | 8 => ⟨S65536x2816, .f32⟩
  | 9 => ⟨S65536x2816, .f32⟩
  | 10 => ⟨S_, .f32⟩
  | 11 => ⟨S65536x2816, .f32⟩
  | 12 => ⟨S65536x2816, .f32⟩
  | 13 => ⟨S65536x2816, .f32⟩
  | 14 => ⟨S65536x2816, .f32⟩
  | 15 => ⟨S1x2816x1024, .f32⟩
  | 16 => ⟨S2816x1024, .f32⟩
  | 17 => ⟨S65536x1024, .f32⟩
  | 18 => ⟨S1x1024, .f32⟩
  | 19 => ⟨S1024, .f32⟩
  | 20 => ⟨S65536x1024, .f32⟩
  | 21 => ⟨S_, .f32⟩
  | 22 => ⟨S65536, .f32⟩
  | 23 => ⟨S65536x1, .f32⟩
  | 24 => ⟨S_, .f32⟩
  | 25 => ⟨S65536x1, .f32⟩
  | 26 => ⟨S65536x1, .f32⟩
  | 27 => ⟨S_, .f32⟩
  | 28 => ⟨S65536x1, .f32⟩
  | 29 => ⟨S65536x1, .f32⟩
  | 30 => ⟨S65536x1, .f32⟩
  | 31 => ⟨S65536x1024, .f32⟩
  | 32 => ⟨S65536x1024, .f32⟩
  | 33 => ⟨S1x1024, .f32⟩
  | 34 => ⟨S65536x1024, .f32⟩
  | 35 => ⟨S65536x1024, .f32⟩
  | 36 => ⟨S65536x1024, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_v25 : Ref sig .tc := ⟨.hbm, 44, rfl⟩
abbrev main_v26 : Ref sig .tc := ⟨.hbm, 45, rfl⟩
abbrev main_cst_4 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_5 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_v50 : Ref sig .tc := ⟨.hbm, 72, rfl⟩
abbrev main_cst_7 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_8 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_9 : Ref sig .tc := ⟨.hbm, 94, rfl⟩
abbrev main_v70 : Ref sig .tc := ⟨.hbm, 95, rfl⟩
abbrev main_v71 : Ref sig .tc := ⟨.hbm, 96, rfl⟩
abbrev main_cst_10 : Ref sig .tc := ⟨.hbm, 97, rfl⟩
abbrev main_v72 : Ref sig .tc := ⟨.hbm, 98, rfl⟩
abbrev main_v73 : Ref sig .tc := ⟨.hbm, 99, rfl⟩
abbrev main_cst_11 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_12 : Ref sig .tc := ⟨.hbm, 113, rfl⟩
abbrev main_v86 : Ref sig .tc := ⟨.hbm, 114, rfl⟩
abbrev main_v87 : Ref sig .tc := ⟨.hbm, 115, rfl⟩
abbrev main_cst_13 : Ref sig .tc := ⟨.hbm, 116, rfl⟩
abbrev main_v88 : Ref sig .tc := ⟨.hbm, 117, rfl⟩
abbrev main_v89 : Ref sig .tc := ⟨.hbm, 118, rfl⟩
abbrev main_cst_14 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_call0_v0 : Ref sig .tc := ⟨.hbm, 133, rfl⟩
abbrev main_call0_v1 : Ref sig .tc := ⟨.hbm, 134, rfl⟩
abbrev main_call0_cst : Ref sig .tc := ⟨.hbm, 135, rfl⟩
abbrev main_call0_v2 : Ref sig .tc := ⟨.hbm, 136, rfl⟩
abbrev main_call0_v3 : Ref sig .tc := ⟨.hbm, 137, rfl⟩
abbrev main_call0_cst_0 : Ref sig .tc := ⟨.hbm, 138, rfl⟩
abbrev main_call0_v4 : Ref sig .tc := ⟨.hbm, 139, rfl⟩
abbrev main_call0_v5 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_15 : Ref sig .tc := ⟨.hbm, 149, rfl⟩
abbrev main_v111 : Ref sig .tc := ⟨.hbm, 150, rfl⟩
abbrev main_v112 : Ref sig .tc := ⟨.hbm, 151, rfl⟩
abbrev main_cst_16 : Ref sig .tc := ⟨.hbm, 152, rfl⟩
abbrev main_v113 : Ref sig .tc := ⟨.hbm, 153, rfl⟩
abbrev main_v114 : Ref sig .tc := ⟨.hbm, 154, rfl⟩
abbrev main_cst_17 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩

abbrev nD : Nat := 1
abbrev τ : Topo := Topo.v7x

variable {F : FTy → Type} [FloatOps F]
-- ==== Kernel4.lean ====
abbrev S16x4096x1024 : Shape := ⟨3, ![16, 4096, 1024]⟩
abbrev S4x1024 : Shape := ⟨2, ![4, 1024]⟩
abbrev S1x1024x3072 : Shape := ⟨3, ![1, 1024, 3072]⟩
abbrev S65536x1024 : Shape := ⟨2, ![65536, 1024]⟩
abbrev S1x1024 : Shape := ⟨2, ![1, 1024]⟩
abbrev S1024 : Shape := ⟨1, ![1024]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 11
  | .vmem => 10
  | .smem => 0
  | _ => 0

abbrev bufTy : (tb : Table) → Fin (tcTables nBuf tb) → BufTy
  | .hbm, ⟨0, _⟩ => ⟨S16x4096x1024, .f32⟩
  | .hbm, ⟨1, _⟩ => ⟨S4x1024, .f32⟩
  | .hbm, ⟨2, _⟩ => ⟨S1x1024x3072, .f32⟩
  | .hbm, ⟨3, _⟩ => ⟨S65536x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S1x1024x3072, .bf16⟩
  | .hbm, ⟨8, _⟩ => ⟨S65536x1024, .bf16⟩
  | .hbm, ⟨9, _⟩ => ⟨S65536x1024, .bf16⟩
  | .hbm, ⟨10, _⟩ => ⟨S65536x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16x4096x1024 : Shape := ⟨3, ![16, 4096, 1024]⟩
abbrev S4x1024 : Shape := ⟨2, ![4, 1024]⟩
abbrev S1x1024x3072 : Shape := ⟨3, ![1, 1024, 3072]⟩
abbrev S65536x1024 : Shape := ⟨2, ![65536, 1024]⟩
abbrev S1x1024 : Shape := ⟨2, ![1, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x3072 : Shape := ⟨2, ![1024, 3072]⟩
abbrev S65536x3072 : Shape := ⟨2, ![65536, 3072]⟩

abbrev nBuf : Space → Nat
  | .hbm => 33
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S4x1024, .f32⟩
  | .hbm, ⟨2, _⟩ => ⟨S1x1024x3072, .f32⟩
  | .hbm, ⟨3, _⟩ => ⟨S65536x1024, .f32⟩
  | .hbm, ⟨4, _⟩ => ⟨S1x1024, .f32⟩
  | .hbm, ⟨5, _⟩ => ⟨S1024, .f32⟩
  | .hbm, ⟨6, _⟩ => ⟨S65536x1024, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S1024x3072, .f32⟩
  | .hbm, ⟨23, _⟩ => ⟨S65536x3072, .f32⟩
  | .hbm, ⟨24, _⟩ => ⟨S65536x1024, .f32⟩
  | .hbm, ⟨25, _⟩ => ⟨S65536x1024, .f32⟩
  | .hbm, ⟨26, _⟩ => ⟨S65536x1024, .f32⟩
  | .hbm, ⟨27, _⟩ => ⟨S_, .f32⟩
  | .hbm, ⟨28, _⟩ => ⟨S65536x1024, .f32⟩
  | .hbm, ⟨29, _⟩ => ⟨S65536x1024, .f32⟩
  | .hbm, ⟨30, _⟩ => ⟨S65536x1024, .bf16⟩
  | .hbm, ⟨31, _⟩ => ⟨S65536x1024, .bf16⟩
  | .hbm, ⟨32, _⟩ => ⟨S65536x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel5.lean ====
abbrev S16x256x1024 : Shape := ⟨3, ![16, 256, 1024]⟩
abbrev S4x1024 : Shape := ⟨2, ![4, 1024]⟩
abbrev S4x1024x2048 : Shape := ⟨3, ![4, 1024, 2048]⟩
abbrev S4x1x1024 : Shape := ⟨3, ![4, 1, 1024]⟩
abbrev S4x16x256x1024 : Shape := ⟨4, ![4, 16, 256, 1024]⟩
abbrev S1x256x1024 : Shape := ⟨3, ![1, 256, 1024]⟩
abbrev S1x1x1024 : Shape := ⟨3, ![1, 1, 1024]⟩
abbrev S1x1024x2048 : Shape := ⟨3, ![1, 1024, 2048]⟩
abbrev S1x1x256x1024 : Shape := ⟨4, ![1, 1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16x256x1024, .f32⟩
  | .hbm, ⟨1, _⟩ => ⟨S4x1024, .f32⟩
  | .hbm, ⟨2, _⟩ => ⟨S4x1024x2048, .f32⟩
  | .hbm, ⟨3, _⟩ => ⟨S4x1024x2048, .bf16⟩
  | .hbm, ⟨4, _⟩ => ⟨S4x1x1024, .f32⟩
  | .hbm, ⟨5, _⟩ => ⟨S4x16x256x1024, .bf16⟩
  | .hbm, ⟨6, _⟩ => ⟨S4x16x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x2048, .bf16⟩
  | .local _ .vmem, ⟨5, _⟩ => ⟨S1x1024x2048, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S1x1x256x1024, .bf16⟩
  | .local _ .vmem, ⟨9, _⟩ => ⟨S1x1x256x1024, .bf16⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16x256x1024 : Shape := ⟨3, ![16, 256, 1024]⟩
abbrev S4x1024 : Shape := ⟨2, ![4, 1024]⟩
abbrev S4x1024x2048 : Shape := ⟨3, ![4, 1024, 2048]⟩
abbrev S1x16x256x1024 : Shape := ⟨4, ![1, 16, 256, 1024]⟩
abbrev S4x1x1x1024 : Shape := ⟨4, ![4, 1, 1, 1024]⟩
abbrev S_ : Shape := ⟨0, ![]⟩
abbrev S1x16x256 : Shape := ⟨3, ![1, 16, 256]⟩
abbrev S1x16x256x1 : Shape := ⟨4, ![1, 16, 256, 1]⟩
abbrev S4x16x256x1024 : Shape := ⟨4, ![4, 16, 256, 1024]⟩
abbrev S4x16x256x2048 : Shape := ⟨4, ![4, 16, 256, 2048]⟩

abbrev nBuf : Space → Nat
  | .hbm => 26
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S4x1024, .f32⟩
  | .hbm, ⟨2, _⟩ => ⟨S4x1024x2048, .f32⟩
  | .hbm, ⟨3, _⟩ => ⟨S1x16x256x1024, .f32⟩
  | .hbm, ⟨4, _⟩ => ⟨S4x1x1x1024, .f32⟩
  | .hbm, ⟨5, _⟩ => ⟨S1x16x256x1024, .f32⟩
  | .hbm, ⟨6, _⟩ => ⟨S_, .f32⟩
  | .hbm, ⟨7, _⟩ => ⟨S1x16x256, .f32⟩
  | .hbm, ⟨8, _⟩ => ⟨S1x16x256x1, .f32⟩
  | .hbm, ⟨9, _⟩ => ⟨S_, .f32⟩
  | .hbm, ⟨10, _⟩ => ⟨S1x16x256x1, .f32⟩
  | .hbm, ⟨11, _⟩ => ⟨S1x16x256x1, .f32⟩
  | .hbm, ⟨12, _⟩ => ⟨S_, .f32⟩
  | .hbm, ⟨13, _⟩ => ⟨S1x16x256x1, .f32⟩
  | .hbm, ⟨14, _⟩ => ⟨S1x16x256x1, .f32⟩
  | .hbm, ⟨15, _⟩ => ⟨S1x16x256x1, .f32⟩
  | .hbm, ⟨16, _⟩ => ⟨S1x16x256x1024, .f32⟩
  | .hbm, ⟨17, _⟩ => ⟨S1x16x256x1024, .f32⟩
  | .hbm, ⟨18, _⟩ => ⟨S4x16x256x1024, .f32⟩
  | .hbm, ⟨19, _⟩ => ⟨S4x16x256x1024, .f32⟩
  | .hbm, ⟨20, _⟩ => ⟨S4x16x256x1024, .f32⟩
  | .hbm, ⟨21, _⟩ => ⟨S4x16x256x2048, .f32⟩
  | .hbm, ⟨22, _⟩ => ⟨S4x16x256x1024, .f32⟩
  | .hbm, ⟨23, _⟩ => ⟨S4x16x256x1024, .f32⟩
  | .hbm, ⟨24, _⟩ => ⟨S4x16x256x1024, .bf16⟩
  | .hbm, ⟨25, _⟩ => ⟨S4x16x256x1024, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel6.lean ====
abbrev S16x4096x1024 : Shape := ⟨3, ![16, 4096, 1024]⟩
abbrev S4x1024 : Shape := ⟨2, ![4, 1024]⟩
abbrev S1x1024x6144 : Shape := ⟨3, ![1, 1024, 6144]⟩
abbrev S1x1024x1024 : Shape := ⟨3, ![1, 1024, 1024]⟩
abbrev S65536x1024 : Shape := ⟨2, ![65536, 1024]⟩
abbrev S1x1024 : Shape := ⟨2, ![1, 1024]⟩
abbrev S1024 : Shape := ⟨1, ![1024]⟩
abbrev S4096 : Shape := ⟨1, ![4096]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S128x4096 : Shape := ⟨2, ![128, 4096]⟩
abbrev S16x1024x4096 : Shape := ⟨3, ![16, 1024, 4096]⟩
abbrev S65536x2048 : Shape := ⟨2, ![65536, 2048]⟩
abbrev S512x1024 : Shape := ⟨2, ![512, 1024]⟩
abbrev S512x128 : Shape := ⟨2, ![512, 128]⟩
abbrev S128x512 : Shape := ⟨2, ![128, 512]⟩
abbrev S1x1024x512 : Shape := ⟨3, ![1, 1024, 512]⟩
abbrev S512x2048 : Shape := ⟨2, ![512, 2048]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩
abbrev S256x512 : Shape := ⟨2, ![256, 512]⟩
abbrev S1x128x512 : Shape := ⟨3, ![1, 128, 512]⟩
abbrev S1024x512 : Shape := ⟨2, ![1024, 512]⟩
abbrev S512x512 : Shape := ⟨2, ![512, 512]⟩

abbrev nBuf : Space → Nat
  | .hbm => 32
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S4x1024, .f32⟩
  | .hbm, ⟨2, _⟩ => ⟨S1x1024x6144, .f32⟩
  | .hbm, ⟨3, _⟩ => ⟨S1x1024x6144, .bf16⟩
  | .hbm, ⟨4, _⟩ => ⟨S1x1024x1024, .bf16⟩
  | .hbm, ⟨5, _⟩ => ⟨S1x1024x1024, .bf16⟩
  | .hbm, ⟨6, _⟩ => ⟨S65536x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S4096, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S4096x1, .f32⟩
  | .hbm, ⟨20, _⟩ => ⟨S1x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S128x4096, .f32⟩
  | .hbm, ⟨27, _⟩ => ⟨S128x4096, .f32⟩
  | .hbm, ⟨28, _⟩ => ⟨S65536x1024, .bf16⟩
  | .hbm, ⟨29, _⟩ => ⟨S16x1024x4096, .bf16⟩
  | .hbm, ⟨30, _⟩ => ⟨S65536x2048, .bf16⟩
  | .hbm, ⟨31, _⟩ => ⟨S65536x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x6144, .bf16⟩
  | .local _ .vmem, ⟨4, _⟩ => ⟨S1x1024x1024, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S512x1024, .bf16⟩
  | .local _ .vmem, ⟨14, _⟩ => ⟨S512x1024, .bf16⟩
  | .local _ .vmem, ⟨15, _⟩ => ⟨S1x1024x512, .bf16⟩
  | .local _ .vmem, ⟨16, _⟩ => ⟨S1x1024x512, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .f32⟩
  | .local _ .vmem, ⟨20, _⟩ => ⟨S512x2048, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23_0 : Ref sig .tc := ⟨.hbm, 28, rfl⟩
abbrev main_v23_1 : Ref sig .tc := ⟨.hbm, 29, rfl⟩
abbrev main_v23_2 : Ref sig .tc := ⟨.hbm, 30, rfl⟩
abbrev main_v23_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S16x4096x1024 : Shape := ⟨3, ![16, 4096, 1024]⟩
abbrev S4x1024 : Shape := ⟨2, ![4, 1024]⟩
abbrev S1x1024x6144 : Shape := ⟨3, ![1, 1024, 6144]⟩
abbrev S1x1024 : Shape := ⟨2, ![1, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1024x6144 : Shape := ⟨2, ![1024, 6144]⟩
abbrev S16x4096x6144 : Shape := ⟨3, ![16, 4096, 6144]⟩
abbrev S16x4096x2048 : Shape := ⟨3, ![16, 4096, 2048]⟩
abbrev S4096 : Shape := ⟨1, ![4096]⟩
abbrev S16x4096x4x256 : Shape := ⟨4, ![16, 4096, 4, 256]⟩
abbrev S16x4x4096x256 : Shape := ⟨4, ![16, 4, 4096, 256]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S16x4x4096x128 : Shape := ⟨4, ![16, 4, 4096, 128]⟩
abbrev S1x1x4096x128 : Shape := ⟨4, ![1, 1, 4096, 128]⟩
abbrev S65536x1024 : Shape := ⟨2, ![65536, 1024]⟩
abbrev S16x4x256x4096 : Shape := ⟨4, ![16, 4, 256, 4096]⟩
abbrev S16x1024x4096 : Shape := ⟨3, ![16, 1024, 4096]⟩
abbrev S65536x2048 : Shape := ⟨2, ![65536, 2048]⟩

abbrev nBuf : Space → Nat
  | .hbm => 117
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S4x1024, .f32⟩
  | .hbm, ⟨2, _⟩ => ⟨S1x1024x6144, .f32⟩
  | .hbm, ⟨3, _⟩ => ⟨S1x1024, .f32⟩
  | .hbm, ⟨4, _⟩ => ⟨S1024, .f32⟩
  | .hbm, ⟨5, _⟩ => ⟨S16x4096x1024, .f32⟩
  | .hbm, ⟨6, _⟩ => ⟨S_, .f32⟩
  | .hbm, ⟨7, _⟩ => ⟨S16x4096, .f32⟩
  | .hbm, ⟨8, _⟩ => ⟨S16x4096x1, .f32⟩
  | .hbm, ⟨9, _⟩ => ⟨S_, .f32⟩
  | .hbm, ⟨10, _⟩ => ⟨S16x4096x1, .f32⟩
  | .hbm, ⟨11, _⟩ => ⟨S16x4096x1, .f32⟩
  | .hbm, ⟨12, _⟩ => ⟨S_, .f32⟩
  | .hbm, ⟨13, _⟩ => ⟨S16x4096x1, .f32⟩
  | .hbm, ⟨14, _⟩ => ⟨S16x4096x1, .f32⟩
  | .hbm, ⟨15, _⟩ => ⟨S16x4096x1, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | .hbm, ⟨21, _⟩ => ⟨S1024x6144, .f32⟩
  | .hbm, ⟨22, _⟩ => ⟨S16x4096x6144, .f32⟩
  | .hbm, ⟨23, _⟩ => ⟨S16x4096x1024, .f32⟩
  | .hbm, ⟨24, _⟩ => ⟨S16x4096x1024, .f32⟩
  | .hbm, ⟨25, _⟩ => ⟨S16x4096x2048, .f32⟩
  | .hbm, ⟨26, _⟩ => ⟨S16x4096x2048, .f32⟩
  | .hbm, ⟨27, _⟩ => ⟨S4096, .f32⟩
  | .hbm, ⟨28, _⟩ => ⟨S16x4096x4x256, .f32⟩
  | .hbm, ⟨29, _⟩ => ⟨S16x4x4096x256, .f32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S4096x1, .f32⟩
  | .hbm, ⟨39, _⟩ => ⟨S1x128, .f32⟩
  | .hbm, ⟨40, _⟩ => ⟨S4096x128, .f32⟩
  | .hbm, ⟨41, _⟩ => ⟨S4096x128, .f32⟩
  | .hbm, ⟨42, _⟩ => ⟨S4096x128, .f32⟩
  | .hbm, ⟨43, _⟩ => ⟨S4096x128, .f32⟩
  | .hbm, ⟨44, _⟩ => ⟨S4096x128, .f32⟩
  | .hbm, ⟨45, _⟩ => ⟨S16x4x4096x128, .f32⟩
  | .hbm, ⟨46, _⟩ => ⟨S16x4x4096x128, .f32⟩
  | .hbm, ⟨47, _⟩ => ⟨S1x1x4096x128, .f32⟩
  | .hbm, ⟨48, _⟩ => ⟨S16x4x4096x128, .f32⟩
  | .hbm, ⟨49, _⟩ => ⟨S16x4x4096x128, .f32⟩
  | .hbm, ⟨50, _⟩ => ⟨S1x1x4096x128, .f32⟩
  | .hbm, ⟨51, _⟩ => ⟨S16x4x4096x128, .f32⟩
  | .hbm, ⟨52, _⟩ => ⟨S16x4x4096x128, .f32⟩
  | .hbm, ⟨53, _⟩ => ⟨S16x4x4096x128, .f32⟩
  | .hbm, ⟨54, _⟩ => ⟨S1x1x4096x128, .f32⟩
  | .hbm, ⟨55, _⟩ => ⟨S16x4x4096x128, .f32⟩
  | .hbm, ⟨56, _⟩ => ⟨S16x4x4096x128, .f32⟩
  | .hbm, ⟨57, _⟩ => ⟨S1x1x4096x128, .f32⟩
  | .hbm, ⟨58, _⟩ => ⟨S16x4x4096x128, .f32⟩
  | .hbm, ⟨59, _⟩ => ⟨S16x4x4096x128, .f32⟩
  | .hbm, ⟨60, _⟩ => ⟨S16x4x4096x128, .f32⟩
  | .hbm, ⟨61, _⟩ => ⟨S16x4x4096x256, .f32⟩
  | .hbm, ⟨62, _⟩ => ⟨S16x4096x4x256, .f32⟩
  | .hbm, ⟨63, _⟩ => ⟨S16x4x4096x256, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S_, .f32⟩
  | .hbm, ⟨70, _⟩ => ⟨S128, .f32⟩
  | .hbm, ⟨71, _⟩ => ⟨S128, .f32⟩
  | .hbm, ⟨72, _⟩ => ⟨S4096x1, .f32⟩
  | .hbm, ⟨73, _⟩ => ⟨S1x128, .f32⟩
  | .hbm, ⟨74, _⟩ => ⟨S4096x128, .f32⟩
  | .hbm, ⟨75, _⟩ => ⟨S4096x128, .f32⟩
  | .hbm, ⟨76, _⟩ => ⟨S4096x128, .f32⟩
  | .hbm, ⟨77, _⟩ => ⟨S4096x128, .f32⟩
  | .hbm, ⟨78, _⟩ => ⟨S4096x128, .f32⟩
  | .hbm, ⟨79, _⟩ => ⟨S16x4x4096x128, .f32⟩
  | .hbm, ⟨80, _⟩ => ⟨S16x4x4096x128, .f32⟩
  | .hbm, ⟨81, _⟩ => ⟨S1x1x4096x128, .f32⟩
  | .hbm, ⟨82, _⟩ => ⟨S16x4x4096x128, .f32⟩
  | .hbm, ⟨83, _⟩ => ⟨S16x4x4096x128, .f32⟩
  | .hbm, ⟨84, _⟩ => ⟨S1x1x4096x128, .f32⟩
  | .hbm, ⟨85, _⟩ => ⟨S16x4x4096x128, .f32⟩
  | .hbm, ⟨86, _⟩ => ⟨S16x4x4096x128, .f32⟩
  | .hbm, ⟨87, _⟩ => ⟨S16x4x4096x128, .f32⟩
  | .hbm, ⟨88, _⟩ => ⟨S1x1x4096x128, .f32⟩
  | .hbm, ⟨89, _⟩ => ⟨S16x4x4096x128, .f32⟩
  | .hbm, ⟨90, _⟩ => ⟨S16x4x4096x128, .f32⟩
  | .hbm, ⟨91, _⟩ => ⟨S1x1x4096x128, .f32⟩
  | .hbm, ⟨92, _⟩ => ⟨S16x4x4096x128, .f32⟩
  | .hbm, ⟨93, _⟩ => ⟨S16x4x4096x128, .f32⟩
  | .hbm, ⟨94, _⟩ => ⟨S16x4x4096x128, .f32⟩
  | .hbm, ⟨95, _⟩ => ⟨S16x4x4096x256, .f32⟩
  | .hbm, ⟨96, _⟩ => ⟨S_, .f32⟩
  | .hbm, ⟨97, _⟩ => ⟨S16x4x4096x256, .f32⟩
  | .hbm, ⟨98, _⟩ => ⟨S16x4x4096x256, .f32⟩
  | .hbm, ⟨99, _⟩ => ⟨S16x4096x2048, .f32⟩
  | .hbm, ⟨100, _⟩ => ⟨S16x4096x2048, .f32⟩
  | .hbm, ⟨101, _⟩ => ⟨S_, .f32⟩
  | .hbm, ⟨102, _⟩ => ⟨S16x4096x2048, .f32⟩
  | .hbm, ⟨103, _⟩ => ⟨S16x4096x2048, .f32⟩
  | .hbm, ⟨104, _⟩ => ⟨S_, .f32⟩
  | .hbm, ⟨105, _⟩ => ⟨S16x4096x2048, .f32⟩
  | .hbm, ⟨106, _⟩ => ⟨S16x4096x2048, .f32⟩
  | .hbm, ⟨107, _⟩ => ⟨S16x4096x2048, .f32⟩
  | .hbm, ⟨108, _⟩ => ⟨S16x4096x4x256, .f32⟩
  | .hbm, ⟨109, _⟩ => ⟨S65536x1024, .f32⟩
  | .hbm, ⟨110, _⟩ => ⟨S16x4x256x4096, .f32⟩
  | .hbm, ⟨111, _⟩ => ⟨S16x1024x4096, .f32⟩
  | .hbm, ⟨112, _⟩ => ⟨S65536x1024, .bf16⟩
  | .hbm, ⟨113, _⟩ => ⟨S16x1024x4096, .bf16⟩
  | .hbm, ⟨114, _⟩ => ⟨S65536x2048, .f32⟩
  | .hbm, ⟨115, _⟩ => ⟨S65536x2048, .bf16⟩
  | .hbm, ⟨116, _⟩ => ⟨S65536x2048, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_cst_3 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_6 : Ref sig .tc := ⟨.hbm, 96, rfl⟩
abbrev main_v86 : Ref sig .tc := ⟨.hbm, 97, rfl⟩
abbrev main_v87 : Ref sig .tc := ⟨.hbm, 98, rfl⟩
abbrev main_call0_v0 : Ref sig .tc := ⟨.hbm, 99, rfl⟩
abbrev main_call0_v1 : Ref sig .tc := ⟨.hbm, 100, rfl⟩
abbrev main_call0_cst : Ref sig .tc := ⟨.hbm, 101, rfl⟩
abbrev main_call0_v2 : Ref sig .tc := ⟨.hbm, 102, rfl⟩
abbrev main_call0_v3 : Ref sig .tc := ⟨.hbm, 103, rfl⟩
abbrev main_call0_cst_0 : Ref sig .tc := ⟨.hbm, 104, rfl⟩
abbrev main_call0_v4 : Ref sig .tc := ⟨.hbm, 105, rfl⟩
abbrev main_call0_v5 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩

abbrev nD : Nat := 1
abbrev τ : Topo := Topo.v7x

variable {F : FTy → Type} [FloatOps F]
-- ==== Proof.Terms.lean ====
module

public import proofs.«01_k».proof.Proof.Gen.KernelIdeal.Frame
public import proofs.«01_k».proof.Proof.Gen.KernelIdeal.Skeleton

/-!
The values one grid point computes, named: the attention half of a point (`attX`, `attH`: what it stores into
the two-slot buffers) and the feed-forward half (`swi`: what it stores into the output window, from the slot
the point before filled). Each is a composition of the printed body's own expressions over slices of the
resident weights.
-/

@[expose] public section

set_option maxRecDepth 16384

noncomputable section

namespace Cert.KernelIdeal.Body

open Cert.KernelIdeal Cert.KernelIdeal.Gen
open Idealize.ShloMosaic

variable {F : FTy → Type} [FloatOps F]

/-- One head's 256 columns of the memory keys or values, from column `o` on. -/
def memHead (o : ℕ) (ho : ∀ a, (![0, 0, 0, o] : Fin 4 → ℕ) a + S1x1x256x256.size a ≤ S1x1x256x1024.size a)
    (x : Vec F S1x1x256x1024 .bf16) : Vec F S1x1x256x256 .bf16 :=
  View.ld x (Rect.unit (s := S1x1x256x1024) ![0, 0, 0, o] S1x1x256x256.size ho)

/-- One head's 256 rows of the attention's output projection. -/
def outRows (o : ℕ) (ho : ∀ a, (![0, o, 0] : Fin 3 → ℕ) a + S1x256x1024.size a ≤ S1x1024x1024.size a)
    (x : Vec F S1x1024x1024 .bf16) : Vec F S1x256x1024 .bf16 :=
  View.ld x (Rect.unit (s := S1x1024x1024) ![0, o, 0] S1x256x1024.size ho)

/-- 256 columns of the feed-forward's input weights. -/
def gateW (o : ℕ) (ho : ∀ a, (![0, 0, o] : Fin 3 → ℕ) a + S1x1024x256.size a ≤ S1x1024x5632.size a)
    (x : Vec F S1x1024x5632 .bf16) : Vec F S1x1024x256 .bf16 :=
  View.ld x (Rect.unit (s := S1x1024x5632) ![0, 0, o] S1x1024x256.size ho)

/-- 256 rows of the feed-forward's output weights. -/
def downW (o : ℕ) (ho : ∀ a, (![0, o, 0] : Fin 3 → ℕ) a + S1x256x1024.size a ≤ S1x2816x1024.size a)
    (x : Vec F S1x2816x1024 .bf16) : Vec F S1x256x1024 .bf16 :=
  View.ld x (Rect.unit (s := S1x2816x1024) ![0, o, 0] S1x256x1024.size ho)

/-- One slot of a two-slot buffer, the one at the offset `off`. -/
def slot {e : EltTy} (off : Fin 3 → ℕ) (ho : ∀ a, off a + S1x512x1024.size a ≤ S2x512x1024.size a)
    (D : Vec F S2x512x1024 e) : Vec F S1x512x1024 e :=
  View.ld D (Rect.unit (s := S2x512x1024) off S1x512x1024.size ho)

/-- The four heads' weighted values, from the normalised rows `q`. -/
def head0 (q : FVec F S512x1024 .bf16) (Wq : Vec F S1x1024x1024 .bf16) (K V : Vec F S1x1x256x1024 .bf16) : FVec F S512x256 .bf16 :=
  k0_pay30 (k0_pay19 (k0_pay12 q Wq (memHead 0 (by decide) K))) (memHead 0 (by decide) V)
/-- The second head. -/
def head1 (q : FVec F S512x1024 .bf16) (Wq : Vec F S1x1024x1024 .bf16) (K V : Vec F S1x1x256x1024 .bf16) : FVec F S512x256 .bf16 :=
  k0_pay31 (k0_pay20 (k0_pay14 (k0_pay13 q Wq) (memHead 256 (by decide) K))) (memHead 256 (by decide) V)
/-- The third head. -/
def head2 (q : FVec F S512x1024 .bf16) (Wq : Vec F S1x1024x1024 .bf16) (K V : Vec F S1x1x256x1024 .bf16) : FVec F S512x256 .bf16 :=
  k0_pay32 (k0_pay21 (k0_pay15 (k0_pay10 q Wq) (memHead 512 (by decide) K))) (memHead 512 (by decide) V)
/-- The last head. -/
def head3 (q : FVec F S512x1024 .bf16) (Wq : Vec F S1x1024x1024 .bf16) (K V : Vec F S1x1x256x1024 .bf16) : FVec F S512x256 .bf16 :=
  k0_pay33 (k0_pay24 (k0_pay22 (k0_pay16 (k0_pay10 q Wq) (memHead 768 (by decide) K)))
    (k0_pay23 (k0_pay16 (k0_pay10 q Wq) (memHead 768 (by decide) K))) (Scalar.ofBits .f32 0x3F800000#32)) (memHead 768 (by decide) V)

/-- The attention's projected output before its norm. -/
def attC (q : FVec F S512x1024 .bf16) (K V : Vec F S1x1x256x1024 .bf16) (Wq Wo : Vec F S1x1024x1024 .bf16) : FVec F S512x1024 .f32 :=
  k0_pay36 (head0 q Wq K V) (head1 q Wq K V) (head2 q Wq K V) (head3 q Wq K V)
    (outRows 0 (by decide) Wo) (outRows 256 (by decide) Wo) (outRows 512 (by decide) Wo) (outRows 768 (by decide) Wo)

/-- What a point stores into its slot of the residual buffer. -/
def attX (x m : Vec F S512x1024 .f32) (g1 g2 g3 : Vec F S1x1x1024 .f32) (K V : Vec F S1x1x256x1024 .bf16) (Wq Wo : Vec F S1x1024x1024 .bf16) : FVec F S1x512x1024 .f32 :=
  k0_pay39 (k0_pay5 x m g1) (attC (k0_pay6 x m g1 g2) K V Wq Wo) g3

/-- What a point stores into its slot of the normalised-rows buffer. -/
def attH (x m : Vec F S512x1024 .f32) (g1 g2 g3 g4 : Vec F S1x1x1024 .f32) (K V : Vec F S1x1x256x1024 .bf16) (Wq Wo : Vec F S1x1024x1024 .bf16) : FVec F S1x512x1024 .bf16 :=
  k0_pay40 (k0_pay38 (k0_pay5 x m g1) (attC (k0_pay6 x m g1 g2) K V Wq Wo) g3) g4

/-- The feed-forward's running sum after its first nine chunks. -/
def swi9 (H : Vec F S1x512x1024 .bf16) (Win : Vec F S1x1024x5632 .bf16) (Wout : Vec F S1x2816x1024 .bf16) : FVec F S512x1024 .f32 :=
  k0_pay37 (k0_pay35 (k0_pay29 (k0_pay25 (k0_pay18 (k0_pay11 (k0_pay9
    (k0_pay4 H (gateW 0 (by decide) Win) (gateW 2816 (by decide) Win) (downW 0 (by decide) Wout))
    (k0_pay7 H) (k0_pay8 (gateW 256 (by decide) Win)) (constant S512x256 .f32 0x00000000#32) (gateW 3072 (by decide) Win) (downW 256 (by decide) Wout)
    H (gateW 512 (by decide) Win) (gateW 3328 (by decide) Win) (downW 512 (by decide) Wout))
    H (gateW 768 (by decide) Win) (gateW 3584 (by decide) Win) (downW 768 (by decide) Wout))
    (k0_pay17 H (gateW 1024 (by decide) Win) (gateW 3840 (by decide) Win)) (downW 1024 (by decide) Wout))
    H (gateW 1280 (by decide) Win) (gateW 4096 (by decide) Win) (downW 1280 (by decide) Wout))
    (k0_pay27 H (gateW 1536 (by decide) Win)) (k0_pay28 H (gateW 4352 (by decide) Win)) (Scalar.ofBits .f32 0x3F000000#32) (downW 1536 (by decide) Wout))
    (k0_pay34 H) (gateW 1792 (by decide) Win) (gateW 4608 (by decide) Win) (downW 1792 (by decide) Wout))
    H (gateW 2048 (by decide) Win) (gateW 4864 (by decide) Win) (downW 2048 (by decide) Wout)

/-- What a point stores into the output window, from the slot the point before filled. -/
def swi (H : Vec F S1x512x1024 .bf16) (X : Vec F S1x512x1024 .f32) (Win : Vec F S1x1024x5632 .bf16) (Wout : Vec F S1x2816x1024 .bf16) (g5 : Vec F S1x1x1024 .f32) : FVec F S512x1024 .f32 :=
  k0_pay1
    (k0_pay43 (swi9 H Win Wout) (k0_pay41 H (gateW 2304 (by decide) Win) (gateW 5120 (by decide) Win)) (k0_pay42 (downW 2304 (by decide) Wout)) H (gateW 2560 (by decide) Win) (gateW 5376 (by decide) Win) (downW 2560 (by decide) Wout))
    (k0_pay44 X) (k0_pay45 g5)
    (k0_pay46 (swi9 H Win Wout) (k0_pay41 H (gateW 2304 (by decide) Win) (gateW 5120 (by decide) Win)) (k0_pay42 (downW 2304 (by decide) Wout)) H (gateW 2560 (by decide) Win) (gateW 5376 (by decide) Win) (downW 2560 (by decide) Wout))

end Cert.KernelIdeal.Body

end
-- ==== Proof.Slots.lean ====
module

public import proofs.«01_k».proof.Proof.Terms
public import Idealize.ShloMosaic.Lib.Pipeline.ValueKit
public import Idealize.ShloMosaic.Lib.WritesUnit

/-!
Reading one slot of a two-slot buffer after a store into a slot: the same slot holds what was stored, the other
slot is as it was.
-/

@[expose] public section

noncomputable section

namespace Cert.KernelIdeal.Body

open Cert.KernelIdeal Cert.KernelIdeal.Gen
open Idealize.ShloMosaic

variable {F : FTy → Type} [FloatOps F] {e : EltTy} {κ : Kind} {sp : Space}

/-- The slot just stored holds the payload. -/
theorem slot_hit (v : View sig κ sp S2x512x1024 e) (f : v.ty.Contents (Elt F)) (off off' : Fin 3 → ℕ)
    (inb : ∀ a, off a + S1x512x1024.size a ≤ S2x512x1024.size a) (inb' : ∀ a, off' a + S1x512x1024.size a ≤ S2x512x1024.size a)
    (w : Vec F S1x512x1024 e) (L : List (View.Piece (Elt F) S2x512x1024 e)) (h : off' = off) :
    v.readAt (Elt F) (Rect.unit (s := S2x512x1024) off S1x512x1024.size inb).toLoadRect
      (v.writes (Elt F) f (⟨Rect.unit (s := S2x512x1024) off' S1x512x1024.size inb', w⟩ :: L)) = w := by
  rw [View.readAt_eq_ld]
  funext y
  refine View.read_writes_cons_unit_of_mem v f inb' w L _ y h fun a => ?_
  show off a + 1 * (y a).val = _
  omega

/-- A slot other than the one just stored holds what it held before. -/
theorem slot_skip (v : View sig κ sp S2x512x1024 e) (f : v.ty.Contents (Elt F)) (off off' : Fin 3 → ℕ)
    (inb : ∀ a, off a + S1x512x1024.size a ≤ S2x512x1024.size a) (inb' : ∀ a, off' a + S1x512x1024.size a ≤ S2x512x1024.size a)
    (w : Vec F S1x512x1024 e) (L : List (View.Piece (Elt F) S2x512x1024 e)) (h : off 0 ≠ off' 0) :
    v.readAt (Elt F) (Rect.unit (s := S2x512x1024) off S1x512x1024.size inb).toLoadRect
      (v.writes (Elt F) f (⟨Rect.unit (s := S2x512x1024) off' S1x512x1024.size inb', w⟩ :: L))
      = v.readAt (Elt F) (Rect.unit (s := S2x512x1024) off S1x512x1024.size inb).toLoadRect (v.writes (Elt F) f L) := by
  rw [View.readAt_eq_ld, View.readAt_eq_ld]
  funext y
  refine View.read_writes_cons_unit_of_not_mem v f inb' w L _ rfl 0 ?_
  have h0 : (y 0).val < 1 := (y 0).isLt
  show off 0 + 1 * (y 0).val < off' 0 ∨ off' 0 + 1 ≤ off 0 + 1 * (y 0).val
  omega

/-- The slot a point reads. -/
theorem off1_eq : ∀ i : grid0.Coords, k0_off1 i = ![1 - (i 0).val % 2, 0, 0] := by decide +kernel
/-- The slot a point fills. -/
theorem off2_eq : ∀ i : grid0.Coords, k0_off2 i = ![(i 0).val % 2, 0, 0] := by decide +kernel
instance closedOff_1 (i : grid0.Coords) : ClosedOff (k0_off1 i) := ⟨![1 - (i 0).val % 2, 0, 0], off1_eq i⟩
instance closedOff_2 (i : grid0.Coords) : ClosedOff (k0_off2 i) := ⟨![(i 0).val % 2, 0, 0], off2_eq i⟩

/-- A point reads one slot and fills the other. -/
theorem off_ne (i : grid0.Coords) : k0_off1 i 0 ≠ k0_off2 i 0 := by
  rw [off1_eq, off2_eq]
  show 1 - (i 0).val % 2 ≠ (i 0).val % 2
  omega

/-- The first grid point, as the body tests for it. -/
abbrev cond (i : grid0.Coords) : Prop := (Scalar.cmpi .ne (Scalar.extui (Scalar.cmpi .eq (BitVec.ofNat 32 (i 0).val) 0#32)) 0#32) = 1#1

/-- At the first point the slot read is the one the zero stores fill. -/
theorem off1_first : ∀ i : grid0.Coords, cond i → k0_off1 i = ![1, 0, 0] := by decide +kernel

end Cert.KernelIdeal.Body

end
-- ==== Proof.RunNext.lean ====
module

public import proofs.«01_k».proof.Proof.Slots
public import Idealize.ShloMosaic.Lib.Pipeline.ValueKit
public import Idealize.ShloMosaic.Lib.Tactic

/-!
One grid point's run: the body reads the slot the point before filled, stores the feed-forward of it into the
output window and fills its own slot with the attention half of its rows.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A point after the first runs; what it stores is the run's own finding. -/
def runNext (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x256x1024 .bf16) (harg8 : arg8.IsWhole)
    (arg9 : Memref sig .tc .vmem S1x1x256x1024 .bf16) (harg9 : arg9.IsWhole)
    (arg10 : Memref sig .tc .vmem S1x1024x1024 .bf16) (harg10 : arg10.IsWhole)
    (arg11 : Memref sig .tc .vmem S1x1024x1024 .bf16) (harg11 : arg11.IsWhole)
    (arg12 : Memref sig .tc .vmem S1x1024x5632 .bf16) (harg12 : arg12.IsWhole)
    (arg13 : Memref sig .tc .vmem S1x2816x1024 .bf16) (harg13 : arg13.IsWhole)
    (arg14 : Memref sig .tc .vmem S512x1024 .f32) (harg14 : arg14.IsWhole)
    (arg15 : Memref sig .tc .vmem S2x512x1024 .f32) (harg15 : arg15.IsWhole)
    (arg16 : Memref sig .tc .vmem S2x512x1024 .bf16) (harg16 : arg16.IsWhole)
    (hc : ¬cond i)
    (x1 : Vec F S512x1024 .f32) (x2 : Vec F S512x1024 .f32) (x3 : Vec F S1x1x1024 .f32) (x4 : Vec F S1x1x1024 .f32) (x5 : Vec F S1x1x1024 .f32) (x6 : Vec F S1x1x1024 .f32) (x7 : Vec F S1x1x1024 .f32) (x8 : Vec F S1x1x256x1024 .bf16) (x9 : Vec F S1x1x256x1024 .bf16) (x10 : Vec F S1x1024x1024 .bf16) (x11 : Vec F S1x1024x1024 .bf16) (x12 : Vec F S1x1024x5632 .bf16) (x13 : Vec F S1x2816x1024 .bf16) (xb : Vec F S2x512x1024 .f32) (hb : Vec F S2x512x1024 .bf16) :
    Σ' (L14 : List (View.Piece (Elt F) S512x1024 .f32)) (L15 : List (View.Piece (Elt F) S2x512x1024 .f32)), { L16 : List (View.Piece (Elt F) S2x512x1024 .bf16) //
    ∀ (E : Set ℕ) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare xb ∗ owns (c : Thread nD τ) arg16 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc c.tc ↦[arg14.view.set]{fullShare} arg14.view.writes (Elt F) f L14)
          ∗ (arg15.view.loc c.tc ↦[arg15.view.set]{fullShare} arg15.view.writes (Elt F) (harg15.unread xb) L15)
          ∗ (arg16.view.loc c.tc ↦[arg16.view.set]{fullShare} arg16.view.writes (Elt F) (harg16.unread hb) L16)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_post_mixer_eq_skeleton]; unfold cc0_post_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg16.eq_unread hf16
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexact H15
    iexact H16

end Cert.KernelIdeal.Body

end
-- ==== Proof.StoresNext.lean ====
module

public import proofs.«01_k».proof.Proof.RunNext

/-!
What a point after the first stores, as the named values.
-/

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

variable (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x256x1024 .bf16) (harg8 : arg8.IsWhole)
    (arg9 : Memref sig .tc .vmem S1x1x256x1024 .bf16) (harg9 : arg9.IsWhole)
    (arg10 : Memref sig .tc .vmem S1x1024x1024 .bf16) (harg10 : arg10.IsWhole)
    (arg11 : Memref sig .tc .vmem S1x1024x1024 .bf16) (harg11 : arg11.IsWhole)
    (arg12 : Memref sig .tc .vmem S1x1024x5632 .bf16) (harg12 : arg12.IsWhole)
    (arg13 : Memref sig .tc .vmem S1x2816x1024 .bf16) (harg13 : arg13.IsWhole)
    (arg14 : Memref sig .tc .vmem S512x1024 .f32) (harg14 : arg14.IsWhole)
    (arg15 : Memref sig .tc .vmem S2x512x1024 .f32) (harg15 : arg15.IsWhole)
    (arg16 : Memref sig .tc .vmem S2x512x1024 .bf16) (harg16 : arg16.IsWhole)
  (hc : ¬cond i) (x1 : Vec F S512x1024 .f32) (x2 : Vec F S512x1024 .f32) (x3 : Vec F S1x1x1024 .f32) (x4 : Vec F S1x1x1024 .f32) (x5 : Vec F S1x1x1024 .f32) (x6 : Vec F S1x1x1024 .f32) (x7 : Vec F S1x1x1024 .f32) (x8 : Vec F S1x1x256x1024 .bf16) (x9 : Vec F S1x1x256x1024 .bf16) (x10 : Vec F S1x1024x1024 .bf16) (x11 : Vec F S1x1024x1024 .bf16) (x12 : Vec F S1x1024x5632 .bf16) (x13 : Vec F S1x2816x1024 .bf16)
  (xb : Vec F S2x512x1024 .f32) (hb : Vec F S2x512x1024 .bf16)

set_option maxHeartbeats 1000000 in
/-- The residual slot gets the attention half. -/
theorem resid_next : (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb).2.1 = [⟨Rect.unit (s := S2x512x1024) (k0_off2 i) S1x512x1024.size (k0_off2_inb i), attX x1 x2 x3 x4 x5 x8 x9 x10 x11⟩] := by
  unfold runNext
  dsimp only
  simp only [runNext.sl.r, runNext.sl.r_1, runNext.sl.r_2, runNext.sl.r_3, runNext.sl.r_4, runNext.sl.r_5, runNext.sl.r_6, runNext.sl.r_7, runNext.sl.r_8, runNext.sl.r_9, runNext.sl.r_10, runNext.sl.r_11, runNext.sl.r_12, runNext.sl.r_13, runNext.sl.r_14, runNext.sl.r_15, runNext.sl.r_16, runNext.sl.r_17, runNext.sl.r_18, runNext.sl.r_19, runNext.sl.r_20, runNext.sl.r_21, runNext.sl.r_22, runNext.sl.r_23, runNext.sl.r_24, runNext.sl.r_25, runNext.sl.r_26, runNext.sl.r_27, runNext.sl.r_28, runNext.sl.r_29, runNext.sl.r_30, runNext.sl.r_31, runNext.sl.r_32, runNext.sl.r_33, runNext.sl.r_34, runNext.sl.r_35, runNext.sl.r_36, runNext.sl.r_37, runNext.sl.r_38, runNext.sl.r_39, runNext.sl.r_40, runNext.sl.r_41, runNext.sl.cst_38, runNext.sl.cst_125, runNext.sl.cst_147, runNext.sl.H15_1, runNext.sl.H16_1, slot_skip _ _ _ _ _ _ _ _ (off_ne i), View.writes_nil]
  simp (disch := decide) only [View.readAt_eq_ld, Memref.IsWhole.read_unread, View.ld_unit_lit']
  rfl

set_option maxHeartbeats 1000000 in
/-- The normalised slot gets the attention half's norm. -/
theorem normed_next : (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb).2.2.val = [⟨Rect.unit (s := S2x512x1024) (k0_off2 i) S1x512x1024.size (k0_off2_inb i), attH x1 x2 x3 x4 x5 x6 x8 x9 x10 x11⟩] := by
  unfold runNext
  dsimp only
  simp only [runNext.sl.r, runNext.sl.r_1, runNext.sl.r_2, runNext.sl.r_3, runNext.sl.r_4, runNext.sl.r_5, runNext.sl.r_6, runNext.sl.r_7, runNext.sl.r_8, runNext.sl.r_9, runNext.sl.r_10, runNext.sl.r_11, runNext.sl.r_12, runNext.sl.r_13, runNext.sl.r_14, runNext.sl.r_15, runNext.sl.r_16, runNext.sl.r_17, runNext.sl.r_18, runNext.sl.r_19, runNext.sl.r_20, runNext.sl.r_21, runNext.sl.r_22, runNext.sl.r_23, runNext.sl.r_24, runNext.sl.r_25, runNext.sl.r_26, runNext.sl.r_27, runNext.sl.r_28, runNext.sl.r_29, runNext.sl.r_30, runNext.sl.r_31, runNext.sl.r_32, runNext.sl.r_33, runNext.sl.r_34, runNext.sl.r_35, runNext.sl.r_36, runNext.sl.r_37, runNext.sl.r_38, runNext.sl.r_39, runNext.sl.r_40, runNext.sl.r_41, runNext.sl.cst_38, runNext.sl.cst_125, runNext.sl.cst_147, runNext.sl.H15_1, runNext.sl.H16_1, slot_skip _ _ _ _ _ _ _ _ (off_ne i), View.writes_nil]
  simp (disch := decide) only [View.readAt_eq_ld, Memref.IsWhole.read_unread, View.ld_unit_lit']
  rfl

set_option maxHeartbeats 1000000 in
/-- The output window gets the feed-forward of the slot read. -/
theorem out_next : (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb).1 = [⟨Rect.unit (s := S512x1024) ![0, 0] S512x1024.size inb_S512x1024_S512x1024_0_0,
    swi (slot (k0_off1 i) (k0_off1_inb i) hb) (slot (k0_off1 i) (k0_off1_inb i) xb) x12 x13 x7⟩] := by
  unfold runNext
  dsimp only
  simp only [runNext.sl.r, runNext.sl.r_1, runNext.sl.r_2, runNext.sl.r_3, runNext.sl.r_4, runNext.sl.r_5, runNext.sl.r_6, runNext.sl.r_7, runNext.sl.r_8, runNext.sl.r_9, runNext.sl.r_10, runNext.sl.r_11, runNext.sl.r_12, runNext.sl.r_13, runNext.sl.r_14, runNext.sl.r_15, runNext.sl.r_16, runNext.sl.r_17, runNext.sl.r_18, runNext.sl.r_19, runNext.sl.r_20, runNext.sl.r_21, runNext.sl.r_22, runNext.sl.r_23, runNext.sl.r_24, runNext.sl.r_25, runNext.sl.r_26, runNext.sl.r_27, runNext.sl.r_28, runNext.sl.r_29, runNext.sl.r_30, runNext.sl.r_31, runNext.sl.r_32, runNext.sl.r_33, runNext.sl.r_34, runNext.sl.r_35, runNext.sl.r_36, runNext.sl.r_37, runNext.sl.r_38, runNext.sl.r_39, runNext.sl.r_40, runNext.sl.r_41, runNext.sl.cst_38, runNext.sl.cst_125, runNext.sl.cst_147, runNext.sl.H15_1, runNext.sl.H16_1, slot_skip _ _ _ _ _ _ _ _ (off_ne i), View.writes_nil]
  simp (disch := decide) only [View.readAt_eq_ld, Memref.IsWhole.read_unread, View.ld_unit_lit']
  rfl

end Cert.KernelIdeal.Body

end
-- ==== Proof.RunFirst.lean ====
module

public import proofs.«01_k».proof.Proof.Slots
public import Idealize.ShloMosaic.Lib.Pipeline.ValueKit
public import Idealize.ShloMosaic.Lib.Tactic

/-!
One grid point's run: the body reads the slot the point before filled, stores the feed-forward of it into the
output window and fills its own slot with the attention half of its rows.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point runs; what it stores is the run's own finding. -/
def runFirst (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x256x1024 .bf16) (harg8 : arg8.IsWhole)
    (arg9 : Memref sig .tc .vmem S1x1x256x1024 .bf16) (harg9 : arg9.IsWhole)
    (arg10 : Memref sig .tc .vmem S1x1024x1024 .bf16) (harg10 : arg10.IsWhole)
    (arg11 : Memref sig .tc .vmem S1x1024x1024 .bf16) (harg11 : arg11.IsWhole)
    (arg12 : Memref sig .tc .vmem S1x1024x5632 .bf16) (harg12 : arg12.IsWhole)
    (arg13 : Memref sig .tc .vmem S1x2816x1024 .bf16) (harg13 : arg13.IsWhole)
    (arg14 : Memref sig .tc .vmem S512x1024 .f32) (harg14 : arg14.IsWhole)
    (arg15 : Memref sig .tc .vmem S2x512x1024 .f32) (harg15 : arg15.IsWhole)
    (arg16 : Memref sig .tc .vmem S2x512x1024 .bf16) (harg16 : arg16.IsWhole)
    (hc : cond i)
    (x1 : Vec F S512x1024 .f32) (x2 : Vec F S512x1024 .f32) (x3 : Vec F S1x1x1024 .f32) (x4 : Vec F S1x1x1024 .f32) (x5 : Vec F S1x1x1024 .f32) (x6 : Vec F S1x1x1024 .f32) (x7 : Vec F S1x1x1024 .f32) (x8 : Vec F S1x1x256x1024 .bf16) (x9 : Vec F S1x1x256x1024 .bf16) (x10 : Vec F S1x1024x1024 .bf16) (x11 : Vec F S1x1024x1024 .bf16) (x12 : Vec F S1x1024x5632 .bf16) (x13 : Vec F S1x2816x1024 .bf16) (xb : Vec F S2x512x1024 .f32) (hb : Vec F S2x512x1024 .bf16) :
    Σ' (L14 : List (View.Piece (Elt F) S512x1024 .f32)) (L15 : List (View.Piece (Elt F) S2x512x1024 .f32)), { L16 : List (View.Piece (Elt F) S2x512x1024 .bf16) //
    ∀ (E : Set ℕ) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare xb ∗ owns (c : Thread nD τ) arg16 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc c.tc ↦[arg14.view.set]{fullShare} arg14.view.writes (Elt F) f L14)
          ∗ (arg15.view.loc c.tc ↦[arg15.view.set]{fullShare} arg15.view.writes (Elt F) (harg15.unread xb) L15)
          ∗ (arg16.view.loc c.tc ↦[arg16.view.set]{fullShare} arg16.view.writes (Elt F) (harg16.unread hb) L16)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, fun E K => ?run⟩
  case run =>
    simp only [cc0_post_mixer_eq_skeleton]; unfold cc0_post_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg15.eq_unread hf15; obtain rfl := harg16.eq_unread hf16
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexact H15
    iexact H16

end Cert.KernelIdeal.Body

end
-- ==== Proof.StoresFirst.lean ====
module

public import proofs.«01_k».proof.Proof.RunFirst

/-!
What the first point stores, as the named values.
-/

@[expose] public section

set_option maxRecDepth 16384

noncomputable section

namespace Cert.KernelIdeal.Body

open Cert.KernelIdeal Cert.KernelIdeal.Gen
open Idealize.ShloMosaic Idealize.ShloMosaic.TcCoe

variable {F : FTy → Type} [FloatOps F]

variable (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x256x1024 .bf16) (harg8 : arg8.IsWhole)
    (arg9 : Memref sig .tc .vmem S1x1x256x1024 .bf16) (harg9 : arg9.IsWhole)
    (arg10 : Memref sig .tc .vmem S1x1024x1024 .bf16) (harg10 : arg10.IsWhole)
    (arg11 : Memref sig .tc .vmem S1x1024x1024 .bf16) (harg11 : arg11.IsWhole)
    (arg12 : Memref sig .tc .vmem S1x1024x5632 .bf16) (harg12 : arg12.IsWhole)
    (arg13 : Memref sig .tc .vmem S1x2816x1024 .bf16) (harg13 : arg13.IsWhole)
    (arg14 : Memref sig .tc .vmem S512x1024 .f32) (harg14 : arg14.IsWhole)
    (arg15 : Memref sig .tc .vmem S2x512x1024 .f32) (harg15 : arg15.IsWhole)
    (arg16 : Memref sig .tc .vmem S2x512x1024 .bf16) (harg16 : arg16.IsWhole)
  (hc : cond i) (x1 : Vec F S512x1024 .f32) (x2 : Vec F S512x1024 .f32) (x3 : Vec F S1x1x1024 .f32) (x4 : Vec F S1x1x1024 .f32) (x5 : Vec F S1x1x1024 .f32) (x6 : Vec F S1x1x1024 .f32) (x7 : Vec F S1x1x1024 .f32) (x8 : Vec F S1x1x256x1024 .bf16) (x9 : Vec F S1x1x256x1024 .bf16) (x10 : Vec F S1x1024x1024 .bf16) (x11 : Vec F S1x1024x1024 .bf16) (x12 : Vec F S1x1024x5632 .bf16) (x13 : Vec F S1x2816x1024 .bf16)
  (xb : Vec F S2x512x1024 .f32) (hb : Vec F S2x512x1024 .bf16)

set_option maxHeartbeats 1000000 in
/-- The residual slot gets the attention half. -/
theorem resid_first : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb).2.1 = [⟨Rect.unit (s := S2x512x1024) (k0_off2 i) S1x512x1024.size (k0_off2_inb i), attX x1 x2 x3 x4 x5 x8 x9 x10 x11⟩, ⟨Rect.unit (s := S2x512x1024) ![1, 0, 0] S1x512x1024.size inb_S2x512x1024_S1x512x1024_1_0_0, k0_pay2⟩] := by
  unfold runFirst
  dsimp only
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.cst_38, runFirst.sl.cst_125, runFirst.sl.cst_147, runFirst.sl.H15_2, runFirst.sl.H16_1, runFirst.sl.H16_2, slot_skip _ _ _ _ _ _ _ _ (off_ne i), slot_hit _ _ _ _ _ _ _ _ (off1_first i hc).symm, View.writes_nil]
  simp (disch := decide) only [View.readAt_eq_ld, Memref.IsWhole.read_unread, View.ld_unit_lit']
  rfl

set_option maxHeartbeats 1000000 in
/-- The normalised slot gets the attention half's norm. -/
theorem normed_first : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb).2.2.val = [⟨Rect.unit (s := S2x512x1024) (k0_off2 i) S1x512x1024.size (k0_off2_inb i), attH x1 x2 x3 x4 x5 x6 x8 x9 x10 x11⟩, ⟨Rect.unit (s := S2x512x1024) ![1, 0, 0] S1x512x1024.size inb_S2x512x1024_S1x512x1024_1_0_0, k0_pay3⟩] := by
  unfold runFirst
  dsimp only
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.cst_38, runFirst.sl.cst_125, runFirst.sl.cst_147, runFirst.sl.H15_2, runFirst.sl.H16_1, runFirst.sl.H16_2, slot_skip _ _ _ _ _ _ _ _ (off_ne i), slot_hit _ _ _ _ _ _ _ _ (off1_first i hc).symm, View.writes_nil]
  simp (disch := decide) only [View.readAt_eq_ld, Memref.IsWhole.read_unread, View.ld_unit_lit']
  rfl

set_option maxHeartbeats 1000000 in
/-- The output window gets the feed-forward of the slot read. -/
theorem out_first : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb).1 = [⟨Rect.unit (s := S512x1024) ![0, 0] S512x1024.size inb_S512x1024_S512x1024_0_0,
    swi (k0_pay3 (F := F)) (k0_pay2 (F := F)) x12 x13 x7⟩] := by
  unfold runFirst
  dsimp only
  simp only [runFirst.sl.r, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.cst_38, runFirst.sl.cst_125, runFirst.sl.cst_147, runFirst.sl.H15_2, runFirst.sl.H16_1, runFirst.sl.H16_2, slot_skip _ _ _ _ _ _ _ _ (off_ne i), slot_hit _ _ _ _ _ _ _ _ (off1_first i hc).symm, View.writes_nil]
  simp (disch := decide) only [View.readAt_eq_ld, Memref.IsWhole.read_unread, View.ld_unit_lit']
  rfl

end Cert.KernelIdeal.Body

end
-- ==== Proof.Body.lean ====
module

public import proofs.«01_k».proof.Proof.StoresNext
public import proofs.«01_k».proof.Proof.StoresFirst
public import Idealize.ShloMosaic.Lib.VecWindow

/-!
One grid point's run, its memory before and after named.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point after the first. -/
theorem body_next (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x256x1024 .bf16) (harg8 : arg8.IsWhole)
    (arg9 : Memref sig .tc .vmem S1x1x256x1024 .bf16) (harg9 : arg9.IsWhole)
    (arg10 : Memref sig .tc .vmem S1x1024x1024 .bf16) (harg10 : arg10.IsWhole)
    (arg11 : Memref sig .tc .vmem S1x1024x1024 .bf16) (harg11 : arg11.IsWhole)
    (arg12 : Memref sig .tc .vmem S1x1024x5632 .bf16) (harg12 : arg12.IsWhole)
    (arg13 : Memref sig .tc .vmem S1x2816x1024 .bf16) (harg13 : arg13.IsWhole)
    (arg14 : Memref sig .tc .vmem S512x1024 .f32) (harg14 : arg14.IsWhole)
    (arg15 : Memref sig .tc .vmem S2x512x1024 .f32) (harg15 : arg15.IsWhole)
    (arg16 : Memref sig .tc .vmem S2x512x1024 .bf16) (harg16 : arg16.IsWhole)
    (hc : ¬cond i)
    (x1 : Vec F S512x1024 .f32) (x2 : Vec F S512x1024 .f32) (x3 : Vec F S1x1x1024 .f32) (x4 : Vec F S1x1x1024 .f32) (x5 : Vec F S1x1x1024 .f32) (x6 : Vec F S1x1x1024 .f32) (x7 : Vec F S1x1x1024 .f32) (x8 : Vec F S1x1x256x1024 .bf16) (x9 : Vec F S1x1x256x1024 .bf16) (x10 : Vec F S1x1024x1024 .bf16) (x11 : Vec F S1x1024x1024 .bf16) (x12 : Vec F S1x1024x5632 .bf16) (x13 : Vec F S1x2816x1024 .bf16) (xb : Vec F S2x512x1024 .f32) (hb : Vec F S2x512x1024 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare xb ∗ owns (c : Thread nD τ) arg16 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (swi (slot (k0_off1 i) (k0_off1_inb i) hb) (slot (k0_off1 i) (k0_off1_inb i) xb) x12 x13 x7)
          ∗ (∃ D, ⌜slot (k0_off2 i) (k0_off2_inb i) D = attX x1 x2 x3 x4 x5 x8 x9 x10 x11⌝ ∗ owns (c : Thread nD τ) arg15 fullShare D)
          ∗ (∃ D, ⌜slot (k0_off2 i) (k0_off2_inb i) D = attH x1 x2 x3 x4 x5 x6 x8 x9 x10 x11⌝ ∗ owns (c : Thread nD τ) arg16 fullShare D)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have h14 := out_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb
  have h15 := resid_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb
  have h16 := normed_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb
  generalize runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb = R at h14 h15 h16
  obtain ⟨L14, L15, L16, hall⟩ := R
  dsimp only at h14 h15 h16
  subst h14; subst h15; subst h16
  have hrun := hall E K
  iintro ⟨H1, H2, H3, H4, H5, H6, H7, H8, H9, H10, H11, H12, H13, H14, H15, H16, Hk⟩
  iapply hrun
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, ⟨%f, H14⟩, H15, H16⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_full _ _ _ _ _
  isplitl [H15]
  · iexists _; isplitr
    swap
    · unfold owns; iexists _; isplitr
      swap; · iexact H15
      ipureintro; rfl
    ipureintro; exact slot_hit arg15.view _ _ _ _ _ _ _ rfl
  · iexists _; isplitr
    swap
    · unfold owns; iexists _; isplitr
      swap; · iexact H16
      ipureintro; rfl
    ipureintro; exact slot_hit arg16.view _ _ _ _ _ _ _ rfl

set_option maxHeartbeats 1000000 in
/-- The first point. -/
theorem body_first (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S1x1x1024 .f32) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x256x1024 .bf16) (harg8 : arg8.IsWhole)
    (arg9 : Memref sig .tc .vmem S1x1x256x1024 .bf16) (harg9 : arg9.IsWhole)
    (arg10 : Memref sig .tc .vmem S1x1024x1024 .bf16) (harg10 : arg10.IsWhole)
    (arg11 : Memref sig .tc .vmem S1x1024x1024 .bf16) (harg11 : arg11.IsWhole)
    (arg12 : Memref sig .tc .vmem S1x1024x5632 .bf16) (harg12 : arg12.IsWhole)
    (arg13 : Memref sig .tc .vmem S1x2816x1024 .bf16) (harg13 : arg13.IsWhole)
    (arg14 : Memref sig .tc .vmem S512x1024 .f32) (harg14 : arg14.IsWhole)
    (arg15 : Memref sig .tc .vmem S2x512x1024 .f32) (harg15 : arg15.IsWhole)
    (arg16 : Memref sig .tc .vmem S2x512x1024 .bf16) (harg16 : arg16.IsWhole)
    (hc : cond i)
    (x1 : Vec F S512x1024 .f32) (x2 : Vec F S512x1024 .f32) (x3 : Vec F S1x1x1024 .f32) (x4 : Vec F S1x1x1024 .f32) (x5 : Vec F S1x1x1024 .f32) (x6 : Vec F S1x1x1024 .f32) (x7 : Vec F S1x1x1024 .f32) (x8 : Vec F S1x1x256x1024 .bf16) (x9 : Vec F S1x1x256x1024 .bf16) (x10 : Vec F S1x1024x1024 .bf16) (x11 : Vec F S1x1024x1024 .bf16) (x12 : Vec F S1x1024x5632 .bf16) (x13 : Vec F S1x2816x1024 .bf16) (xb : Vec F S2x512x1024 .f32) (hb : Vec F S2x512x1024 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ owns (c : Thread nD τ) arg15 fullShare xb ∗ owns (c : Thread nD τ) arg16 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (swi (k0_pay3 (F := F)) (k0_pay2 (F := F)) x12 x13 x7)
          ∗ (∃ D, ⌜slot (k0_off2 i) (k0_off2_inb i) D = attX x1 x2 x3 x4 x5 x8 x9 x10 x11⌝ ∗ owns (c : Thread nD τ) arg15 fullShare D)
          ∗ (∃ D, ⌜slot (k0_off2 i) (k0_off2_inb i) D = attH x1 x2 x3 x4 x5 x6 x8 x9 x10 x11⌝ ∗ owns (c : Thread nD τ) arg16 fullShare D)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have h14 := out_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb
  have h15 := resid_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb
  have h16 := normed_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb
  generalize runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc x1 x2 x3 x4 x5 x6 x7 x8 x9 x10 x11 x12 x13 xb hb = R at h14 h15 h16
  obtain ⟨L14, L15, L16, hall⟩ := R
  dsimp only at h14 h15 h16
  subst h14; subst h15; subst h16
  have hrun := hall E K
  iintro ⟨H1, H2, H3, H4, H5, H6, H7, H8, H9, H10, H11, H12, H13, H14, H15, H16, Hk⟩
  iapply hrun
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H1, H2, H3, H4, H5, H6, H7, H8, H9, H10, H11, H12, H13, ⟨%f, H14⟩, H15, H16⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_full _ _ _ _ _
  isplitl [H15]
  · iexists _; isplitr
    swap
    · unfold owns; iexists _; isplitr
      swap; · iexact H15
      ipureintro; rfl
    ipureintro; exact slot_hit arg15.view _ _ _ _ _ _ _ rfl
  · iexists _; isplitr
    swap
    · unfold owns; iexists _; isplitr
      swap; · iexact H16
      ipureintro; rfl
    ipureintro; exact slot_hit arg16.view _ _ _ _ _ _ _ rfl

end Cert.KernelIdeal.Body

end
-- ==== Proof.Track.lean ====
module

public import proofs.«01_k».proof.Proof.Body

/-!
The launch: what each grid point leaves (the feed-forward of the point before in the output window, its own
attention half in its slot), the body's obligation at every point, the run of the whole program and its frame.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x256x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1024x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x5632 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2816x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x1024 .f32 := win0_13.stage (cfg0.slots t 13)
abbrev hs0_13 (t : Fin cfg0.N) : (ms0_13 t).IsWhole := hstage0_13 ((cfg0.slots t 13).cast nbuf0_13)

/-- The residual rows' two slots. -/
abbrev scX : Memref sig .tc .vmem S2x512x1024 .f32 := Memref.whole cc0_scratch0
/-- The normalised rows' two slots. -/
abbrev scH : Memref sig .tc .vmem S2x512x1024 .bf16 := Memref.whole cc0_scratch1

theorem PhiA_eq (c : Dev nD) :
    (Pipeline.ΦA spec0 c : sProp 𝕄)
      = iprop(iprop((∃ d, owns (c : Thread nD τ) scX fullShare d) ∗ (∃ d, owns (c : Thread nD τ) scH fullShare d)) ∗ (∃ r, prngReg c r)) := by
  unfold Pipeline.ΦA; rw [scopedRest0_eq]; simp only [scX, scH, owns_whole]; try rfl

/-- The residual rows point `t` leaves in its slot. -/
def residAt (c : Dev nD) (t : Fin cfg0.N) : Vec F S1x512x1024 .f32 :=
  attX (iblk m c 0 t) (iblk m c 1 t) (iblk m c 2 t) (iblk m c 3 t) (iblk m c 4 t) (iblk m c 7 t) (iblk m c 8 t) (iblk m c 9 t) (iblk m c 10 t)

/-- The normalised rows point `t` leaves in its slot. -/
def normedAt (c : Dev nD) (t : Fin cfg0.N) : Vec F S1x512x1024 .bf16 :=
  attH (iblk m c 0 t) (iblk m c 1 t) (iblk m c 2 t) (iblk m c 3 t) (iblk m c 4 t) (iblk m c 5 t) (iblk m c 7 t) (iblk m c 8 t) (iblk m c 9 t) (iblk m c 10 t)

/-- What the output window holds after point `n`: the feed-forward of what the point before left, of zeros at the
    first point. -/
def outAt (c : Dev nD) : (n : ℕ) → n < cfg0.N → Vec F S512x1024 .f32
  | 0, h => swi k0_pay3 k0_pay2 (iblk m c 11 ⟨0, h⟩) (iblk m c 12 ⟨0, h⟩) (iblk m c 6 ⟨0, h⟩)
  | n + 1, h => swi (normedAt m c ⟨n, Nat.lt_of_succ_lt h⟩) (residAt m c ⟨n, Nat.lt_of_succ_lt h⟩) (iblk m c 11 ⟨n + 1, h⟩) (iblk m c 12 ⟨n + 1, h⟩) (iblk m c 6 ⟨n + 1, h⟩)

/-- Between points: before the first, the buffers at anything; afterwards each buffer's slot of the point just run
    at what that point left in it, the other slot at anything. -/
def PhiS (c : Dev nD) : (n : ℕ) → n ≤ cfg0.N → sProp 𝕄
  | 0, _ => Pipeline.ΦA spec0 c
  | n + 1, hn => iprop(iprop(
      (∃ D, ⌜slot (k0_off2 (grid0.coords ⟨n, hn⟩)) (k0_off2_inb (grid0.coords ⟨n, hn⟩)) D = residAt m c ⟨n, hn⟩⌝ ∗ owns (c : Thread nD τ) scX fullShare D)
      ∗ (∃ D, ⌜slot (k0_off2 (grid0.coords ⟨n, hn⟩)) (k0_off2_inb (grid0.coords ⟨n, hn⟩)) D = normedAt m c ⟨n, hn⟩⌝ ∗ owns (c : Thread nD τ) scH fullShare D)) ∗ (∃ r, prngReg c r))

/-- The slot a point reads is the one the point before filled. -/
theorem off1_step (n : ℕ) (h : n + 1 < cfg0.N) :
    k0_off1 (grid0.coords ⟨n + 1, h⟩) = k0_off2 (grid0.coords ⟨n, Nat.lt_of_succ_lt h⟩) := by
  have h' : n + 1 < 129 := lt_of_lt_of_eq h (show cfg0.N = 129 from N_0)
  have e1 : (grid0.coords ⟨n + 1, h⟩ 0).val = (n + 1) / 1 % 129 := Pipeline.Grid.coords_val ⟨n + 1, h⟩ 0 (by decide) rfl
  have e2 : (grid0.coords ⟨n, Nat.lt_of_succ_lt h⟩ 0).val = n / 1 % 129 := Pipeline.Grid.coords_val ⟨n, Nat.lt_of_succ_lt h⟩ 0 (by decide) rfl
  rw [off1_eq, off2_eq, e1, e2]
  congr 1
  omega

theorem slot_congr {e : EltTy} {off off' : Fin 3 → ℕ} (h : off = off') (ho : ∀ a, off a + S1x512x1024.size a ≤ S2x512x1024.size a)
    (ho' : ∀ a, off' a + S1x512x1024.size a ≤ S2x512x1024.size a) (D : Vec F S2x512x1024 e) : slot off ho D = slot off' ho' D := by
  subst h; rfl

/-- The body's test holds at the first point alone. -/
theorem cond_iff : ∀ t : Fin cfg0.N, cond (grid0.coords t) ↔ t.val = 0 := fun t => by
  have h : ∀ i : grid0.Coords, cond i ↔ (i 0).val = 0 := by decide +kernel
  have h' : t.val < 129 := lt_of_lt_of_eq t.isLt (show cfg0.N = 129 from N_0)
  have e : (grid0.coords t 0).val = t.val / 1 % 129 := Pipeline.Grid.coords_val t 0 (by decide) rfl
  rw [h, e]; omega

/-- What the pipeline is run on: the arrays as the region finds them, after the body each input's block in place
    and the output window at `outAt`, `PhiS` between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = outAt m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t))

set_option maxHeartbeats 6400000 in
/-- The body at any point meets its obligation: at the first point from anything, at a later one from the slots the
    point before filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = PhiS m c (t.val + 1) t.isLt from rfl, PhiS_castSucc m c t]
  obtain ⟨n, hn⟩ := t
  cases n with
  | zero =>
    dsimp only [PhiS, outAt]
    rw [PhiA_eq]
    iintro ⟨⟨⟨⟨%xb, HX⟩, ⟨%hb, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_first c (grid0.coords ⟨0, hn⟩) _ _ _ _ _ _ _ _ _ _ _ _ _ _ _ _ _ _ _ _ _ _ _ _ _ _ _ _ _ _ _ _  ((cond_iff ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) xb hb Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HX]; · iexact HX
    isplitl [HH]; · iexact HH
    iintro ⟨H0, H1, H2, H3, H4, H5, H6, H7, H8, H9, H10, H11, H12, H13, HX, HH⟩
    isplitl [HX HH Hg]
    · isplitl [HX HH]
      · isplitl [HX]
        · iexact HX
        · iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  | succ n =>
    dsimp only [PhiS, outAt]
    iintro ⟨⟨⟨⟨%xb, %hxb, HX⟩, ⟨%hb, %hhb, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    have hx' := (slot_congr (off1_step n hn) (k0_off1_inb (grid0.coords ⟨n + 1, hn⟩)) _ xb).trans hxb
    have hh' := (slot_congr (off1_step n hn) (k0_off1_inb (grid0.coords ⟨n + 1, hn⟩)) _ hb).trans hhb
    rw [← hx', ← hh']
    iapply (body_next c (grid0.coords ⟨n + 1, hn⟩) _ _ _ _ _ _ _ _ _ _ _ _ _ _ _ _ _ _ _ _ _ _ _ _ _ _ _ _ _ _ _ _  (fun h => Nat.succ_ne_zero n ((cond_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) xb hb Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HX]; · iexact HX
    isplitl [HH]; · iexact HH
    iintro ⟨H0, H1, H2, H3, H4, H5, H6, H7, H8, H9, H10, H11, H12, H13, HX, HH⟩
    isplitl [HX HH Hg]
    · isplitl [HX HH]
      · isplitl [HX]
        · iexact HX
        · iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- After a point the slots' contents may be forgotten. -/
theorem Phi_out (c : Dev nD) (n : ℕ) (h : n + 1 ≤ cfg0.N) : PhiS m c (n + 1) h ⊢ Pipeline.ΦA spec0 c := by
  dsimp only [PhiS]
  rw [PhiA_eq]
  iintro ⟨⟨⟨%xb, -, HX⟩, ⟨%hb, -, HH⟩⟩, Hg⟩
  isplitl [HX HH]
  · isplitl [HX]
    · iexists _; iexact HX
    · iexists _; iexact HH
  iexact Hg

theorem hout (c : Dev nD) : (dats m 0 c).Φ (Fin.last cfg0.N) ⊢ Pipeline.ΦA spec0 c := by
  rw [show (dats m 0 c).Φ (Fin.last cfg0.N) = PhiS m c (128 + 1) (le_of_eq N_0.symm) from rfl]
  exact Phi_out m c 128 _

set_option backward.isDefEq.respectTransparency.types false in
set_option maxHeartbeats 800000 in
/-- The program runs to the arrays the proof data compute, its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments are left as they were and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Same.lean ====
module

public import proofs.«01_k».proof.Defs
public import proofs.«01_k».proof.Proof.Track
public import proofs.«01_k».proof.Proof.Gen.Kernel

/-!
The two printings of the kernel name one program: body and calls agree at the machine's values, so the frame
proved for every value domain is also the first printing's.
-/

@[expose] public section

set_option maxRecDepth 16384

namespace Cert.Kernel.Body

open Idealize.ShloMosaic Idealize.SL.Sem

/-- The body. -/
theorem body_eq : Cert.Kernel.cc0_post_mixer (F := Bits) = Cert.KernelIdeal.cc0_post_mixer (F := Bits) := rfl

set_option maxHeartbeats 1000000 in
/-- The definitions it is called by. -/
theorem defs₀_eq : Cert.Kernel.defs₀ (F := Bits) = Cert.KernelIdeal.defs₀ (F := Bits) := by
  unfold Cert.Kernel.defs₀ Cert.KernelIdeal.defs₀
  congr 1
  funext a x
  obtain ⟨_ | n, ha⟩ := a
  · obtain ⟨t, s⟩ := x
    dsimp only
    generalize hb : Cert.Kernel.cc0_post_mixer (F := Bits) = B
    obtain rfl : B = Cert.KernelIdeal.cc0_post_mixer (F := Bits) := hb.symm.trans body_eq
    rfl
  · exact absurd ha (by omega)

/-- The program. -/
theorem defs_eq : Cert.Kernel.defs (F := Bits) = Cert.KernelIdeal.defs (F := Bits) := by
  unfold Cert.Kernel.defs Cert.KernelIdeal.defs
  rw [defs₀_eq]
  rfl

/-- No run of the first printing goes wrong. -/
theorem frame : Cert.quiescent_Kernel := fun m g _ => by
  rw [defs_eq]
  exact Cert.KernelIdeal.Body.frame (F := Bits) m g

end Cert.Kernel.Body
-- ==== Proof.Spec.lean ====
module

public import Idealize.ShloMosaic.Lib.Pointwise

/-!
One token's row through the layer, over the extended reals: the mixer's normed residual, the attention of the
row over its batch's memory, and the gated feed-forward. Two things are left as parameters, because the two
programs spell them differently: the softmax `σ` and the activation `a`.
-/

@[expose] public section

noncomputable section

namespace Cert.Row

open Idealize.ShloMosaic

/-- The row length 1024, as the programs hold it. -/
def len : EReal := Ideal.ofBits .f32 0x44800000#32
/-- The small number under the root. -/
def eps : EReal := Ideal.ofBits .f32 0x358637BD#32
/-- One over the root of the head dimension. -/
def scale : EReal := Ideal.ofBits .f32 0x3D800000#32
/-- Where a maximum starts: the smallest extended real. -/
def low : EReal := Ideal.ofBits .f32 0xFF800000#32
/-- One half. -/
def half : EReal := Ideal.ofBits .f32 0x3F000000#32

/-- One over the root mean square of a row. -/
def rinv (v : Fin 1024 → EReal) : EReal := Ideal.rsqrt (Ideal.div (∑ k, v k * v k) len + eps)
/-- The row normed, with its gains. -/
def norm (g v : Fin 1024 → EReal) (l : Fin 1024) : EReal := v l * rinv v * g l
/-- A row plus a normed row. -/
def mix (x v g : Fin 1024 → EReal) (l : Fin 1024) : EReal := x l + norm g v l
/-- A row times a matrix. -/
def proj (W : Fin 1024 → Fin 1024 → EReal) (v : Fin 1024 → EReal) (l : Fin 1024) : EReal := ∑ k, v k * W k l
/-- Column `d` of head `h`. -/
def col (h : Fin 4) (d : Fin 256) : Fin 1024 := ⟨h.val * 256 + d.val, by omega⟩
/-- A head's scores against the memory's keys. -/
def score (q : Fin 1024 → EReal) (K : Fin 256 → Fin 1024 → EReal) (h : Fin 4) (j : Fin 256) : EReal :=
  (∑ d, q (col h d) * K j (col h d)) * scale
/-- The largest score. -/
def top (s : Fin 256 → EReal) : EReal := Finset.univ.fold max low s
/-- A score's unnormed weight. -/
def wgt (s : Fin 256 → EReal) (j : Fin 256) : EReal := Ideal.exp (s j - top s)
/-- The softmax as a quotient. -/
def soft (s : Fin 256 → EReal) (j : Fin 256) : EReal := Ideal.div (wgt s j) (∑ k, wgt s k)
/-- The softmax as a product with one reciprocal. -/
def softK (s : Fin 256 → EReal) (j : Fin 256) : EReal := wgt s j * Ideal.div 1 (∑ k, wgt s k)
/-- A head's weighted values. -/
def head (p : Fin 256 → EReal) (V : Fin 256 → Fin 1024 → EReal) (h : Fin 4) (d : Fin 256) : EReal :=
  ∑ j, p j * V j (col h d)
/-- The attention's projected output. -/
def attn (σ : (Fin 256 → EReal) → Fin 256 → EReal) (q : Fin 1024 → EReal) (K V : Fin 256 → Fin 1024 → EReal)
    (Wo : Fin 1024 → Fin 1024 → EReal) (l : Fin 1024) : EReal :=
  ∑ h : Fin 4, ∑ d : Fin 256, head (σ (score q K h)) V h d * Wo (col h d) l
/-- The activation with a quotient. -/
def silu (x : EReal) : EReal := x * Ideal.div 1 (1 + Ideal.exp (-x))
/-- The activation with a hyperbolic tangent. -/
def siluK (x : EReal) : EReal := half * x + half * x * Ideal.tanh (half * x)
/-- A column of the gate. -/
def gcol (n : Fin 2816) : Fin 5632 := ⟨n.val, by omega⟩
/-- A column of the other factor. -/
def ucol (n : Fin 2816) : Fin 5632 := ⟨2816 + n.val, by omega⟩
/-- One hidden column of the feed-forward. -/
def hid (a : EReal → EReal) (Win : Fin 1024 → Fin 5632 → EReal) (v : Fin 1024 → EReal) (n : Fin 2816) : EReal :=
  a (∑ k, v k * Win k (gcol n)) * ∑ k, v k * Win k (ucol n)
/-- The feed-forward. -/
def ffn (a : EReal → EReal) (Win : Fin 1024 → Fin 5632 → EReal) (Wout : Fin 2816 → Fin 1024 → EReal)
    (v : Fin 1024 → EReal) (l : Fin 1024) : EReal := ∑ n, hid a Win v n * Wout n l
/-- The row after the attention. -/
def mid (σ : (Fin 256 → EReal) → Fin 256 → EReal) (x1 g2 g3 : Fin 1024 → EReal) (K V : Fin 256 → Fin 1024 → EReal)
    (Wq Wo : Fin 1024 → Fin 1024 → EReal) : Fin 1024 → EReal :=
  mix x1 (attn σ (proj Wq (norm g2 x1)) K V Wo) g3
/-- The row after the feed-forward. -/
def fin (a : EReal → EReal) (x2 g4 g5 : Fin 1024 → EReal) (Win : Fin 1024 → Fin 5632 → EReal)
    (Wout : Fin 2816 → Fin 1024 → EReal) : Fin 1024 → EReal :=
  mix x2 (ffn a Win Wout (norm g4 x2)) g5
end Cert.Row

end
-- ==== Proof.KernelRows.lean ====
module

public import proofs.«01_k».proof.Proof.Spec
public import proofs.«01_k».proof.Proof.Terms

/-!
What one grid point computes, read at one row: the attention half is the row's attention with the softmax as a
product with a reciprocal, and the feed-forward half is eleven cells of 256 hidden columns each.
-/

@[expose] public section

set_option maxRecDepth 16384

noncomputable section

namespace Cert.KernelIdeal.Body

open Cert.KernelIdeal Cert.KernelIdeal.Gen
open Idealize.ShloMosaic
open Cert.Row (len eps scale low half rinv norm mix proj col score top wgt softK head attn siluK gcol ucol hid ffn mid fin)

/-- Row `r` of a tile. -/
abbrev rowOf (x : S512x1024.Idx → EReal) (r : Fin 512) : Fin 1024 → EReal := fun k => x (ix2 r k)
/-- Row `r` of a slot. -/
abbrev rowOf3 (x : S1x512x1024.Idx → EReal) (r : Fin 512) : Fin 1024 → EReal := fun k => x (ix3 0 r k)
/-- The feed-forward's input weights. -/
abbrev matIn (W : S1x1024x5632.Idx → EReal) : Fin 1024 → Fin 5632 → EReal := fun k n => W (ix3 0 k n)
/-- The feed-forward's output weights. -/
abbrev matOut (W : S1x2816x1024.Idx → EReal) : Fin 2816 → Fin 1024 → EReal := fun n k => W (ix3 0 n k)
/-- The gains of a norm. -/
abbrev gains (g : S1x1x1024.Idx → EReal) : Fin 1024 → EReal := fun k => g (ix3 0 0 k)
/-- A layer's square matrix. -/
abbrev mat (W : S1x1024x1024.Idx → EReal) : Fin 1024 → Fin 1024 → EReal := fun k l => W (ix3 0 k l)
/-- A batch's memory rows. -/
abbrev mem (K : S1x1x256x1024.Idx → EReal) : Fin 256 → Fin 1024 → EReal := fun j k => K (ix4 0 0 j k)

theorem col0 (d : Fin 256) (h) : (⟨d.val, h⟩ : Fin 1024) = col 0 d := Fin.ext (by simp [col])
theorem col1 (d : Fin 256) (h) : (⟨256 + d.val, h⟩ : Fin 1024) = col 1 d := rfl
theorem col2 (d : Fin 256) (h) : (⟨512 + d.val, h⟩ : Fin 1024) = col 2 d := rfl
theorem col3 (d : Fin 256) (h) : (⟨768 + d.val, h⟩ : Fin 1024) = col 3 d := rfl

theorem pay5_at (x m : FVec Ideal S512x1024 .f32) (g : Vec Ideal S1x1x1024 .f32) (r : Fin 512) (l : Fin 1024) :
    k0_pay5 (F := Ideal) x m g (ix2 r l) = mix (rowOf x r) (rowOf m r) (gains g) l := by
  pointwise [k0_pay5]
  rfl

theorem pay6_at (x m : FVec Ideal S512x1024 .f32) (g g2 : Vec Ideal S1x1x1024 .f32) (r : Fin 512) (l : Fin 1024) :
    k0_pay6 (F := Ideal) x m g g2 (ix2 r l) = norm (gains g2) (rowOf (k0_pay5 x m g) r) l := by
  pointwise [k0_pay6]
  rfl

theorem pay10_at (q : FVec Ideal S512x1024 .bf16) (W : Vec Ideal S1x1024x1024 .bf16) (r : Fin 512) (l : Fin 1024) :
    k0_pay10 (F := Ideal) q W (ix2 r l) = proj (mat W) (rowOf q r) l := by
  pointwise [k0_pay10]
  rfl

theorem head0_at (q : FVec Ideal S512x1024 .bf16) (Wq : Vec Ideal S1x1024x1024 .bf16)
    (K V : Vec Ideal S1x1x256x1024 .bf16) (r : Fin 512) (d : Fin 256) :
    head0 (F := Ideal) q Wq K V (ix2 r d)
      = head (softK (score (rowOf (k0_pay10 (F := Ideal) q Wq) r) (mem K) 0)) (mem V) 0 d := by
  pointwise [head0, k0_pay30, k0_pay19, k0_pay12, memHead]
  simp only [col0]
  rfl

theorem head1_at (q : FVec Ideal S512x1024 .bf16) (Wq : Vec Ideal S1x1024x1024 .bf16)
    (K V : Vec Ideal S1x1x256x1024 .bf16) (r : Fin 512) (d : Fin 256) :
    head1 (F := Ideal) q Wq K V (ix2 r d)
      = head (softK (score (rowOf (k0_pay10 (F := Ideal) q Wq) r) (mem K) 1)) (mem V) 1 d := by
  pointwise [head1, k0_pay31, k0_pay20, k0_pay14, k0_pay13, memHead]
  simp only [col1]
  rfl

theorem head2_at (q : FVec Ideal S512x1024 .bf16) (Wq : Vec Ideal S1x1024x1024 .bf16)
    (K V : Vec Ideal S1x1x256x1024 .bf16) (r : Fin 512) (d : Fin 256) :
    head2 (F := Ideal) q Wq K V (ix2 r d)
      = head (softK (score (rowOf (k0_pay10 (F := Ideal) q Wq) r) (mem K) 2)) (mem V) 2 d := by
  pointwise [head2, k0_pay32, k0_pay21, k0_pay15, memHead]
  simp only [col2]
  rfl

theorem head3_at (q : FVec Ideal S512x1024 .bf16) (Wq : Vec Ideal S1x1024x1024 .bf16)
    (K V : Vec Ideal S1x1x256x1024 .bf16) (r : Fin 512) (d : Fin 256) :
    head3 (F := Ideal) q Wq K V (ix2 r d)
      = head (softK (score (rowOf (k0_pay10 (F := Ideal) q Wq) r) (mem K) 3)) (mem V) 3 d := by
  pointwise [head3, k0_pay33, k0_pay24, k0_pay22, k0_pay23, k0_pay16, memHead]
  simp only [col3]
  rfl

theorem attC_at (q : FVec Ideal S512x1024 .bf16) (K V : Vec Ideal S1x1x256x1024 .bf16)
    (Wq Wo : Vec Ideal S1x1024x1024 .bf16) (r : Fin 512) (l : Fin 1024) :
    attC (F := Ideal) q K V Wq Wo (ix2 r l)
      = attn softK (proj (mat Wq) (rowOf q r)) (mem K) (mem V) (mat Wo) l := by
  have hq : proj (mat Wq) (rowOf q r) = rowOf (k0_pay10 (F := Ideal) q Wq) r :=
    funext fun k => (pay10_at q Wq r k).symm
  rw [hq]
  pointwise [attC, k0_pay36, outRows]
  simp only [head0_at, head1_at, head2_at, head3_at, col0, col1, col2, col3]
  unfold attn
  rw [Fin.sum_univ_four]

theorem pay38_at (x c : FVec Ideal S512x1024 .f32) (g : Vec Ideal S1x1x1024 .f32) (r : Fin 512) (l : Fin 1024) :
    k0_pay38 (F := Ideal) x c g (ix2 r l) = mix (rowOf x r) (rowOf c r) (gains g) l := by
  pointwise [k0_pay38]
  rfl

theorem pay39_at (x c : FVec Ideal S512x1024 .f32) (g : Vec Ideal S1x1x1024 .f32) (r : Fin 512) (l : Fin 1024) :
    k0_pay39 (F := Ideal) x c g (ix3 0 r l) = k0_pay38 (F := Ideal) x c g (ix2 r l) := by
  pointwise [k0_pay39]

theorem pay40_at (x : FVec Ideal S512x1024 .f32) (g : Vec Ideal S1x1x1024 .f32) (r : Fin 512) (l : Fin 1024) :
    k0_pay40 (F := Ideal) x g (ix3 0 r l) = norm (gains g) (rowOf x r) l := by
  pointwise [k0_pay40]
  rfl

/-- The row a point stores into the residual buffer. -/
theorem attX_at (x m : FVec Ideal S512x1024 .f32) (g1 g2 g3 : Vec Ideal S1x1x1024 .f32)
    (K V : Vec Ideal S1x1x256x1024 .bf16) (Wq Wo : Vec Ideal S1x1024x1024 .bf16) (r : Fin 512) :
    rowOf3 (attX (F := Ideal) x m g1 g2 g3 K V Wq Wo) r
      = mid softK (mix (rowOf x r) (rowOf m r) (gains g1)) (gains g2) (gains g3) (mem K) (mem V) (mat Wq) (mat Wo) := by
  funext l
  show attX (F := Ideal) x m g1 g2 g3 K V Wq Wo (ix3 0 r l) = _
  unfold attX
  have h6 : rowOf (k0_pay6 (F := Ideal) x m g1 g2) r = norm (gains g2) (rowOf (k0_pay5 (F := Ideal) x m g1) r) :=
    funext fun k => pay6_at x m g1 g2 r k
  have h5 : rowOf (k0_pay5 (F := Ideal) x m g1) r = mix (rowOf x r) (rowOf m r) (gains g1) :=
    funext fun k => pay5_at x m g1 r k
  have hc : rowOf (attC (F := Ideal) (k0_pay6 x m g1 g2) K V Wq Wo) r = attn softK _ (mem K) (mem V) (mat Wo) :=
    funext fun k => attC_at (k0_pay6 x m g1 g2) K V Wq Wo r k
  rw [pay39_at, pay38_at, hc, h6, h5]
  rfl

/-- The row a point stores into the normalised-rows buffer. -/
theorem attH_at (x m : FVec Ideal S512x1024 .f32) (g1 g2 g3 g4 : Vec Ideal S1x1x1024 .f32)
    (K V : Vec Ideal S1x1x256x1024 .bf16) (Wq Wo : Vec Ideal S1x1024x1024 .bf16) (r : Fin 512) :
    rowOf3 (attH (F := Ideal) x m g1 g2 g3 g4 K V Wq Wo) r
      = norm (gains g4) (rowOf3 (attX (F := Ideal) x m g1 g2 g3 K V Wq Wo) r) := by
  funext l
  show attH (F := Ideal) x m g1 g2 g3 g4 K V Wq Wo (ix3 0 r l) = _
  unfold attH attX
  rw [pay40_at]
  refine congrArg (fun v => norm (gains g4) v l) (funext fun k => ?_)
  exact (pay39_at _ _ g3 r k).symm

/-- 256 hidden columns of the feed-forward, from a row. -/
def cell (v : Fin 1024 → EReal) (G U : S1x1024x256.Idx → EReal) (D : S1x256x1024.Idx → EReal)
    (l : Fin 1024) : EReal :=
  ∑ x : Fin 256, (siluK (∑ k : Fin 1024, v k * G (ix3 0 k x))
    * ∑ k : Fin 1024, v k * U (ix3 0 k x)) * D (ix3 0 x l)

section Cells

variable (A : FVec Ideal S512x1024 .f32) (H : Vec Ideal S1x512x1024 .bf16) (G U G' U' : Vec Ideal S1x1024x256 .bf16)
  (D D' : Vec Ideal S1x256x1024 .bf16) (r : Fin 512) (l : Fin 1024)

theorem pay4_at : k0_pay4 (F := Ideal) H G U D (ix2 r l) = cell (rowOf3 H r) G U D l := by
  pointwise [k0_pay4]
  rfl

theorem pay9_at : k0_pay9 (F := Ideal) A (k0_pay7 H) (k0_pay8 G) (constant S512x256 .f32 0x00000000#32) U D H G' U' D' (ix2 r l)
    = A (ix2 r l) + cell (rowOf3 H r) G U D l + cell (rowOf3 H r) G' U' D' l := by
  pointwise [k0_pay9, k0_pay7, k0_pay8]
  rfl

theorem pay11_at : k0_pay11 (F := Ideal) A H G U D (ix2 r l) = A (ix2 r l) + cell (rowOf3 H r) G U D l := by
  pointwise [k0_pay11]
  rfl

theorem pay18_at : k0_pay18 (F := Ideal) A (k0_pay17 H G U) D (ix2 r l) = A (ix2 r l) + cell (rowOf3 H r) G U D l := by
  pointwise [k0_pay18, k0_pay17]
  rfl

theorem pay25_at : k0_pay25 (F := Ideal) A H G U D (ix2 r l) = A (ix2 r l) + cell (rowOf3 H r) G U D l := by
  pointwise [k0_pay25]
  rfl

theorem pay29_at : k0_pay29 (F := Ideal) A (k0_pay27 H G) (k0_pay28 H U) (Scalar.ofBits .f32 0x3F000000#32) D (ix2 r l)
    = A (ix2 r l) + cell (rowOf3 H r) G U D l := by
  pointwise [k0_pay29, k0_pay27, k0_pay28, k0_pay26]
  rfl

theorem pay35_at : k0_pay35 (F := Ideal) A (k0_pay34 H) G U D (ix2 r l) = A (ix2 r l) + cell (rowOf3 H r) G U D l := by
  pointwise [k0_pay35, k0_pay34]
  rfl

theorem pay37_at : k0_pay37 (F := Ideal) A H G U D (ix2 r l) = A (ix2 r l) + cell (rowOf3 H r) G U D l := by
  pointwise [k0_pay37]
  rfl

theorem pay43_at : k0_pay43 (F := Ideal) A (k0_pay41 H G U) (k0_pay42 D) H G' U' D' (ix2 r l)
    = A (ix2 r l) + cell (rowOf3 H r) G U D l + cell (rowOf3 H r) G' U' D' l := by
  pointwise [k0_pay43, k0_pay41, k0_pay42]
  rfl

end Cells

/-- The last stage: the normed sum on top of the residual. -/
theorem pay1_at (A : FVec Ideal S512x1024 .f32) (a : FVec Ideal S512x256 .bf16) (b : FVec Ideal S256x1024 .bf16)
    (H : Vec Ideal S1x512x1024 .bf16) (G U : Vec Ideal S1x1024x256 .bf16) (D : Vec Ideal S1x256x1024 .bf16)
    (X : Vec Ideal S1x512x1024 .f32) (g : Vec Ideal S1x1x1024 .f32) (r : Fin 512) (l : Fin 1024) :
    k0_pay1 (F := Ideal) (k0_pay43 A a b H G U D) (k0_pay44 X) (k0_pay45 g) (k0_pay46 A a b H G U D) (ix2 r l)
      = mix (rowOf3 X r) (rowOf (k0_pay43 (F := Ideal) A a b H G U D) r) (gains g) l := by
  pointwise [k0_pay1, k0_pay44, k0_pay45, k0_pay46]
  rfl

/-- Hidden column `t` of cell `j`. -/
def hcol (j : Fin 11) (t : Fin 256) : Fin 2816 := ⟨j.val * 256 + t.val, by omega⟩

/-- Slices of the weights make a cell of the feed-forward's own columns. -/
theorem cell_at (v : Fin 1024 → EReal) (Win : Vec Ideal S1x1024x5632 .bf16) (Wout : Vec Ideal S1x2816x1024 .bf16)
    (j : Fin 11) (o o' : ℕ) (ho hu hd) (e : o = j.val * 256) (e' : o' = 2816 + j.val * 256) (l : Fin 1024) :
    cell v (gateW (F := Ideal) o ho Win) (gateW (F := Ideal) o' hu Win) (downW (F := Ideal) o hd Wout) l
      = ∑ t : Fin 256, hid siluK (matIn Win) v (hcol j t) * matOut Wout (hcol j t) l := by
  subst e e'
  refine Finset.sum_congr rfl fun t _ => ?_
  have hg : ∀ k : Fin 1024, gateW (F := Ideal) (j.val * 256) ho Win (ix3 0 k t) = Win (ix3 0 k (gcol (hcol j t))) := by
    intro k
    pointwise [gateW]
    rfl
  have hu' : ∀ k : Fin 1024, gateW (F := Ideal) (2816 + j.val * 256) hu Win (ix3 0 k t) = Win (ix3 0 k (ucol (hcol j t))) := by
    intro k
    pointwise [gateW]
    exact congrArg (fun n => Win (ix3 0 k n)) (Fin.ext (Nat.add_assoc _ _ _))
  have hd' : downW (F := Ideal) (j.val * 256) hd Wout (ix3 0 t l) = Wout (ix3 0 (hcol j t) l) := by
    pointwise [downW]
    rfl
  simp only [hg, hu', hd']
  rfl

/-- The feed-forward as its eleven cells. -/
theorem ffn_cells (a : EReal → EReal) (Win : Fin 1024 → Fin 5632 → EReal) (Wout : Fin 2816 → Fin 1024 → EReal)
    (v : Fin 1024 → EReal) (l : Fin 1024) :
    ffn a Win Wout v l = ∑ j : Fin 11, ∑ t : Fin 256, hid a Win v (hcol j t) * Wout (hcol j t) l :=
  Fin.sum_univ_tiles 11 256 rfl fun n => hid a Win v n * Wout n l

/-- A sum of eleven, in order. -/
theorem sum_eleven (f : Fin 11 → EReal) :
    ∑ j, f j = f 0 + f 1 + f 2 + f 3 + f 4 + f 5 + f 6 + f 7 + f 8 + f 9 + f 10 := by
  rw [Fin.sum_univ_castSucc, Fin.sum_univ_castSucc, Fin.sum_univ_castSucc, Fin.sum_univ_eight]
  rfl

/-- The row a point stores into the output window. -/
theorem swi_at (H : Vec Ideal S1x512x1024 .bf16) (X : Vec Ideal S1x512x1024 .f32) (Win : Vec Ideal S1x1024x5632 .bf16)
    (Wout : Vec Ideal S1x2816x1024 .bf16) (g5 : Vec Ideal S1x1x1024 .f32) (r : Fin 512) (l : Fin 1024) :
    swi (F := Ideal) H X Win Wout g5 (ix2 r l)
      = mix (rowOf3 X r) (ffn siluK (matIn Win) (matOut Wout) (rowOf3 H r)) (gains g5) l := by
  unfold swi
  rw [pay1_at]
  refine congrArg (fun v => mix (rowOf3 X r) v (gains g5) l) (funext fun k => ?_)
  show k0_pay43 (F := Ideal) _ _ _ _ _ _ _ (ix2 r k) = _
  rw [pay43_at]
  unfold swi9
  rw [pay37_at, pay35_at, pay29_at, pay25_at, pay18_at, pay11_at, pay9_at, pay4_at, ffn_cells]
  rw [cell_at _ Win Wout 0 0 2816 _ _ _ rfl rfl, cell_at _ Win Wout 1 256 3072 _ _ _ rfl rfl,
    cell_at _ Win Wout 2 512 3328 _ _ _ rfl rfl, cell_at _ Win Wout 3 768 3584 _ _ _ rfl rfl,
    cell_at _ Win Wout 4 1024 3840 _ _ _ rfl rfl, cell_at _ Win Wout 5 1280 4096 _ _ _ rfl rfl,
    cell_at _ Win Wout 6 1536 4352 _ _ _ rfl rfl, cell_at _ Win Wout 7 1792 4608 _ _ _ rfl rfl,
    cell_at _ Win Wout 8 2048 4864 _ _ _ rfl rfl, cell_at _ Win Wout 9 2304 5120 _ _ _ rfl rfl,
    cell_at _ Win Wout 10 2560 5376 _ _ _ rfl rfl]
  rw [sum_eleven]

end Cert.KernelIdeal.Body

end
-- ==== Proof.RefRows.lean ====
module

public import proofs.«01_k».proof.Proof.Spec
public import proofs.«01_k».proof.Proof.Gen.ReferenceIdeal.Read

/-!
The reference's result, read at one token: its row is the layer's row, with the softmax and the activation as
quotients.
-/

@[expose] public section

set_option maxRecDepth 16384

noncomputable section

namespace Cert.ReferenceIdeal.Rows

open Cert.ReferenceIdeal Cert.ReferenceIdeal.Gen Cert.ReferenceIdeal.Read
open Idealize.ShloMosaic
open Cert.Row

/-- The token's batch. -/
def batch (r : Fin 65536) : Fin 16 := ⟨r.val / 4096, by omega⟩
/-- The token's place in its batch. -/
def tok (r : Fin 65536) : Fin 4096 := ⟨r.val % 4096, by omega⟩
/-- The token's row of an activation. -/
abbrev act (x : S16x4096x1024.Idx → EReal) (r : Fin 65536) : Fin 1024 → EReal := fun k => x (ix3 (batch r) (tok r) k)
/-- The first layer's gains. -/
abbrev gain (g : S4x1024.Idx → EReal) : Fin 1024 → EReal := fun k => g (ix2 0 k)
/-- The first layer's square matrix. -/
abbrev mat (W : S4x1024x1024.Idx → EReal) : Fin 1024 → Fin 1024 → EReal := fun k l => W (ix3 0 k l)
/-- The first layer's memory rows of a batch. -/
abbrev mem (K : S4x16x256x1024.Idx → EReal) (b : Fin 16) : Fin 256 → Fin 1024 → EReal := fun j k => K (ix4 0 b j k)
/-- The first layer's feed-forward input weights. -/
abbrev matIn (W : S4x1024x5632.Idx → EReal) : Fin 1024 → Fin 5632 → EReal := fun k n => W (ix3 0 k n)
/-- The first layer's feed-forward output weights. -/
abbrev matOut (W : S4x2816x1024.Idx → EReal) : Fin 2816 → Fin 1024 → EReal := fun n k => W (ix3 0 n k)

variable (x0 x1 : FVec Ideal S16x4096x1024 .f32) (x2 x3 x4 x5 x6 : FVec Ideal S4x1024 .f32)
  (x7 x8 : FVec Ideal S4x16x256x1024 .bf16) (x9 x10 : FVec Ideal S4x1024x1024 .f32)
  (x11 : FVec Ideal S4x1024x5632 .f32) (x12 : FVec Ideal S4x2816x1024 .f32)

theorem ref_mix (r : Fin 65536) (l : Fin 1024) :
    val_main_v17 (F := Ideal) x0 x1 x2 (ix2 r l) = mix (act x0 r) (act x1 r) (gain x2) l := by
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_norm (r : Fin 65536) (l : Fin 1024) :
    val_main_v32 (F := Ideal) x0 x1 x2 x3 (ix2 r l)
      = norm (gain x3) (fun k => val_main_v17 (F := Ideal) x0 x1 x2 (ix2 r k)) l := by
  pointwise [val_main_v32, val_main_v31, val_main_v30, val_main_v29, val_main_v28, val_main_v27, val_main_v26, val_main_v25, val_main_v24, val_main_v23, val_main_v22, val_main_v21, val_main_v20, val_main_v19, val_main_v18, val_main_cst_2, val_main_cst_3, val_main_cst_4]
  rfl

theorem ref_q (r : Fin 65536) (l : Fin 1024) :
    val_main_v35 (F := Ideal) x0 x1 x2 x3 x9 (ix2 r l)
      = proj (mat x9) (fun k => val_main_v32 (F := Ideal) x0 x1 x2 x3 (ix2 r k)) l := by
  pointwise [val_main_v35, val_main_v34, val_main_v33]
  rfl

theorem ref_score (r : Fin 65536) (h : Fin 4) (j : Fin 256) :
    val_main_v47 (F := Ideal) x0 x1 x2 x3 x7 x9 (ix4 (batch r) h (tok r) j)
      = score (fun k => val_main_v35 (F := Ideal) x0 x1 x2 x3 x9 (ix2 r k)) (mem x7 (batch r)) h j := by
  have e : ∀ hh, (⟨(batch r).val * 4096 + (tok r).val, hh⟩ : Fin 65536) = r := fun hh =>
    Fin.ext (Nat.div_add_mod' r.val 4096)
  generalize batch r = b at *
  generalize tok r = t at *
  pointwise [val_main_v40, val_main_v39, val_main_v38, val_main_v37, val_main_v36, val_main_v47, val_main_v46, val_main_v45, val_main_cst_5]
  simp only [e]
  rfl

instance : Std.Commutative (FloatOps.maximumf (F := Ideal) (φ := .f32)) := ⟨max_comm⟩
instance : Std.Associative (FloatOps.maximumf (F := Ideal) (φ := .f32)) := ⟨max_assoc⟩

theorem ref_top (b : Fin 16) (h : Fin 4) (t : Fin 4096) :
    val_main_v48 (F := Ideal) x0 x1 x2 x3 x7 x9 (ix3 b h t)
      = top fun j => val_main_v47 (F := Ideal) x0 x1 x2 x3 x7 x9 (ix4 b h t j) := by
  unfold val_main_v48
  rw [Host.reduce_eq_fold_single FloatOps.maximumf _ _ _ (by decide)]
  refine congrArg (fun f => Finset.univ.fold max low f) (funext fun k => ?_)
  refine congrArg (val_main_v47 (F := Ideal) x0 x1 x2 x3 x7 x9) (funext fun a => Fin.ext ?_)
  match a with | ⟨0, _⟩ => rfl | ⟨1, _⟩ => rfl | ⟨2, _⟩ => rfl | ⟨3, _⟩ => rfl

theorem low_max_top (s : Fin 256 → EReal) : max low (top s) = top s :=
  max_eq_right ((Finset.le_fold_max _).2 (Or.inl le_rfl))

theorem idx_top (b : Fin 16) (h : Fin 4) (t : Fin 4096) (j : Fin 256) :
    idx_main_v51 (idx_main_v52 (ix4 b h t j)) = ix3 b h t :=
  funext fun a => match a with | ⟨0, _⟩ => rfl | ⟨1, _⟩ => rfl | ⟨2, _⟩ => rfl

theorem ref_wgt (b : Fin 16) (h : Fin 4) (t : Fin 4096) (j : Fin 256) :
    val_main_v54 (F := Ideal) x0 x1 x2 x3 x7 x9 (ix4 b h t j)
      = wgt (fun j => val_main_v47 (F := Ideal) x0 x1 x2 x3 x7 x9 (ix4 b h t j)) j := by
  rw [val_main_v54_apply, val_main_v53_apply, val_main_v52_apply, val_main_v51_apply, idx_top, val_main_v50_apply, ref_top]
  exact congrArg (fun u => Ideal.exp (_ - u)) (low_max_top _)

theorem ref_soft (b : Fin 16) (h : Fin 4) (t : Fin 4096) (j : Fin 256) :
    val_main_v58 (F := Ideal) x0 x1 x2 x3 x7 x9 (ix4 b h t j)
      = soft (fun j => val_main_v47 (F := Ideal) x0 x1 x2 x3 x7 x9 (ix4 b h t j)) j := by
  rw [val_main_v58_apply, val_main_v57_apply, val_main_v56_apply, val_main_v55_apply, ref_wgt]
  have e : ∀ k, idx_main_v55 (idx_main_v56 (idx_main_v57 (ix4 b h t j))) k = ix4 b h t k := fun k =>
    funext fun a => match a with | ⟨0, _⟩ => rfl | ⟨1, _⟩ => rfl | ⟨2, _⟩ => rfl | ⟨3, _⟩ => rfl
  simp only [e, ref_wgt]
  have z : val_main_cst_8 (F := Ideal) (Shape.Idx.first h_S_) = 0 := Ideal.ofBits_zero_f32
  rw [z, zero_add]
  rfl

/-- Head `x / 256`. -/
def headOf (x : Fin 1024) : Fin 4 := ⟨x.val / 256, by omega⟩

theorem headOf_tile (h : Fin 4) (d : Fin 256) (hh : h.val * 256 + d.val < 1024) : headOf ⟨h.val * 256 + d.val, hh⟩ = h :=
  Fin.ext (by show (h.val * 256 + d.val) / 256 = h.val; omega)

theorem ref_ctx (r : Fin 65536) (l : Fin 1024) :
    val_main_v64 (F := Ideal) x0 x1 x2 x3 x7 x8 x9 x10 (ix2 r l)
      = ∑ x : Fin 1024, (∑ j : Fin 256, mem x8 (batch r) j x
          * (show EReal from val_main_v58 (F := Ideal) x0 x1 x2 x3 x7 x9 (ix4 (batch r) (headOf x) (tok r) j))) * mat x10 x l := by
  pointwise [val_main_v64, val_main_v63, val_main_v62, val_main_v61, val_main_v60, val_main_v59, val_main_v44, val_main_v43, val_main_v42, val_main_v41]
  rfl

theorem ref_attn (r : Fin 65536) (l : Fin 1024) :
    val_main_v64 (F := Ideal) x0 x1 x2 x3 x7 x8 x9 x10 (ix2 r l)
      = attn soft (fun k => val_main_v35 (F := Ideal) x0 x1 x2 x3 x9 (ix2 r k)) (mem x7 (batch r)) (mem x8 (batch r)) (mat x10) l := by
  have hs : ∀ h j, val_main_v58 (F := Ideal) x0 x1 x2 x3 x7 x9 (ix4 (batch r) h (tok r) j)
      = soft (score (fun k => val_main_v35 (F := Ideal) x0 x1 x2 x3 x9 (ix2 r k)) (mem x7 (batch r)) h) j := by
    intro h j
    rw [ref_soft]
    exact congrArg (fun s => soft s j) (funext fun j => ref_score x0 x1 x2 x3 x7 x9 r h j)
  rw [ref_ctx]
  simp only [hs]
  generalize (fun k => val_main_v35 (F := Ideal) x0 x1 x2 x3 x9 (ix2 r k)) = q
  rw [Fin.sum_univ_tiles 4 256 rfl]
  refine Finset.sum_congr rfl fun h _ => Finset.sum_congr rfl fun d _ => ?_
  refine congrArg (· * mat x10 (col h d) l) (Finset.sum_congr rfl fun j _ => ?_)
  rw [mul_comm, headOf_tile]
  rfl

theorem ref_mid (r : Fin 65536) (l : Fin 1024) :
    val_main_v80 (F := Ideal) x0 x1 x2 x3 x4 x7 x8 x9 x10 (ix2 r l)
      = mix (fun k => val_main_v17 (F := Ideal) x0 x1 x2 (ix2 r k))
          (fun k => val_main_v64 (F := Ideal) x0 x1 x2 x3 x7 x8 x9 x10 (ix2 r k)) (gain x4) l := by
  pointwise [val_main_v80, val_main_v79, val_main_v78, val_main_v77, val_main_v76, val_main_v75, val_main_v74, val_main_v73, val_main_v72, val_main_v71, val_main_v70, val_main_v69, val_main_v68, val_main_v67, val_main_v66, val_main_v65, val_main_cst_9, val_main_cst_10, val_main_cst_11]
  rfl

theorem ref_norm2 (r : Fin 65536) (l : Fin 1024) :
    val_main_v95 (F := Ideal) x0 x1 x2 x3 x4 x5 x7 x8 x9 x10 (ix2 r l)
      = norm (gain x5) (fun k => val_main_v80 (F := Ideal) x0 x1 x2 x3 x4 x7 x8 x9 x10 (ix2 r k)) l := by
  pointwise [val_main_v95, val_main_v94, val_main_v93, val_main_v92, val_main_v91, val_main_v90, val_main_v89, val_main_v88, val_main_v87, val_main_v86, val_main_v85, val_main_v84, val_main_v83, val_main_v82, val_main_v81, val_main_cst_12, val_main_cst_13, val_main_cst_14]
  rfl

theorem ref_hid (r : Fin 65536) (n : Fin 2816) :
    val_main_v102 (F := Ideal) x0 x1 x2 x3 x4 x5 x7 x8 x9 x10 x11 (ix2 r n)
      = hid silu (matIn x11) (fun k => val_main_v95 (F := Ideal) x0 x1 x2 x3 x4 x5 x7 x8 x9 x10 (ix2 r k)) n := by
  pointwise [val_main_v102, val_main_v101, val_main_v100, val_main_v99, val_main_v98, val_main_v97, val_main_v96, val_main_call0_v5, val_main_call0_v4, val_main_call0_v3, val_main_call0_v2, val_main_call0_v1, val_main_call0_v0, val_main_call0_cst, val_main_call0_cst_0]
  rfl

theorem ref_ffn (r : Fin 65536) (l : Fin 1024) :
    val_main_v105 (F := Ideal) x0 x1 x2 x3 x4 x5 x7 x8 x9 x10 x11 x12 (ix2 r l)
      = ffn silu (matIn x11) (matOut x12) (fun k => val_main_v95 (F := Ideal) x0 x1 x2 x3 x4 x5 x7 x8 x9 x10 (ix2 r k)) l := by
  pointwise [val_main_v105, val_main_v104, val_main_v103]
  exact Finset.sum_congr rfl fun n _ => congrArg (· * _) (ref_hid x0 x1 x2 x3 x4 x5 x7 x8 x9 x10 x11 r n)

theorem ref_out (r : Fin 65536) (l : Fin 1024) :
    val_main_v121 (F := Ideal) x0 x1 x2 x3 x4 x5 x6 x7 x8 x9 x10 x11 x12 (ix2 r l)
      = mix (fun k => val_main_v80 (F := Ideal) x0 x1 x2 x3 x4 x7 x8 x9 x10 (ix2 r k))
          (fun k => val_main_v105 (F := Ideal) x0 x1 x2 x3 x4 x5 x7 x8 x9 x10 x11 x12 (ix2 r k)) (gain x6) l := by
  pointwise [val_main_v121, val_main_v120, val_main_v119, val_main_v118, val_main_v117, val_main_v116, val_main_v115, val_main_v114, val_main_v113, val_main_v112, val_main_v111, val_main_v110, val_main_v109, val_main_v108, val_main_v107, val_main_v106, val_main_cst_15, val_main_cst_16, val_main_cst_17]
  rfl

/-- The reference's row. -/
theorem ref_row (r : Fin 65536) (l : Fin 1024) :
    val_main_v121 (F := Ideal) x0 x1 x2 x3 x4 x5 x6 x7 x8 x9 x10 x11 x12 (ix2 r l)
      = fin silu (mid soft (mix (act x0 r) (act x1 r) (gain x2)) (gain x3) (gain x4) (mem x7 (batch r)) (mem x8 (batch r)) (mat x9) (mat x10))
          (gain x5) (gain x6) (matIn x11) (matOut x12) l := by
  have h1 : (fun k => val_main_v17 (F := Ideal) x0 x1 x2 (ix2 r k)) = _ := funext fun k => ref_mix x0 x1 x2 r k
  have h2 : (fun k => val_main_v32 (F := Ideal) x0 x1 x2 x3 (ix2 r k)) = _ := funext fun k => ref_norm x0 x1 x2 x3 r k
  have h3 : (fun k => val_main_v35 (F := Ideal) x0 x1 x2 x3 x9 (ix2 r k)) = _ := funext fun k => ref_q x0 x1 x2 x3 x9 r k
  have h4 : (fun k => val_main_v64 (F := Ideal) x0 x1 x2 x3 x7 x8 x9 x10 (ix2 r k)) = _ :=
    funext fun k => ref_attn x0 x1 x2 x3 x7 x8 x9 x10 r k
  have h5 : (fun k => val_main_v80 (F := Ideal) x0 x1 x2 x3 x4 x7 x8 x9 x10 (ix2 r k)) = _ :=
    funext fun k => ref_mid x0 x1 x2 x3 x4 x7 x8 x9 x10 r k
  have h6 : (fun k => val_main_v95 (F := Ideal) x0 x1 x2 x3 x4 x5 x7 x8 x9 x10 (ix2 r k)) = _ :=
    funext fun k => ref_norm2 x0 x1 x2 x3 x4 x5 x7 x8 x9 x10 r k
  have h7 : (fun k => val_main_v105 (F := Ideal) x0 x1 x2 x3 x4 x5 x7 x8 x9 x10 x11 x12 (ix2 r k)) = _ :=
    funext fun k => ref_ffn x0 x1 x2 x3 x4 x5 x7 x8 x9 x10 x11 x12 r k
  rw [ref_out, h7, h6, h5, h4, h3, h2, h1]
  rfl

end Cert.ReferenceIdeal.Rows

end
-- ==== Proof.Blocks.lean ====
module

public import proofs.«01_k».proof.Proof.Track
public import proofs.«01_k».proof.Proof.KernelRows
public import proofs.«01_k».proof.Proof.RefRows
public import Idealize.ShloMosaic.Lib.Pipeline.ValueKit
public import Idealize.ShloMosaic.Lib.Claim

/-!
The blocks a grid point is given, read as rows of the argument arrays: point `t` has the 512 tokens from
`512 * min t 127` on, their batch's memory and the first layer's weights.
-/

@[expose] public section

set_option maxRecDepth 16384

noncomputable section

namespace Cert.KernelIdeal.Body

open Cert.KernelIdeal Cert.KernelIdeal.Gen
open Idealize.ShloMosaic Idealize.ShloMosaic.TcCoe Idealize.SL.Sem
open Cert.ReferenceIdeal.Rows (batch tok act gain)
open Cert.Row (norm mix softK siluK mid fin)

variable (m : (ℓ : Loc nD τ sig) → Buf (Elt Ideal) ℓ) (c : Dev nD)

/-- Where each window's block lies at a point. -/
theorem place : ∀ t : Fin cfg0.N,
    win0_0.index t = ![min t.val 127, 0] ∧ win0_1.index t = ![min t.val 127, 0]
    ∧ win0_2.index t = ![0, 0, 0] ∧ win0_3.index t = ![0, 0, 0] ∧ win0_4.index t = ![0, 0, 0]
    ∧ win0_5.index t = ![0, 0, 0] ∧ win0_6.index t = ![0, 0, 0]
    ∧ win0_7.index t = ![0, min t.val 127 / 8, 0, 0] ∧ win0_8.index t = ![0, min t.val 127 / 8, 0, 0]
    ∧ win0_9.index t = ![0, 0, 0] ∧ win0_10.index t = ![0, 0, 0] ∧ win0_11.index t = ![0, 0, 0]
    ∧ win0_12.index t = ![0, 0, 0] ∧ win0_13.index t = ![t.val - 1, 0] :=
  (by decide +kernel : ∀ t : Fin grid0.N, _)

/-- The token at row `r` of the block of point `n`. -/
def token (n : ℕ) (r : Fin 512) : Fin 65536 := ⟨min n 127 * 512 + r.val, by omega⟩

/-- A token's batch is its block's. -/
theorem batch_token (n : ℕ) (r : Fin 512) : (batch (token n r)).val = min n 127 / 8 := by
  show (min n 127 * 512 + r.val) / 4096 = _
  omega

theorem rows_x (t : Fin cfg0.N) (r : Fin 512) :
    rowOf (iblk m c 0 t) r = act (m ((c : Thread nD τ).loc main_arg0)) (token t.val r) := by
  funext k
  show V m c main_v9 (((cfg0.win 0).blk t).view.emb (ix2 r k)) = _
  have e : ((cfg0.win 0).blk t).view.emb (ix2 r k) = (ix2 (token t.val r) k : S65536x1024.Idx) := by
    blk_ext [place t, token]
  rw [e]
  entry_read
  pointwise
  rfl

theorem rows_m (t : Fin cfg0.N) (r : Fin 512) :
    rowOf (iblk m c 1 t) r = act (m ((c : Thread nD τ).loc main_arg1)) (token t.val r) := by
  funext k
  show V m c main_v10 (((cfg0.win 1).blk t).view.emb (ix2 r k)) = _
  have e : ((cfg0.win 1).blk t).view.emb (ix2 r k) = (ix2 (token t.val r) k : S65536x1024.Idx) := by
    blk_ext [place t, token]
  rw [e]
  entry_read
  pointwise
  rfl

theorem mem_k (t : Fin cfg0.N) (r : Fin 512) :
    mem (iblk m c 7 t) = Cert.ReferenceIdeal.Rows.mem (m ((c : Thread nD τ).loc main_arg7)) (batch (token t.val r)) := by
  funext j k
  show V m c main_arg7 (((cfg0.win 7).blk t).view.emb (ix4 0 0 j k)) = _
  have e : ((cfg0.win 7).blk t).view.emb (ix4 0 0 j k) = (ix4 0 (batch (token t.val r)) j k : S4x16x256x1024.Idx) := by
    blk_ext [place t, batch_token]
  rw [e]
  rfl

theorem mem_v (t : Fin cfg0.N) (r : Fin 512) :
    mem (iblk m c 8 t) = Cert.ReferenceIdeal.Rows.mem (m ((c : Thread nD τ).loc main_arg8)) (batch (token t.val r)) := by
  funext j k
  show V m c main_arg8 (((cfg0.win 8).blk t).view.emb (ix4 0 0 j k)) = _
  have e : ((cfg0.win 8).blk t).view.emb (ix4 0 0 j k) = (ix4 0 (batch (token t.val r)) j k : S4x16x256x1024.Idx) := by
    blk_ext [place t, batch_token]
  rw [e]
  rfl

theorem gains_2 (t : Fin cfg0.N) : gains (iblk m c 2 t) = gain (m ((c : Thread nD τ).loc main_arg2)) := by
  funext k
  show V m c main_v4 (((cfg0.win 2).blk t).view.emb (ix3 0 0 k)) = _
  have e : ((cfg0.win 2).blk t).view.emb (ix3 0 0 k) = (ix3 0 0 k : S4x1x1024.Idx) := by
    blk_ext [place t]
  rw [e]
  entry_read
  pointwise

theorem gains_3 (t : Fin cfg0.N) : gains (iblk m c 3 t) = gain (m ((c : Thread nD τ).loc main_arg3)) := by
  funext k
  show V m c main_v5 (((cfg0.win 3).blk t).view.emb (ix3 0 0 k)) = _
  have e : ((cfg0.win 3).blk t).view.emb (ix3 0 0 k) = (ix3 0 0 k : S4x1x1024.Idx) := by
    blk_ext [place t]
  rw [e]
  entry_read
  pointwise

theorem gains_4 (t : Fin cfg0.N) : gains (iblk m c 4 t) = gain (m ((c : Thread nD τ).loc main_arg4)) := by
  funext k
  show V m c main_v6 (((cfg0.win 4).blk t).view.emb (ix3 0 0 k)) = _
  have e : ((cfg0.win 4).blk t).view.emb (ix3 0 0 k) = (ix3 0 0 k : S4x1x1024.Idx) := by
    blk_ext [place t]
  rw [e]
  entry_read
  pointwise

theorem gains_5 (t : Fin cfg0.N) : gains (iblk m c 5 t) = gain (m ((c : Thread nD τ).loc main_arg5)) := by
  funext k
  show V m c main_v7 (((cfg0.win 5).blk t).view.emb (ix3 0 0 k)) = _
  have e : ((cfg0.win 5).blk t).view.emb (ix3 0 0 k) = (ix3 0 0 k : S4x1x1024.Idx) := by
    blk_ext [place t]
  rw [e]
  entry_read
  pointwise

theorem gains_6 (t : Fin cfg0.N) : gains (iblk m c 6 t) = gain (m ((c : Thread nD τ).loc main_arg6)) := by
  funext k
  show V m c main_v8 (((cfg0.win 6).blk t).view.emb (ix3 0 0 k)) = _
  have e : ((cfg0.win 6).blk t).view.emb (ix3 0 0 k) = (ix3 0 0 k : S4x1x1024.Idx) := by
    blk_ext [place t]
  rw [e]
  entry_read
  pointwise

theorem mat_q (t : Fin cfg0.N) : mat (iblk m c 9 t) = Cert.ReferenceIdeal.Rows.mat (m ((c : Thread nD τ).loc main_arg9)) := by
  funext k l
  show V m c main_v0 (((cfg0.win 9).blk t).view.emb (ix3 0 k l)) = _
  have e : ((cfg0.win 9).blk t).view.emb (ix3 0 k l) = (ix3 0 k l : S4x1024x1024.Idx) := by
    blk_ext [place t]
  rw [e]
  entry_read
  pointwise

theorem mat_o (t : Fin cfg0.N) : mat (iblk m c 10 t) = Cert.ReferenceIdeal.Rows.mat (m ((c : Thread nD τ).loc main_arg10)) := by
  funext k l
  show V m c main_v1 (((cfg0.win 10).blk t).view.emb (ix3 0 k l)) = _
  have e : ((cfg0.win 10).blk t).view.emb (ix3 0 k l) = (ix3 0 k l : S4x1024x1024.Idx) := by
    blk_ext [place t]
  rw [e]
  entry_read
  pointwise

theorem mat_in (t : Fin cfg0.N) : matIn (iblk m c 11 t) = Cert.ReferenceIdeal.Rows.matIn (m ((c : Thread nD τ).loc main_arg11)) := by
  funext k l
  show V m c main_v2 (((cfg0.win 11).blk t).view.emb (ix3 0 k l)) = _
  have e : ((cfg0.win 11).blk t).view.emb (ix3 0 k l) = (ix3 0 k l : S4x1024x5632.Idx) := by
    blk_ext [place t]
  rw [e]
  entry_read
  pointwise

theorem mat_out (t : Fin cfg0.N) : matOut (iblk m c 12 t) = Cert.ReferenceIdeal.Rows.matOut (m ((c : Thread nD τ).loc main_arg12)) := by
  funext k l
  show V m c main_v3 (((cfg0.win 12).blk t).view.emb (ix3 0 k l)) = _
  have e : ((cfg0.win 12).blk t).view.emb (ix3 0 k l) = (ix3 0 k l : S4x2816x1024.Idx) := by
    blk_ext [place t]
  rw [e]
  entry_read
  pointwise

/-- The row of the result that the kernel computes for a token, from the argument arrays. -/
def kernelRow (R : Fin 65536) : Fin 1024 → EReal :=
  fin siluK (mid softK (mix (act (m ((c : Thread nD τ).loc main_arg0)) R) (act (m ((c : Thread nD τ).loc main_arg1)) R) (gain (m ((c : Thread nD τ).loc main_arg2))))
      (gain (m ((c : Thread nD τ).loc main_arg3))) (gain (m ((c : Thread nD τ).loc main_arg4)))
      (Cert.ReferenceIdeal.Rows.mem (m ((c : Thread nD τ).loc main_arg7)) (batch R))
      (Cert.ReferenceIdeal.Rows.mem (m ((c : Thread nD τ).loc main_arg8)) (batch R))
      (Cert.ReferenceIdeal.Rows.mat (m ((c : Thread nD τ).loc main_arg9))) (Cert.ReferenceIdeal.Rows.mat (m ((c : Thread nD τ).loc main_arg10))))
    (gain (m ((c : Thread nD τ).loc main_arg5))) (gain (m ((c : Thread nD τ).loc main_arg6)))
    (Cert.ReferenceIdeal.Rows.matIn (m ((c : Thread nD τ).loc main_arg11))) (Cert.ReferenceIdeal.Rows.matOut (m ((c : Thread nD τ).loc main_arg12)))

/-- After the point that follows `n`, the output window holds the rows of `n`'s tokens. -/
theorem outAt_row (n : ℕ) (h : n + 1 < cfg0.N) (r : Fin 512) (l : Fin 1024) :
    outAt m c (n + 1) h (ix2 r l) = kernelRow m c (token n r) l := by
  have eX : rowOf3 (residAt m c ⟨n, Nat.lt_of_succ_lt h⟩) r = _ := attX_at _ _ _ _ _ _ _ _ _ r
  have eH : rowOf3 (normedAt m c ⟨n, Nat.lt_of_succ_lt h⟩) r = norm _ (rowOf3 (residAt m c ⟨n, Nat.lt_of_succ_lt h⟩) r) :=
    attH_at _ _ _ _ _ _ _ _ _ _ r
  rw [gains_5] at eH
  rw [rows_x, rows_m, gains_2, gains_3, gains_4, mem_k m c _ r, mem_v m c _ r, mat_q, mat_o] at eX
  show swi (normedAt m c ⟨n, Nat.lt_of_succ_lt h⟩) (residAt m c ⟨n, Nat.lt_of_succ_lt h⟩) (iblk m c 11 ⟨n + 1, h⟩)
    (iblk m c 12 ⟨n + 1, h⟩) (iblk m c 6 ⟨n + 1, h⟩) (ix2 r l) = _
  rw [swi_at, eH, eX, gains_6, mat_in, mat_out]
  rfl

/-- The result array after the run. -/
theorem final : (dats m 0 c).arrAt 13 (cfgs 0).N = fun i : S65536x1024.Idx => kernelRow m c (i 0) (i 1) := by
  refine (dats m 0 c).arrAt_eq_of_covers 13 _ (by decide +kernel) fun t hf y => ?_
  have h1 : 1 ≤ t.val := by
    revert hf
    exact (by decide +kernel : ∀ t : Fin grid0.N, win0_13.flush t = true → 1 ≤ t.val) t
  blk_simp
  rw [after0_13]
  have key : ∀ z : S512x1024.Idx, outAt m c t.val t.isLt z =
      kernelRow m c ((win0_13.blk t).view.emb z 0) ((win0_13.blk t).view.emb z 1) := by
    intro z
    obtain ⟨r, l, rfl⟩ : ∃ (r : Fin 512) (l : Fin 1024), z = ix2 r l :=
      ⟨z 0, z 1, by funext a; fin_cases a <;> rfl⟩
    have e : (win0_13.blk t).view.emb (ix2 r l) = (ix2 (token (t.val - 1) r) l : S65536x1024.Idx) := by
      have := t.isLt
      have hN : cfg0.N = 129 := by decide
      blk_ext [place t, token]
    rw [e]
    have hs : t.val - 1 + 1 = t.val := by omega
    have := outAt_row m c (t.val - 1) (by rw [hs]; exact t.isLt) r l
    simp only [hs] at this
    exact this
  exact key y

end Cert.KernelIdeal.Body

end
-- ==== Proof.Finite.lean ====
module

public import proofs.«01_k».proof.Proof.Spec

/-!
The two spellings agree on rows of real numbers. Every stage of a row keeps its entries real: under the root
stands a mean of squares plus a positive number, and a softmax divides by a sum of positive reals.
-/

@[expose] public section

noncomputable section

namespace Cert.Row

open Idealize.ShloMosaic

/-- The value is a real number. -/
def Fine (x : EReal) : Prop := ∃ r : ℝ, x = r

theorem len_eq : len = ((1024 : ℝ) : EReal) := by
  unfold len; simp [Ideal.ofBits, Ideal.ieee, -EReal.coe_mul]; norm_num
theorem half_eq : half = (((1 : ℝ) / 2 : ℝ) : EReal) := by
  unfold half; simp [Ideal.ofBits, Ideal.ieee, -EReal.coe_mul]; norm_num
theorem scale_fine : Fine scale := ⟨1 / 16, by
  unfold scale; simp [Ideal.ofBits, Ideal.ieee, -EReal.coe_mul]; norm_num⟩
theorem low_eq : low = ⊥ := by
  unfold low; simp [Ideal.ofBits, Ideal.ieee]
theorem eps_pos : ∃ r : ℝ, 0 < r ∧ eps = r := ⟨8796093 / 2 ^ 43, by norm_num, by
  unfold eps; simp [Ideal.ofBits, Ideal.ieee, -EReal.coe_mul]; norm_num⟩

theorem Fine.add {x y : EReal} : Fine x → Fine y → Fine (x + y)
  | ⟨a, ha⟩, ⟨b, hb⟩ => ⟨a + b, by rw [ha, hb, EReal.coe_add]⟩
theorem Fine.mul {x y : EReal} : Fine x → Fine y → Fine (x * y)
  | ⟨a, ha⟩, ⟨b, hb⟩ => ⟨a * b, by rw [ha, hb, EReal.coe_mul]⟩
theorem Fine.sub {x y : EReal} : Fine x → Fine y → Fine (x - y)
  | ⟨a, ha⟩, ⟨b, hb⟩ => ⟨a - b, by rw [ha, hb, EReal.coe_sub]⟩
theorem coe_sum {ι : Type} (s : Finset ι) (f : ι → ℝ) : ((∑ k ∈ s, f k : ℝ) : EReal) = ∑ k ∈ s, (f k : EReal) := by
  classical
  refine Finset.induction_on s rfl fun k s hk ih => ?_
  rw [Finset.sum_insert hk, Finset.sum_insert hk, EReal.coe_add, ih]
theorem fine_sum {n : ℕ} (f : Fin n → EReal) (h : ∀ k, Fine (f k)) : Fine (∑ k, f k) := by
  refine Finset.sum_induction f Fine (fun _ _ => Fine.add) ⟨0, rfl⟩ fun k _ => h k
theorem Fine.ne_bot {x : EReal} : Fine x → x ≠ ⊥
  | ⟨a, ha⟩ => by rw [ha]; exact EReal.coe_ne_bot a
theorem fine_of {x : EReal} (h : x ≠ ⊥) (h' : x ≠ ⊤) : Fine x := ⟨x.toReal, (EReal.coe_toReal h' h).symm⟩

theorem Fine.silu {x : EReal} : Fine x → silu x = siluK x ∧ Fine (siluK x)
  | ⟨r, hr⟩ => by
    subst hr
    have hne : 1 + Real.exp (-r) ≠ 0 := by positivity
    have h1 : Row.silu (r : EReal) = ((r * (1 + Real.exp (-r))⁻¹ : ℝ) : EReal) := by
      unfold Row.silu
      rw [← EReal.coe_neg, Ideal.exp_coe, show (1 : EReal) = ((1 : ℝ) : EReal) from rfl, ← EReal.coe_add,
        Ideal.div_coe hne, ← EReal.coe_mul, ← EReal.coe_mul]
      norm_num
    have h2 : siluK (r : EReal) = ((1 / 2 * r + 1 / 2 * r * Real.tanh (1 / 2 * r) : ℝ) : EReal) := by
      unfold siluK
      rw [half_eq, ← EReal.coe_mul, Ideal.tanh_coe, ← EReal.coe_mul, ← EReal.coe_add]
    refine ⟨?_, _, h2⟩
    rw [h1, h2]
    refine congrArg _ ?_
    rw [Real.tanh_eq_sinh_div_cosh, Real.sinh_eq, Real.cosh_eq]
    have e : Real.exp (-r) = Real.exp (-(1 / 2 * r)) * Real.exp (-(1 / 2 * r)) := by
      rw [← Real.exp_add]; congr 1; ring
    have e' : Real.exp (1 / 2 * r) * Real.exp (-(1 / 2 * r)) = 1 := by
      rw [← Real.exp_add]; simp
    have p := Real.exp_pos (1 / 2 * r)
    have p' := Real.exp_pos (-(1 / 2 * r))
    rw [e]
    generalize Real.exp (1 / 2 * r) = u at *
    generalize Real.exp (-(1 / 2 * r)) = w at *
    have hd : u + w ≠ 0 := by positivity
    have hd' : 1 + w * w ≠ 0 := by positivity
    field_simp
    linear_combination (-(2 * r * w)) * e'

theorem rinv_fine {v : Fin 1024 → EReal} (h : ∀ k, Fine (v k)) : Fine (rinv v) := by
  choose f hf using h
  obtain ⟨e, he, hee⟩ := eps_pos
  have hs : ∑ k, v k * v k = ((∑ k, f k * f k : ℝ) : EReal) := by
    rw [coe_sum]
    exact Finset.sum_congr rfl fun k _ => by rw [hf k, EReal.coe_mul]
  have h0 : (0 : ℝ) ≤ ∑ k, f k * f k := Finset.sum_nonneg fun k _ => mul_self_nonneg (f k)
  unfold rinv
  rw [hs, len_eq, hee, Ideal.div_coe (by norm_num), ← EReal.coe_mul, ← EReal.coe_add, Ideal.rsqrt_coe]
  have hp : 0 < (∑ k, f k * f k) * (1 / 1024 : ℝ) + e := by positivity
  rw [if_neg (not_lt.2 hp.le), if_neg hp.ne']
  exact ⟨_, rfl⟩

theorem norm_fine {g v : Fin 1024 → EReal} (hg : ∀ k, Fine (g k)) (h : ∀ k, Fine (v k)) (l : Fin 1024) :
    Fine (norm g v l) := ((h l).mul (rinv_fine h)).mul (hg l)
theorem mix_fine {x v g : Fin 1024 → EReal} (hx : ∀ k, Fine (x k)) (hv : ∀ k, Fine (v k)) (hg : ∀ k, Fine (g k))
    (l : Fin 1024) : Fine (mix x v g l) := (hx l).add (norm_fine hg hv l)
theorem proj_fine {W : Fin 1024 → Fin 1024 → EReal} {v : Fin 1024 → EReal} (hW : ∀ k l, Fine (W k l))
    (h : ∀ k, Fine (v k)) (l : Fin 1024) : Fine (proj W v l) := fine_sum _ fun k => (h k).mul (hW k l)
theorem score_fine {q : Fin 1024 → EReal} {K : Fin 256 → Fin 1024 → EReal} (hq : ∀ k, Fine (q k))
    (hK : ∀ j k, Fine (K j k)) (h : Fin 4) (j : Fin 256) : Fine (score q K h j) :=
  (fine_sum _ fun d => (hq (col h d)).mul (hK j (col h d))).mul scale_fine

theorem top_fine {s : Fin 256 → EReal} (h : ∀ j, Fine (s j)) : Fine (top s) := by
  unfold top
  rw [low_eq]
  refine fine_of (fun hb => ?_) (fun ht => ?_)
  · have h0 : s 0 ≤ ⊥ := hb ▸ (Finset.le_fold_max _).2 (Or.inr ⟨0, Finset.mem_univ 0, le_rfl⟩)
    exact (h 0).ne_bot (le_bot_iff.1 h0)
  · have hlt : Finset.univ.fold max (⊥ : EReal) s < ⊤ := by
      rw [Finset.fold_max_lt]
      refine ⟨bot_lt_top, fun j _ => ?_⟩
      obtain ⟨r, hr⟩ := h j
      rw [hr]; exact EReal.coe_lt_top r
    exact hlt.ne ht

theorem wgt_pos {s : Fin 256 → EReal} (h : ∀ j, Fine (s j)) (j : Fin 256) : ∃ r : ℝ, 0 < r ∧ wgt s j = r := by
  obtain ⟨r, hr⟩ := (h j).sub (top_fine h)
  exact ⟨Real.exp r, Real.exp_pos r, by unfold wgt; rw [hr, Ideal.exp_coe]⟩

/-- On real scores the two softmaxes agree, and their weights are real. -/
theorem soft_eq {s : Fin 256 → EReal} (h : ∀ j, Fine (s j)) : soft s = softK s ∧ ∀ j, Fine (softK s j) := by
  choose f hp hf using wgt_pos h
  have hs : ∑ k, wgt s k = ((∑ k, f k : ℝ) : EReal) := by
    rw [coe_sum]; exact Finset.sum_congr rfl fun k _ => hf k
  have hne : (∑ k, f k : ℝ) ≠ 0 := (Finset.sum_pos (fun k _ => hp k) ⟨0, Finset.mem_univ 0⟩).ne'
  refine ⟨funext fun j => ?_, fun j => ?_⟩
  · unfold soft softK
    rw [hs, Ideal.div_coe hne, Ideal.div_coe hne, one_mul]
  · unfold softK
    rw [hs, Ideal.div_coe hne, one_mul, hf j, ← EReal.coe_mul]
    exact ⟨_, rfl⟩

theorem attn_eq {q : Fin 1024 → EReal} {K V : Fin 256 → Fin 1024 → EReal} {Wo : Fin 1024 → Fin 1024 → EReal}
    (hq : ∀ k, Fine (q k)) (hK : ∀ j k, Fine (K j k)) (hV : ∀ j k, Fine (V j k)) (hW : ∀ k l, Fine (Wo k l)) :
    attn soft q K V Wo = attn softK q K V Wo ∧ ∀ l, Fine (attn softK q K V Wo l) := by
  refine ⟨funext fun l => ?_, fun l => ?_⟩
  · unfold attn
    refine Finset.sum_congr rfl fun h _ => Finset.sum_congr rfl fun d _ => ?_
    rw [(soft_eq (score_fine hq hK h)).1]
  · refine fine_sum _ fun h => fine_sum _ fun d => Fine.mul ?_ (hW _ l)
    exact fine_sum _ fun j => ((soft_eq (score_fine hq hK h)).2 j).mul (hV j _)

theorem ffn_eq {Win : Fin 1024 → Fin 5632 → EReal} {Wout : Fin 2816 → Fin 1024 → EReal} {v : Fin 1024 → EReal}
    (hW : ∀ k n, Fine (Win k n)) (hv : ∀ k, Fine (v k)) : ffn silu Win Wout v = ffn siluK Win Wout v := by
  funext l
  unfold ffn hid
  refine Finset.sum_congr rfl fun n _ => ?_
  rw [(Fine.silu (fine_sum _ fun k => (hv k).mul (hW k (gcol n)))).1]

/-- The layer's row, both spellings at once. -/
theorem row_eq {x m g1 g2 g3 g4 g5 : Fin 1024 → EReal} {K V : Fin 256 → Fin 1024 → EReal}
    {Wq Wo : Fin 1024 → Fin 1024 → EReal} {Win : Fin 1024 → Fin 5632 → EReal} {Wout : Fin 2816 → Fin 1024 → EReal}
    (hx : ∀ k, Fine (x k)) (hm : ∀ k, Fine (m k)) (h1 : ∀ k, Fine (g1 k)) (h2 : ∀ k, Fine (g2 k))
    (h3 : ∀ k, Fine (g3 k)) (h4 : ∀ k, Fine (g4 k)) (hK : ∀ j k, Fine (K j k)) (hV : ∀ j k, Fine (V j k))
    (hq : ∀ k l, Fine (Wq k l)) (ho : ∀ k l, Fine (Wo k l)) (hi : ∀ k n, Fine (Win k n)) :
    fin silu (mid soft (mix x m g1) g2 g3 K V Wq Wo) g4 g5 Win Wout
      = fin siluK (mid softK (mix x m g1) g2 g3 K V Wq Wo) g4 g5 Win Wout := by
  have hx1 := mix_fine hx hm h1
  obtain ⟨ha, haf⟩ := attn_eq (proj_fine hq (norm_fine h2 hx1)) hK hV ho
  have hmid : mid soft (mix x m g1) g2 g3 K V Wq Wo = mid softK (mix x m g1) g2 g3 K V Wq Wo := by
    unfold mid; rw [ha]
  have hmf : ∀ l, Fine (mid softK (mix x m g1) g2 g3 K V Wq Wo l) := mix_fine hx1 haf h3
  rw [hmid]
  unfold fin
  rw [ffn_eq hi (norm_fine h4 hmf)]

end Cert.Row

end
-- ==== Proof.Given.lean ====
/- The precondition read back: where it is all ones, every entry of every argument array is a number. -/
module

public import proofs.«01_k».proof.Proof.Gen.Pre_all_finite
public import proofs.«01_k».proof.Proof.Finite
public import Idealize.ShloMosaic.Lib.ReduceAll
public import Idealize.ShloMosaic.Lib.Pointwise

@[expose] public section

noncomputable section

namespace Cert.Pre_all_finite

open Idealize.ShloMosaic Cert.Row

/-- One array's test: the conjunction over its entries of `|x| < ∞`. -/
theorem fine_of_test {S : Shape} (x : FVec Ideal S .f32) (hb : S_.BroadcastsInDim S (![] : Fin 0 → Fin S.rank)) {ax : List (Fin S.rank)}
    (hr : S.ReducesTo ax S_) (h0 : 0 < S_.numel) (j : S_.Idx)
    (e : Host.reduce IntOp.andi (cmpf .olt (Host.absf x) (broadcastInDim S ![] hb (constant S_ .f32 0x7F800000#32)))
      (constantI S_ 1 1#1) hr h0 j = 1#1) (i : S.Idx) : Fine (x i) := by
  have h := Host.reduce_andi_all _ _ _ _ j e i
  pointwise at h
  have top : Ideal.ofBits FTy.f32 2139095040#32 = ⊤ := by simp [Ideal.ofBits, Ideal.ieee]
  rw [top] at h
  have lt : FloatOps.absf (F := Ideal) (φ := .f32) (x i) < ⊤ := by
    by_contra hc
    simp [hc] at h
  refine fine_of (fun hx => ?_) (fun hx => ?_) <;> rw [hx] at lt <;> simp [FloatOps.absf] at lt

/-- Of every array but the last gain and the last matrix, whose entries the two programs use alike. -/
theorem fine_args [Facts] (x0 x1 : FVec Ideal S16x4096x1024 .f32) (x2 x3 x4 x5 x6 : FVec Ideal S4x1024 .f32)
    (x7 x8 : FVec Ideal S4x16x256x1024 .bf16) (x9 x10 : FVec Ideal S4x1024x1024 .f32)
    (x11 : FVec Ideal S4x1024x5632 .f32) (x12 : FVec Ideal S4x2816x1024 .f32)
    (h : fn (F := Ideal) x0 x1 x2 x3 x4 x5 x6 x7 x8 x9 x10 x11 x12 = fun _ => 1#1) :
    (∀ i, Fine (x0 i)) ∧ (∀ i, Fine (x1 i)) ∧ (∀ i, Fine (x2 i)) ∧ (∀ i, Fine (x3 i)) ∧ (∀ i, Fine (x4 i)) ∧ (∀ i, Fine (x5 i)) ∧
      (∀ i, Fine (x7 i)) ∧ (∀ i, Fine (x8 i)) ∧ (∀ i, Fine (x9 i)) ∧ (∀ i, Fine (x10 i)) ∧ (∀ i, Fine (x11 i)) := by
  have e := congrFun h ix0
  unfold fn fn_part1 fn_part2 fn_part3 at e
  dsimp only [andi] at e
  simp only [IntOp.andi_eq_one] at e
  obtain ⟨⟨⟨⟨⟨⟨⟨⟨⟨⟨⟨⟨⟨-, e0⟩, e1⟩, e2⟩, e3⟩, e4⟩, e5⟩, -⟩, e7⟩, e8⟩, e9⟩, e10⟩, e11⟩, -⟩ := e
  exact ⟨fine_of_test x0 _ _ _ _ e0, fine_of_test x1 _ _ _ _ e1, fine_of_test x2 _ _ _ _ e2, fine_of_test x3 _ _ _ _ e3,
    fine_of_test x4 _ _ _ _ e4, fine_of_test x5 _ _ _ _ e5, fine_of_test (extf .f32 x7 _) _ _ _ _ e7,
    fine_of_test (extf .f32 x8 _) _ _ _ _ e8, fine_of_test x9 _ _ _ _ e9, fine_of_test x10 _ _ _ _ e10,
    fine_of_test x11 _ _ _ _ e11⟩

end Cert.Pre_all_finite

end
-- ==== Proof.Value.lean ====
/- On numbers the kernel's result array is the reference's. -/
module

public import proofs.«01_k».proof.Proof.Blocks
public import proofs.«01_k».proof.Proof.Given

@[expose] public section

set_option maxRecDepth 16384

noncomputable section

namespace Cert.KernelIdeal.Body

open Idealize.ShloMosaic Idealize.ShloMosaic.TcCoe Idealize.SL.Sem Cert.Row
open Cert.KernelIdeal Cert.KernelIdeal.Gen
open Cert.ReferenceIdeal.Read (val_main_v121)

variable (m : (ℓ : Loc nD τ sig) → Buf (Elt Ideal) ℓ) (c : Dev nD)

/-- The array the kernel leaves is the reference's array of the same arguments. -/
theorem value [Cert.Pre_all_finite.Facts]
    (h : Cert.Pre_all_finite.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) = fun _ => 1#1) :
    (dats m 0 c).arrAt 13 (cfgs 0).N =
      val_main_v121 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10))
      (m ((c : Thread nD τ).loc main_arg11)) (m ((c : Thread nD τ).loc main_arg12)) := by
  obtain ⟨h0, h1, h2, h3, h4, h5, h7, h8, h9, h10, h11⟩ := Cert.Pre_all_finite.fine_args _ _ _ _ _ _ _ _ _ _ _ _ _ h
  rw [final]
  funext i
  obtain ⟨r, l, rfl⟩ : ∃ (r : Fin 65536) (l : Fin 1024), i = ix2 r l := ⟨i 0, i 1, by funext a; fin_cases a <;> rfl⟩
  refine Eq.trans ?_ (Cert.ReferenceIdeal.Rows.ref_row _ _ _ _ _ _ _ _ _ _ _ _ _ r l).symm
  refine congrFun (?_ : kernelRow m c r = _) l
  exact (row_eq (fun _ => h0 _) (fun _ => h1 _) (fun _ => h2 _) (fun _ => h3 _) (fun _ => h4 _) (fun _ => h5 _)
    (fun _ _ => h7 _) (fun _ _ => h8 _) (fun _ _ => h9 _) (fun _ _ => h10 _) (fun _ _ => h11 _)).symm

end Cert.KernelIdeal.Body

end
-- ==== Proof.Sb.Slots.lean ====
module

public import proofs.«01_k».proof.Proof.Slots
public import proofs.«01_k».proof.Proof.Gen.Kernel2Ideal.Frame
public import proofs.«01_k».proof.Proof.Gen.Kernel2Ideal.Skeleton
public import Idealize.ShloMosaic.Lib.Pipeline.ValueKit
public import Idealize.ShloMosaic.Lib.WritesUnit

/-!
Reading one slot of a two-slot buffer after a store into a slot: the same slot holds what was stored, the other
slot is as it was. Then the rows the mixer's output is projected to.
-/

@[expose] public section

noncomputable section

namespace Cert.Kernel2Ideal.Body

open Cert.Kernel2Ideal Cert.Kernel2Ideal.Gen
open Idealize.ShloMosaic

variable {F : FTy → Type} [FloatOps F] {e : EltTy} {κ : Kind} {sp : Space}

/-- The slot just stored holds the payload. -/
theorem slot_hit (v : View sig κ sp S2x512x1024 e) (f : v.ty.Contents (Elt F)) (off off' : Fin 3 → ℕ)
    (inb : ∀ a, off a + S1x512x1024.size a ≤ S2x512x1024.size a) (inb' : ∀ a, off' a + S1x512x1024.size a ≤ S2x512x1024.size a)
    (w : Vec F S1x512x1024 e) (L : List (View.Piece (Elt F) S2x512x1024 e)) (h : off' = off) :
    v.readAt (Elt F) (Rect.unit (s := S2x512x1024) off S1x512x1024.size inb).toLoadRect
      (v.writes (Elt F) f (⟨Rect.unit (s := S2x512x1024) off' S1x512x1024.size inb', w⟩ :: L)) = w := by
  rw [View.readAt_eq_ld]
  funext y
  refine View.read_writes_cons_unit_of_mem v f inb' w L _ y h fun a => ?_
  show off a + 1 * (y a).val = _
  omega

/-- A slot other than the one just stored holds what it held before. -/
theorem slot_skip (v : View sig κ sp S2x512x1024 e) (f : v.ty.Contents (Elt F)) (off off' : Fin 3 → ℕ)
    (inb : ∀ a, off a + S1x512x1024.size a ≤ S2x512x1024.size a) (inb' : ∀ a, off' a + S1x512x1024.size a ≤ S2x512x1024.size a)
    (w : Vec F S1x512x1024 e) (L : List (View.Piece (Elt F) S2x512x1024 e)) (h : off 0 ≠ off' 0) :
    v.readAt (Elt F) (Rect.unit (s := S2x512x1024) off S1x512x1024.size inb).toLoadRect
      (v.writes (Elt F) f (⟨Rect.unit (s := S2x512x1024) off' S1x512x1024.size inb', w⟩ :: L))
      = v.readAt (Elt F) (Rect.unit (s := S2x512x1024) off S1x512x1024.size inb).toLoadRect (v.writes (Elt F) f L) := by
  rw [View.readAt_eq_ld, View.readAt_eq_ld]
  funext y
  refine View.read_writes_cons_unit_of_not_mem v f inb' w L _ rfl 0 ?_
  have h0 : (y 0).val < 1 := (y 0).isLt
  show off 0 + 1 * (y 0).val < off' 0 ∨ off' 0 + 1 ≤ off 0 + 1 * (y 0).val
  omega

/-- The mixer's rows times the mixer's output weights. -/
def mixed (m : Vec F S512x1024 .bf16) (W : Vec F S1x1024x1024 .bf16) : Vec F S512x1024 .f32 :=
  matmul dot_S512x1024_S1024x1024_S512x1024_1_0_0_1_n_n none (shapeCast S512x1024 m shapeCasts_S512x1024_S512x1024)
    (shapeCast S1024x1024 W shapeCasts_S1x1024x1024_S1024x1024) (constant S512x1024 .f32 0x00000000#32)

/-- The slot a point reads. -/
theorem off1_eq : ∀ i : grid0.Coords, k0_off1 i = ![1 - (i 0).val % 2, 0, 0] := by decide +kernel
/-- The slot a point fills. -/
theorem off2_eq : ∀ i : grid0.Coords, k0_off2 i = ![(i 0).val % 2, 0, 0] := by decide +kernel
instance closedOff_1 (i : grid0.Coords) : ClosedOff (k0_off1 i) := ⟨![1 - (i 0).val % 2, 0, 0], off1_eq i⟩
instance closedOff_2 (i : grid0.Coords) : ClosedOff (k0_off2 i) := ⟨![(i 0).val % 2, 0, 0], off2_eq i⟩

/-- A point reads one slot and fills the other. -/
theorem off_ne (i : grid0.Coords) : k0_off1 i 0 ≠ k0_off2 i 0 := by
  rw [off1_eq, off2_eq]
  show 1 - (i 0).val % 2 ≠ (i 0).val % 2
  omega

/-- The first grid point, as the body tests for it. -/
abbrev cond (i : grid0.Coords) : Prop := (Scalar.cmpi .ne (Scalar.extui (Scalar.cmpi .eq (BitVec.ofNat 32 (i 0).val) 0#32)) 0#32) = 1#1

/-- At the first point the slot read is the one the zero stores fill. -/
theorem off1_first : ∀ i : grid0.Coords, cond i → k0_off1 i = ![1, 0, 0] := by decide +kernel

end Cert.Kernel2Ideal.Body

end
-- ==== Proof.Sb.Steps.lean ====
module

public import proofs.«01_k».proof.Proof.Sb.Slots
public import proofs.«01_k».proof.Proof.Gen.Kernel2Ideal.Skeleton

/-!
The printed body's own expressions, grouped step by step, are the other program's: the two bodies compute the
same attention over the memory and the same feed-forward, cut into expressions differently. Each lemma takes
its arguments as variables.
-/

@[expose] public section

set_option maxRecDepth 16384

noncomputable section

namespace Cert.Kernel2Ideal.Body

open Cert.Kernel2Ideal Cert.Kernel2Ideal.Gen
open Idealize.ShloMosaic Idealize.ShloMosaic.TcCoe

variable {F : FTy → Type} [FloatOps F]

/-- The residual stream after the mix. -/
theorem mix_x (x : Vec F S512x1024 .f32) (m : Vec F S512x1024 .bf16) (W : Vec F S1x1024x1024 .bf16) (g : Vec F S1x1x1024 .f32) :
    k0_pay5 x m W g
      = Cert.KernelIdeal.Gen.k0_pay5 x (mixed m W) g := by
  unfold k0_pay5 Cert.KernelIdeal.Gen.k0_pay5
  simp only [mixed, shapeCast_self]

/-- The normalised rows that ask the memory. -/
theorem mix_q (x : Vec F S512x1024 .f32) (m : Vec F S512x1024 .bf16) (W : Vec F S1x1024x1024 .bf16) (g g' : Vec F S1x1x1024 .f32) :
    k0_pay6 x m W g g'
      = Cert.KernelIdeal.Gen.k0_pay6 x (mixed m W) g g' := by
  unfold k0_pay6 Cert.KernelIdeal.Gen.k0_pay6
  simp only [mix_x, shapeCast_self]

/-- Head 0: its scores, the softmax over the memory's slots, the weighted values. -/
theorem head_0 (q : FVec F S512x1024 .bf16) (Wq : Vec F S1x1024x1024 .bf16) (K V : Vec F S1x1x256x256 .bf16) :
    k0_pay31 (k0_pay22 (k0_pay13 (k0_pay11 q Wq K) k0_pay12)) V
      = Cert.KernelIdeal.Gen.k0_pay30 (Cert.KernelIdeal.Gen.k0_pay19 (Cert.KernelIdeal.Gen.k0_pay12 q Wq K)) V := rfl

/-- Head 1: its scores, the softmax over the memory's slots, the weighted values. -/
theorem head_1 (q : FVec F S512x1024 .bf16) (Wq : Vec F S1x1024x1024 .bf16) (K V : Vec F S1x1x256x256 .bf16) :
    k0_pay32 (k0_pay23 (k0_pay14 (k0_pay9 q Wq) K)) V
      = Cert.KernelIdeal.Gen.k0_pay31 (Cert.KernelIdeal.Gen.k0_pay20 (Cert.KernelIdeal.Gen.k0_pay14 (Cert.KernelIdeal.Gen.k0_pay13 q Wq) K)) V := rfl

/-- Head 2: its scores, the softmax over the memory's slots, the weighted values. -/
theorem head_2 (q : FVec F S512x1024 .bf16) (Wq : Vec F S1x1024x1024 .bf16) (K V : Vec F S1x1x256x256 .bf16) :
    k0_pay33 (k0_pay24 (k0_pay15 (k0_pay9 q Wq) K)) V
      = Cert.KernelIdeal.Gen.k0_pay32 (Cert.KernelIdeal.Gen.k0_pay21 (Cert.KernelIdeal.Gen.k0_pay15 (Cert.KernelIdeal.Gen.k0_pay10 q Wq) K)) V := rfl

/-- Head 3: its scores, the softmax over the memory's slots, the weighted values. -/
theorem head_3 (q : FVec F S512x1024 .bf16) (Wq : Vec F S1x1024x1024 .bf16) (K V : Vec F S1x1x256x256 .bf16) :
    k0_pay34 (k0_pay26 (k0_pay16 (k0_pay9 q Wq) K) (k0_pay25 (k0_pay16 (k0_pay9 q Wq) K))) V
      = Cert.KernelIdeal.Gen.k0_pay33 (Cert.KernelIdeal.Gen.k0_pay24 (Cert.KernelIdeal.Gen.k0_pay22 (Cert.KernelIdeal.Gen.k0_pay16 (Cert.KernelIdeal.Gen.k0_pay10 q Wq) K)) (Cert.KernelIdeal.Gen.k0_pay23 (Cert.KernelIdeal.Gen.k0_pay16 (Cert.KernelIdeal.Gen.k0_pay10 q Wq) K)) (Scalar.ofBits .f32 0x3F800000#32)) V := rfl

/-- The residual stream after the attention. -/
theorem out_x (A : FVec F S512x1024 .f32) (h0 h1 h2 h3 : FVec F S512x256 .bf16) (o0 o1 o2 o3 : Vec F S1x256x1024 .bf16) (g : Vec F S1x1x1024 .f32) :
    k0_pay42 (k0_pay41 A h3 (k0_pay36 h0 o0) (k0_pay37 h1 o1) (k0_pay38 h2 o2) (k0_pay39 o3) (constant S512x1024 .f32 0x00000000#32) g)
      = Cert.KernelIdeal.Gen.k0_pay39 A (Cert.KernelIdeal.Gen.k0_pay36 h0 h1 h2 h3 o0 o1 o2 o3) g := rfl

/-- Its norm, what the feed-forward reads. -/
theorem out_h (A : FVec F S512x1024 .f32) (h0 h1 h2 h3 : FVec F S512x256 .bf16) (o0 o1 o2 o3 : Vec F S1x256x1024 .bf16) (g : Vec F S1x1x1024 .f32) (g' : Vec F S1x1x1024 .f32) :
    k0_pay43 (k0_pay41 A h3 (k0_pay36 h0 o0) (k0_pay37 h1 o1) (k0_pay38 h2 o2) (k0_pay39 o3) (constant S512x1024 .f32 0x00000000#32) g) g'
      = Cert.KernelIdeal.Gen.k0_pay40 (Cert.KernelIdeal.Gen.k0_pay38 A (Cert.KernelIdeal.Gen.k0_pay36 h0 h1 h2 h3 o0 o1 o2 o3) g) g' := rfl

/-- The feed-forward's first 256 columns. -/
theorem cell_0 (H : Vec F S1x512x1024 .bf16) (a b : Vec F S1x1024x256 .bf16) (d : Vec F S1x256x1024 .bf16) :
    k0_pay4 H a b d
      = Cert.KernelIdeal.Gen.k0_pay4 H a b d := rfl

/-- The next 768. -/
theorem cell_3 (C : FVec F S512x1024 .f32) (H : Vec F S1x512x1024 .bf16) (a b a' b' a'' b'' : Vec F S1x1024x256 .bf16) (d d' d'' : Vec F S1x256x1024 .bf16) :
    k0_pay10 (k0_pay7 C H a b d) (k0_pay8 H a' b') d' H a'' b'' d''
      = Cert.KernelIdeal.Gen.k0_pay11 (Cert.KernelIdeal.Gen.k0_pay9 C (Cert.KernelIdeal.Gen.k0_pay7 H) (Cert.KernelIdeal.Gen.k0_pay8 a) (constant S512x256 .f32 0x00000000#32) b d H a' b' d') H a'' b'' d'' := rfl

/-- The next 256. -/
theorem cell_4 (C : FVec F S512x1024 .f32) (H : Vec F S1x512x1024 .bf16) (a b : Vec F S1x1024x256 .bf16) (d : Vec F S1x256x1024 .bf16) :
    k0_pay21 C (k0_pay18 H b) (k0_pay19 H a) (k0_pay20 H a) d
      = Cert.KernelIdeal.Gen.k0_pay18 C (Cert.KernelIdeal.Gen.k0_pay17 H a b) d := rfl

/-- The next 256. -/
theorem cell_5 (C : FVec F S512x1024 .f32) (H : Vec F S1x512x1024 .bf16) (a b : Vec F S1x1024x256 .bf16) (d : Vec F S1x256x1024 .bf16) :
    k0_pay27 C H a b d
      = Cert.KernelIdeal.Gen.k0_pay25 C H a b d := rfl

/-- The next 256. -/
theorem cell_6 (C : FVec F S512x1024 .f32) (H : Vec F S1x512x1024 .bf16) (a b : Vec F S1x1024x256 .bf16) (d : Vec F S1x256x1024 .bf16) :
    k0_pay30 C (k0_pay28 H) (k0_pay29 H a) b d
      = Cert.KernelIdeal.Gen.k0_pay29 C (Cert.KernelIdeal.Gen.k0_pay27 H a) (Cert.KernelIdeal.Gen.k0_pay28 H b) (Scalar.ofBits .f32 0x3F000000#32) d := rfl

/-- The next 256. -/
theorem cell_7 (C : FVec F S512x1024 .f32) (H : Vec F S1x512x1024 .bf16) (a b : Vec F S1x1024x256 .bf16) (d : Vec F S1x256x1024 .bf16) :
    k0_pay35 C H a b d
      = Cert.KernelIdeal.Gen.k0_pay35 C (Cert.KernelIdeal.Gen.k0_pay34 H) a b d := rfl

/-- The next 256. -/
theorem cell_8 (C : FVec F S512x1024 .f32) (H : Vec F S1x512x1024 .bf16) (a b : Vec F S1x1024x256 .bf16) (d : Vec F S1x256x1024 .bf16) :
    k0_pay40 C H a b d
      = Cert.KernelIdeal.Gen.k0_pay37 C H a b d := rfl

/-- The last 512, the last norm, the residual's last addition. -/
theorem cell_9 (C : FVec F S512x1024 .f32) (H : Vec F S1x512x1024 .bf16) (X : Vec F S1x512x1024 .f32) (g : Vec F S1x1x1024 .f32) (a b a' b' : Vec F S1x1024x256 .bf16) (d d' : Vec F S1x256x1024 .bf16) :
    k0_pay1 (k0_pay47 C (k0_pay45 H b) (k0_pay46 H a) d H a' b' d') (k0_pay48 X) (k0_pay49 g) (k0_pay50 C (k0_pay45 H b) (k0_pay46 H a) d H a' b' d') (FloatOps.ofBits FTy.f32 1149239296#32)
      = Cert.KernelIdeal.Gen.k0_pay1 (Cert.KernelIdeal.Gen.k0_pay43 C (Cert.KernelIdeal.Gen.k0_pay41 H a b) (Cert.KernelIdeal.Gen.k0_pay42 d) H a' b' d') (Cert.KernelIdeal.Gen.k0_pay44 X) (Cert.KernelIdeal.Gen.k0_pay45 g) (Cert.KernelIdeal.Gen.k0_pay46 C (Cert.KernelIdeal.Gen.k0_pay41 H a b) (Cert.KernelIdeal.Gen.k0_pay42 d) H a' b' d') := rfl

end Cert.Kernel2Ideal.Body
-- ==== Proof.Sb.RunNext.lean ====
module

public import proofs.«01_k».proof.Proof.Sb.Slots
public import Idealize.ShloMosaic.Lib.Pipeline.ValueKit
public import Idealize.ShloMosaic.Lib.Tactic

/-!
One grid point's run: the body reads the slot the point before filled, stores the feed-forward of it into the
output window and fills its own slot with the attention half of its rows.
-/

@[expose] public section

set_option maxRecDepth 16384

noncomputable section

namespace Cert.Kernel2Ideal.Body

open Cert.Kernel2Ideal Cert.Kernel2Ideal.Gen
open Cert.KernelIdeal.Body (slot attX attH swi)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A point after the first runs; what it stores is the run's own finding. -/
def runNext (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S1x1024x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
    (hc : ¬cond i)
    (x1 : Vec F S512x1024 .f32) (x2 : Vec F S512x1024 .bf16) (x3 : Vec F S1x1024x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16) (xb : Vec F S2x512x1024 .f32) (hb : Vec F S2x512x1024 .bf16) :
    Σ' (LO : List (View.Piece (Elt F) S512x1024 .f32)) (LX : List (View.Piece (Elt F) S2x512x1024 .f32)), { LH : List (View.Piece (Elt F) S2x512x1024 .bf16) //
    ∀ (E : Set ℕ) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ owns (c : Thread nD τ) arg16 fullShare xb ∗ owns (c : Thread nD τ) arg17 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ f, arg15.view.loc c.tc ↦[arg15.view.set]{fullShare} arg15.view.writes (Elt F) f LO)
          ∗ (arg16.view.loc c.tc ↦[arg16.view.set]{fullShare} arg16.view.writes (Elt F) (harg16.unread xb) LX)
          ∗ (arg17.view.loc c.tc ↦[arg17.view.set]{fullShare} arg17.view.writes (Elt F) (harg17.unread hb) LH)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_post_mixer_eq_skeleton]; unfold cc0_post_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg16.eq_unread hf16; obtain rfl := harg17.eq_unread hf17
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexact H16
    iexact H17

end Cert.Kernel2Ideal.Body

end
-- ==== Proof.Sb.StoresNext.lean ====
module

public import proofs.«01_k».proof.Proof.Sb.Steps
public import proofs.«01_k».proof.Proof.Sb.RunNext

/-!
What a point after the first stores, as the named values.
-/

@[expose] public section

set_option maxRecDepth 16384

noncomputable section

namespace Cert.Kernel2Ideal.Body

open Cert.Kernel2Ideal Cert.Kernel2Ideal.Gen
open Cert.KernelIdeal.Body (slot attX attH swi)
open Idealize.ShloMosaic Idealize.ShloMosaic.TcCoe

variable {F : FTy → Type} [FloatOps F]

variable (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S1x1024x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
  (hc : ¬cond i) (x1 : Vec F S512x1024 .f32) (x2 : Vec F S512x1024 .bf16) (x3 : Vec F S1x1024x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16)
  (xb : Vec F S2x512x1024 .f32) (hb : Vec F S2x512x1024 .bf16)

set_option maxHeartbeats 1000000 in
/-- The residual slot gets the attention half. -/
theorem resid_next : (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).2.1 = [⟨Rect.unit (s := S2x512x1024) (k0_off2 i) S1x512x1024.size (k0_off2_inb i), attX x1 (mixed x2 x3) x4 x5 x6 x9 x10 x11 x12⟩] := by
  unfold runNext
  dsimp only
  simp only [runNext.sl.r, runNext.sl.H16_1, runNext.sl.H17_1, runNext.sl.cst_204, runNext.sl.cst_266, runNext.sl.r_1, runNext.sl.r_2, runNext.sl.r_3, runNext.sl.r_4, runNext.sl.r_5, runNext.sl.r_6, runNext.sl.r_7, runNext.sl.r_8, runNext.sl.r_9, runNext.sl.r_10, runNext.sl.r_11, runNext.sl.r_12, runNext.sl.r_13, runNext.sl.r_14, runNext.sl.r_15, runNext.sl.r_16, runNext.sl.r_17, runNext.sl.r_18, runNext.sl.r_19, runNext.sl.r_20, runNext.sl.r_21, runNext.sl.r_22, runNext.sl.r_23, runNext.sl.r_24, runNext.sl.r_25, runNext.sl.r_26, runNext.sl.r_27, runNext.sl.r_28, runNext.sl.r_29, runNext.sl.r_30, runNext.sl.r_31, runNext.sl.r_32, runNext.sl.r_33, runNext.sl.r_34, runNext.sl.r_35, runNext.sl.r_36, runNext.sl.r_37, runNext.sl.r_38, runNext.sl.r_39, runNext.sl.r_40, runNext.sl.r_41, runNext.sl.r_42, runNext.sl.v376, slot_skip _ _ _ _ _ _ _ _ (off_ne i), View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

set_option maxHeartbeats 1000000 in
/-- The normalised slot gets the attention half's norm. -/
theorem normed_next : (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).2.2.val = [⟨Rect.unit (s := S2x512x1024) (k0_off2 i) S1x512x1024.size (k0_off2_inb i), attH x1 (mixed x2 x3) x4 x5 x6 x7 x9 x10 x11 x12⟩] := by
  unfold runNext
  dsimp only
  simp only [runNext.sl.r, runNext.sl.H16_1, runNext.sl.H17_1, runNext.sl.cst_204, runNext.sl.cst_266, runNext.sl.r_1, runNext.sl.r_2, runNext.sl.r_3, runNext.sl.r_4, runNext.sl.r_5, runNext.sl.r_6, runNext.sl.r_7, runNext.sl.r_8, runNext.sl.r_9, runNext.sl.r_10, runNext.sl.r_11, runNext.sl.r_12, runNext.sl.r_13, runNext.sl.r_14, runNext.sl.r_15, runNext.sl.r_16, runNext.sl.r_17, runNext.sl.r_18, runNext.sl.r_19, runNext.sl.r_20, runNext.sl.r_21, runNext.sl.r_22, runNext.sl.r_23, runNext.sl.r_24, runNext.sl.r_25, runNext.sl.r_26, runNext.sl.r_27, runNext.sl.r_28, runNext.sl.r_29, runNext.sl.r_30, runNext.sl.r_31, runNext.sl.r_32, runNext.sl.r_33, runNext.sl.r_34, runNext.sl.r_35, runNext.sl.r_36, runNext.sl.r_37, runNext.sl.r_38, runNext.sl.r_39, runNext.sl.r_40, runNext.sl.r_41, runNext.sl.r_42, runNext.sl.v376, slot_skip _ _ _ _ _ _ _ _ (off_ne i), View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

set_option maxHeartbeats 1000000 in
/-- The output window gets the feed-forward of the slot read. -/
theorem out_next : (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).1 = [⟨Rect.unit (s := S512x1024) ![0, 0] S512x1024.size inb_S512x1024_S512x1024_0_0,
    swi (slot (k0_off1 i) (k0_off1_inb i) hb) (slot (k0_off1 i) (k0_off1_inb i) xb) x13 x14 x8⟩] := by
  unfold runNext
  dsimp only
  simp only [runNext.sl.r, runNext.sl.H16_1, runNext.sl.H17_1, runNext.sl.cst_204, runNext.sl.cst_266, runNext.sl.r_1, runNext.sl.r_2, runNext.sl.r_3, runNext.sl.r_4, runNext.sl.r_5, runNext.sl.r_6, runNext.sl.r_7, runNext.sl.r_8, runNext.sl.r_9, runNext.sl.r_10, runNext.sl.r_11, runNext.sl.r_12, runNext.sl.r_13, runNext.sl.r_14, runNext.sl.r_15, runNext.sl.r_16, runNext.sl.r_17, runNext.sl.r_18, runNext.sl.r_19, runNext.sl.r_20, runNext.sl.r_21, runNext.sl.r_22, runNext.sl.r_23, runNext.sl.r_24, runNext.sl.r_25, runNext.sl.r_26, runNext.sl.r_27, runNext.sl.r_28, runNext.sl.r_29, runNext.sl.r_30, runNext.sl.r_31, runNext.sl.r_32, runNext.sl.r_33, runNext.sl.r_34, runNext.sl.r_35, runNext.sl.r_36, runNext.sl.r_37, runNext.sl.r_38, runNext.sl.r_39, runNext.sl.r_40, runNext.sl.r_41, runNext.sl.r_42, runNext.sl.v376, slot_skip _ _ _ _ _ _ _ _ (off_ne i), View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

end Cert.Kernel2Ideal.Body

end
-- ==== Proof.Sb.RunFirst.lean ====
module

public import proofs.«01_k».proof.Proof.Sb.Slots
public import Idealize.ShloMosaic.Lib.Pipeline.ValueKit
public import Idealize.ShloMosaic.Lib.Tactic

/-!
One grid point's run: the body reads the slot the point before filled, stores the feed-forward of it into the
output window and fills its own slot with the attention half of its rows.
-/

@[expose] public section

set_option maxRecDepth 16384

noncomputable section

namespace Cert.Kernel2Ideal.Body

open Cert.Kernel2Ideal Cert.Kernel2Ideal.Gen
open Cert.KernelIdeal.Body (slot attX attH swi)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point runs; what it stores is the run's own finding. -/
def runFirst (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S1x1024x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
    (hc : cond i)
    (x1 : Vec F S512x1024 .f32) (x2 : Vec F S512x1024 .bf16) (x3 : Vec F S1x1024x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16) (xb : Vec F S2x512x1024 .f32) (hb : Vec F S2x512x1024 .bf16) :
    Σ' (LO : List (View.Piece (Elt F) S512x1024 .f32)) (LX : List (View.Piece (Elt F) S2x512x1024 .f32)), { LH : List (View.Piece (Elt F) S2x512x1024 .bf16) //
    ∀ (E : Set ℕ) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ owns (c : Thread nD τ) arg16 fullShare xb ∗ owns (c : Thread nD τ) arg17 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ f, arg15.view.loc c.tc ↦[arg15.view.set]{fullShare} arg15.view.writes (Elt F) f LO)
          ∗ (arg16.view.loc c.tc ↦[arg16.view.set]{fullShare} arg16.view.writes (Elt F) (harg16.unread xb) LX)
          ∗ (arg17.view.loc c.tc ↦[arg17.view.set]{fullShare} arg17.view.writes (Elt F) (harg17.unread hb) LH)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_post_mixer_eq_skeleton]; unfold cc0_post_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg16.eq_unread hf16; obtain rfl := harg17.eq_unread hf17
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexact H16
    iexact H17

end Cert.Kernel2Ideal.Body

end
-- ==== Proof.Sb.StoresFirst.lean ====
module

public import proofs.«01_k».proof.Proof.Sb.Steps
public import proofs.«01_k».proof.Proof.Sb.RunFirst

/-!
What the first point stores, as the named values.
-/

@[expose] public section

set_option maxRecDepth 16384

noncomputable section

namespace Cert.Kernel2Ideal.Body

open Cert.Kernel2Ideal Cert.Kernel2Ideal.Gen
open Cert.KernelIdeal.Body (slot attX attH swi)
open Idealize.ShloMosaic Idealize.ShloMosaic.TcCoe

variable {F : FTy → Type} [FloatOps F]

variable (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S1x1024x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
  (hc : cond i) (x1 : Vec F S512x1024 .f32) (x2 : Vec F S512x1024 .bf16) (x3 : Vec F S1x1024x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16)
  (xb : Vec F S2x512x1024 .f32) (hb : Vec F S2x512x1024 .bf16)

set_option maxHeartbeats 1000000 in
/-- The residual slot gets the attention half. -/
theorem resid_first : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).2.1 = [⟨Rect.unit (s := S2x512x1024) (k0_off2 i) S1x512x1024.size (k0_off2_inb i), attX x1 (mixed x2 x3) x4 x5 x6 x9 x10 x11 x12⟩, ⟨Rect.unit (s := S2x512x1024) ![1, 0, 0] S1x512x1024.size inb_S2x512x1024_S1x512x1024_1_0_0, k0_pay2⟩] := by
  unfold runFirst
  dsimp only
  simp only [runFirst.sl.r, runFirst.sl.H16_2, runFirst.sl.H17_1, runFirst.sl.H17_2, runFirst.sl.cst_204, runFirst.sl.cst_266, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.r_42, runFirst.sl.v376, slot_skip _ _ _ _ _ _ _ _ (off_ne i), slot_hit _ _ _ _ _ _ _ _ (off1_first i hc).symm, View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

set_option maxHeartbeats 1000000 in
/-- The normalised slot gets the attention half's norm. -/
theorem normed_first : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).2.2.val = [⟨Rect.unit (s := S2x512x1024) (k0_off2 i) S1x512x1024.size (k0_off2_inb i), attH x1 (mixed x2 x3) x4 x5 x6 x7 x9 x10 x11 x12⟩, ⟨Rect.unit (s := S2x512x1024) ![1, 0, 0] S1x512x1024.size inb_S2x512x1024_S1x512x1024_1_0_0, k0_pay3⟩] := by
  unfold runFirst
  dsimp only
  simp only [runFirst.sl.r, runFirst.sl.H16_2, runFirst.sl.H17_1, runFirst.sl.H17_2, runFirst.sl.cst_204, runFirst.sl.cst_266, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.r_42, runFirst.sl.v376, slot_skip _ _ _ _ _ _ _ _ (off_ne i), slot_hit _ _ _ _ _ _ _ _ (off1_first i hc).symm, View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

set_option maxHeartbeats 1000000 in
/-- The output window gets the feed-forward of the slot read. -/
theorem out_first : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).1 = [⟨Rect.unit (s := S512x1024) ![0, 0] S512x1024.size inb_S512x1024_S512x1024_0_0,
    swi (k0_pay3 (F := F)) (k0_pay2 (F := F)) x13 x14 x8⟩] := by
  unfold runFirst
  dsimp only
  simp only [runFirst.sl.r, runFirst.sl.H16_2, runFirst.sl.H17_1, runFirst.sl.H17_2, runFirst.sl.cst_204, runFirst.sl.cst_266, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.r_42, runFirst.sl.v376, slot_skip _ _ _ _ _ _ _ _ (off_ne i), slot_hit _ _ _ _ _ _ _ _ (off1_first i hc).symm, View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

end Cert.Kernel2Ideal.Body

end
-- ==== Proof.Sb.Body.lean ====
module

public import proofs.«01_k».proof.Proof.Sb.StoresNext
public import proofs.«01_k».proof.Proof.Sb.StoresFirst
public import Idealize.ShloMosaic.Lib.VecWindow

/-!
One grid point's run, its memory before and after named.
-/

@[expose] public section

set_option maxRecDepth 16384

noncomputable section

namespace Cert.Kernel2Ideal.Body

open Cert.Kernel2Ideal Cert.Kernel2Ideal.Gen
open Cert.KernelIdeal.Body (slot attX attH swi)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point after the first. -/
theorem body_next (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S1x1024x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
    (hc : ¬cond i)
    (x1 : Vec F S512x1024 .f32) (x2 : Vec F S512x1024 .bf16) (x3 : Vec F S1x1024x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16) (xb : Vec F S2x512x1024 .f32) (hb : Vec F S2x512x1024 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ owns (c : Thread nD τ) arg16 fullShare xb ∗ owns (c : Thread nD τ) arg17 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (swi (slot (k0_off1 i) (k0_off1_inb i) hb) (slot (k0_off1 i) (k0_off1_inb i) xb) x13 x14 x8)
          ∗ (∃ D, ⌜slot (k0_off2 i) (k0_off2_inb i) D = attX x1 (mixed x2 x3) x4 x5 x6 x9 x10 x11 x12⌝ ∗ owns (c : Thread nD τ) arg16 fullShare D)
          ∗ (∃ D, ⌜slot (k0_off2 i) (k0_off2_inb i) D = attH x1 (mixed x2 x3) x4 x5 x6 x7 x9 x10 x11 x12⌝ ∗ owns (c : Thread nD τ) arg17 fullShare D)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hO := out_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  have hX := resid_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  have hH := normed_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  generalize runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb = R at hO hX hH
  obtain ⟨LO, LX, LH, hall⟩ := R
  dsimp only at hO hX hH
  subst hO; subst hX; subst hH
  have hrun := hall E K
  iintro ⟨H1, H2, H3, H4, H5, H6, H7, H8, H9, H10, H11, H12, H13, H14, H15, H16, H17, Hk⟩
  iapply hrun
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, ⟨%f, H15⟩, H16, H17⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_full _ _ _ _ _
  isplitl [H16]
  · iexists _; isplitr
    swap
    · unfold owns; iexists _; isplitr
      swap; · iexact H16
      ipureintro; rfl
    ipureintro; exact slot_hit arg16.view _ _ _ _ _ _ _ rfl
  · iexists _; isplitr
    swap
    · unfold owns; iexists _; isplitr
      swap; · iexact H17
      ipureintro; rfl
    ipureintro; exact slot_hit arg17.view _ _ _ _ _ _ _ rfl

set_option maxHeartbeats 1000000 in
/-- The first point. -/
theorem body_first (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S1x1024x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
    (hc : cond i)
    (x1 : Vec F S512x1024 .f32) (x2 : Vec F S512x1024 .bf16) (x3 : Vec F S1x1024x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16) (xb : Vec F S2x512x1024 .f32) (hb : Vec F S2x512x1024 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ owns (c : Thread nD τ) arg16 fullShare xb ∗ owns (c : Thread nD τ) arg17 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (swi (k0_pay3 (F := F)) (k0_pay2 (F := F)) x13 x14 x8)
          ∗ (∃ D, ⌜slot (k0_off2 i) (k0_off2_inb i) D = attX x1 (mixed x2 x3) x4 x5 x6 x9 x10 x11 x12⌝ ∗ owns (c : Thread nD τ) arg16 fullShare D)
          ∗ (∃ D, ⌜slot (k0_off2 i) (k0_off2_inb i) D = attH x1 (mixed x2 x3) x4 x5 x6 x7 x9 x10 x11 x12⌝ ∗ owns (c : Thread nD τ) arg17 fullShare D)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hO := out_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  have hX := resid_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  have hH := normed_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  generalize runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb = R at hO hX hH
  obtain ⟨LO, LX, LH, hall⟩ := R
  dsimp only at hO hX hH
  subst hO; subst hX; subst hH
  have hrun := hall E K
  iintro ⟨H1, H2, H3, H4, H5, H6, H7, H8, H9, H10, H11, H12, H13, H14, H15, H16, H17, Hk⟩
  iapply hrun
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, ⟨%f, H15⟩, H16, H17⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_full _ _ _ _ _
  isplitl [H16]
  · iexists _; isplitr
    swap
    · unfold owns; iexists _; isplitr
      swap; · iexact H16
      ipureintro; rfl
    ipureintro; exact slot_hit arg16.view _ _ _ _ _ _ _ rfl
  · iexists _; isplitr
    swap
    · unfold owns; iexists _; isplitr
      swap; · iexact H17
      ipureintro; rfl
    ipureintro; exact slot_hit arg17.view _ _ _ _ _ _ _ rfl

end Cert.Kernel2Ideal.Body

end
-- ==== Proof.Sb.Track.lean ====
module

public import proofs.«01_k».proof.Proof.Sb.Body

/-!
The launch: what each grid point leaves (the feed-forward of the point before in the output window, its own
attention half in its slot), the body's obligation at every point, the run of the whole program and its frame.
-/

@[expose] public section

set_option maxRecDepth 16384

noncomputable section

namespace Cert.Kernel2Ideal.Body

open Cert.Kernel2Ideal Cert.Kernel2Ideal.Gen
open Cert.KernelIdeal.Body (slot attX attH swi)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x256x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024x5632 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2816x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1024 .f32 := win0_14.stage (cfg0.slots t 14)
abbrev hs0_14 (t : Fin cfg0.N) : (ms0_14 t).IsWhole := hstage0_14 ((cfg0.slots t 14).cast nbuf0_14)

/-- The residual rows' two slots. -/
abbrev scX : Memref sig .tc .vmem S2x512x1024 .f32 := Memref.whole cc0_scratch0
/-- The normalised rows' two slots. -/
abbrev scH : Memref sig .tc .vmem S2x512x1024 .bf16 := Memref.whole cc0_scratch1

theorem PhiA_eq (c : Dev nD) :
    (Pipeline.ΦA spec0 c : sProp 𝕄)
      = iprop(iprop((∃ d, owns (c : Thread nD τ) scX fullShare d) ∗ (∃ d, owns (c : Thread nD τ) scH fullShare d)) ∗ (∃ r, prngReg c r)) := by
  unfold Pipeline.ΦA; rw [scopedRest0_eq]; simp only [scX, scH, owns_whole]; try rfl

/-- The residual rows point `t` leaves in its slot. -/
def residAt (c : Dev nD) (t : Fin cfg0.N) : Vec F S1x512x1024 .f32 :=
  attX (iblk m c 0 t) (mixed (iblk m c 1 t) (iblk m c 2 t)) (iblk m c 3 t) (iblk m c 4 t) (iblk m c 5 t) (iblk m c 8 t) (iblk m c 9 t) (iblk m c 10 t) (iblk m c 11 t)

/-- The normalised rows point `t` leaves in its slot. -/
def normedAt (c : Dev nD) (t : Fin cfg0.N) : Vec F S1x512x1024 .bf16 :=
  attH (iblk m c 0 t) (mixed (iblk m c 1 t) (iblk m c 2 t)) (iblk m c 3 t) (iblk m c 4 t) (iblk m c 5 t) (iblk m c 6 t) (iblk m c 8 t) (iblk m c 9 t) (iblk m c 10 t) (iblk m c 11 t)

/-- What the output window holds after point `n`: the feed-forward of what the point before left, of zeros at the
    first point. -/
def outAt (c : Dev nD) : (n : ℕ) → n < cfg0.N → Vec F S512x1024 .f32
  | 0, h => swi k0_pay3 k0_pay2 (iblk m c 12 ⟨0, h⟩) (iblk m c 13 ⟨0, h⟩) (iblk m c 7 ⟨0, h⟩)
  | n + 1, h => swi (normedAt m c ⟨n, Nat.lt_of_succ_lt h⟩) (residAt m c ⟨n, Nat.lt_of_succ_lt h⟩) (iblk m c 12 ⟨n + 1, h⟩) (iblk m c 13 ⟨n + 1, h⟩) (iblk m c 7 ⟨n + 1, h⟩)

/-- Between points: before the first, the buffers at anything; afterwards each buffer's slot of the point just run
    at what that point left in it, the other slot at anything. -/
def PhiS (c : Dev nD) : (n : ℕ) → n ≤ cfg0.N → sProp 𝕄
  | 0, _ => Pipeline.ΦA spec0 c
  | n + 1, hn => iprop(iprop(
      (∃ D, ⌜slot (k0_off2 (grid0.coords ⟨n, hn⟩)) (k0_off2_inb (grid0.coords ⟨n, hn⟩)) D = residAt m c ⟨n, hn⟩⌝ ∗ owns (c : Thread nD τ) scX fullShare D)
      ∗ (∃ D, ⌜slot (k0_off2 (grid0.coords ⟨n, hn⟩)) (k0_off2_inb (grid0.coords ⟨n, hn⟩)) D = normedAt m c ⟨n, hn⟩⌝ ∗ owns (c : Thread nD τ) scH fullShare D)) ∗ (∃ r, prngReg c r))

/-- The slot a point reads is the one the point before filled. -/
theorem off1_step (n : ℕ) (h : n + 1 < cfg0.N) :
    k0_off1 (grid0.coords ⟨n + 1, h⟩) = k0_off2 (grid0.coords ⟨n, Nat.lt_of_succ_lt h⟩) := by
  have h' : n + 1 < 129 := lt_of_lt_of_eq h (show cfg0.N = 129 from N_0)
  have e1 : (grid0.coords ⟨n + 1, h⟩ 0).val = (n + 1) / 1 % 129 := Pipeline.Grid.coords_val ⟨n + 1, h⟩ 0 (by decide) rfl
  have e2 : (grid0.coords ⟨n, Nat.lt_of_succ_lt h⟩ 0).val = n / 1 % 129 := Pipeline.Grid.coords_val ⟨n, Nat.lt_of_succ_lt h⟩ 0 (by decide) rfl
  rw [off1_eq, off2_eq, e1, e2]
  congr 1
  omega

theorem slot_congr {e : EltTy} {off off' : Fin 3 → ℕ} (h : off = off') (ho : ∀ a, off a + S1x512x1024.size a ≤ S2x512x1024.size a)
    (ho' : ∀ a, off' a + S1x512x1024.size a ≤ S2x512x1024.size a) (D : Vec F S2x512x1024 e) : slot off ho D = slot off' ho' D := by
  subst h; rfl

/-- The body's test holds at the first point alone. -/
theorem cond_iff : ∀ t : Fin cfg0.N, cond (grid0.coords t) ↔ t.val = 0 := fun t => by
  have h : ∀ i : grid0.Coords, cond i ↔ (i 0).val = 0 := by decide +kernel
  have h' : t.val < 129 := lt_of_lt_of_eq t.isLt (show cfg0.N = 129 from N_0)
  have e : (grid0.coords t 0).val = t.val / 1 % 129 := Pipeline.Grid.coords_val t 0 (by decide) rfl
  rw [h, e]; omega

/-- What the pipeline is run on: the arrays as the region finds them, after the body each input's block in place
    and the output window at `outAt`, `PhiS` between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outAt m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t))

set_option maxHeartbeats 6400000 in
/-- The body at any point meets its obligation: at the first point from anything, at a later one from the slots the
    point before filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_castSucc m c t]
  obtain ⟨n, hn⟩ := t
  cases n with
  | zero =>
    dsimp only [PhiS, outAt]
    rw [PhiA_eq]
    iintro ⟨⟨⟨⟨%xb, HX⟩, ⟨%hb, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_first c (grid0.coords ⟨0, hn⟩) _ _ _ _ _ _ _ _ _ _ _ _ _ _ _ _ _ _ _ _ _ _ _ _ _ _ _ _ _ _ _ _ _ _  ((cond_iff ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) xb hb Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HX]; · iexact HX
    isplitl [HH]; · iexact HH
    iintro ⟨H0, H1, H2, H3, H4, H5, H6, H7, H8, H9, H10, H11, H12, H13, H14, HX, HH⟩
    isplitl [HX HH Hg]
    · isplitl [HX HH]
      · isplitl [HX]
        · iexact HX
        · iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  | succ n =>
    dsimp only [PhiS, outAt]
    iintro ⟨⟨⟨⟨%xb, %hxb, HX⟩, ⟨%hb, %hhb, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    have hx' := (slot_congr (off1_step n hn) (k0_off1_inb (grid0.coords ⟨n + 1, hn⟩)) _ xb).trans hxb
    have hh' := (slot_congr (off1_step n hn) (k0_off1_inb (grid0.coords ⟨n + 1, hn⟩)) _ hb).trans hhb
    rw [← hx', ← hh']
    iapply (body_next c (grid0.coords ⟨n + 1, hn⟩) _ _ _ _ _ _ _ _ _ _ _ _ _ _ _ _ _ _ _ _ _ _ _ _ _ _ _ _ _ _ _ _ _ _  (fun h => Nat.succ_ne_zero n ((cond_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) xb hb Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HX]; · iexact HX
    isplitl [HH]; · iexact HH
    iintro ⟨H0, H1, H2, H3, H4, H5, H6, H7, H8, H9, H10, H11, H12, H13, H14, HX, HH⟩
    isplitl [HX HH Hg]
    · isplitl [HX HH]
      · isplitl [HX]
        · iexact HX
        · iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- After a point the slots' contents may be forgotten. -/
theorem Phi_out (c : Dev nD) (n : ℕ) (h : n + 1 ≤ cfg0.N) : PhiS m c (n + 1) h ⊢ Pipeline.ΦA spec0 c := by
  dsimp only [PhiS]
  rw [PhiA_eq]
  iintro ⟨⟨⟨%xb, -, HX⟩, ⟨%hb, -, HH⟩⟩, Hg⟩
  isplitl [HX HH]
  · isplitl [HX]
    · iexists _; iexact HX
    · iexists _; iexact HH
  iexact Hg

theorem hout (c : Dev nD) : (dats m 0 c).Φ (Fin.last cfg0.N) ⊢ Pipeline.ΦA spec0 c := by
  rw [show (dats m 0 c).Φ (Fin.last cfg0.N) = PhiS m c (128 + 1) (le_of_eq N_0.symm) from rfl]
  exact Phi_out m c 128 _

set_option backward.isDefEq.respectTransparency.types false in
set_option maxHeartbeats 800000 in
/-- The program runs to the arrays the proof data compute, its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments are left as they were and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.Kernel2Ideal.Body

end
-- ==== Proof.Sb.Same.lean ====
module

public import proofs.«01_k».proof.Defs
public import proofs.«01_k».proof.Proof.Sb.Track
public import proofs.«01_k».proof.Proof.Gen.Kernel2

/-!
The two printings of the kernel name one program: body and calls agree at the machine's values, so the frame
proved for every value domain is also the first printing's.
-/

@[expose] public section

set_option maxRecDepth 16384

namespace Cert.Kernel2.Body

open Idealize.ShloMosaic Idealize.SL.Sem

/-- The body. -/
theorem body_eq : Cert.Kernel2.cc0_post_mixer (F := Bits) = Cert.Kernel2Ideal.cc0_post_mixer (F := Bits) := rfl

set_option maxHeartbeats 1000000 in
/-- The definitions it is called by. -/
theorem defs₀_eq : Cert.Kernel2.defs₀ (F := Bits) = Cert.Kernel2Ideal.defs₀ (F := Bits) := by
  unfold Cert.Kernel2.defs₀ Cert.Kernel2Ideal.defs₀
  congr 1
  funext a x
  obtain ⟨_ | n, ha⟩ := a
  · obtain ⟨t, s⟩ := x
    dsimp only
    generalize hb : Cert.Kernel2.cc0_post_mixer (F := Bits) = B
    obtain rfl : B = Cert.Kernel2Ideal.cc0_post_mixer (F := Bits) := hb.symm.trans body_eq
    rfl
  · exact absurd ha (by omega)

/-- The program. -/
theorem defs_eq : Cert.Kernel2.defs (F := Bits) = Cert.Kernel2Ideal.defs (F := Bits) := by
  unfold Cert.Kernel2.defs Cert.Kernel2Ideal.defs
  rw [defs₀_eq]
  rfl

/-- No run of the first printing goes wrong. -/
theorem frame : Cert.quiescent_Kernel2 := fun m g _ => by
  rw [defs_eq]
  exact Cert.Kernel2Ideal.Body.frame (F := Bits) m g

end Cert.Kernel2.Body
-- ==== Proof.Sb.RefRows.lean ====
module

public import proofs.«01_k».proof.Proof.RefRows
public import proofs.«01_k».proof.Proof.Gen.Reference2Ideal.Read

/-!
The reference's result, read at one token: its row is the layer's row, with the softmax and the activation as
quotients.
-/

@[expose] public section

set_option maxRecDepth 16384

noncomputable section

namespace Cert.Reference2Ideal.Rows

open Cert.Reference2Ideal Cert.Reference2Ideal.Gen Cert.Reference2Ideal.Read
open Idealize.ShloMosaic
open Cert.Row
open Cert.ReferenceIdeal.Rows (batch tok act low_max_top headOf headOf_tile)

/-- The token's row of the mixer's output times the mixer's output weights. -/
def mixed (x1 : S16x4096x1024.Idx → EReal) (x2 : S1x1024x1024.Idx → EReal) (r : Fin 65536) : Fin 1024 → EReal := fun l =>
  ∑ k : Fin 1024, x1 (ix3 (batch r) (tok r) k) * x2 (ix3 0 k l)

/-- The second layer's gains. -/
abbrev gain (g : S4x1024.Idx → EReal) : Fin 1024 → EReal := fun k => g (ix2 1 k)
/-- The second layer's square matrix. -/
abbrev mat (W : S4x1024x1024.Idx → EReal) : Fin 1024 → Fin 1024 → EReal := fun k l => W (ix3 1 k l)
/-- The second layer's memory rows of a batch. -/
abbrev mem (K : S4x16x256x1024.Idx → EReal) (b : Fin 16) : Fin 256 → Fin 1024 → EReal := fun j k => K (ix4 1 b j k)
/-- The second layer's feed-forward input weights. -/
abbrev matIn (W : S4x1024x5632.Idx → EReal) : Fin 1024 → Fin 5632 → EReal := fun k n => W (ix3 1 k n)
/-- The second layer's feed-forward output weights. -/
abbrev matOut (W : S4x2816x1024.Idx → EReal) : Fin 2816 → Fin 1024 → EReal := fun n k => W (ix3 1 n k)

variable (x0 : FVec Ideal S16x4096x1024 .f32) (x1 : FVec Ideal S16x4096x1024 .bf16) (x2 : FVec Ideal S1x1024x1024 .f32) (x3 x4 x5 x6 x7 : FVec Ideal S4x1024 .f32)
  (x8 x9 : FVec Ideal S4x16x256x1024 .bf16) (x10 x11 : FVec Ideal S4x1024x1024 .f32)
  (x12 : FVec Ideal S4x1024x5632 .f32) (x13 : FVec Ideal S4x2816x1024 .f32)

theorem ref_mixed (r : Fin 65536) (l : Fin 1024) :
    val_main_v3 (F := Ideal) x1 x2 (ix2 r l) = mixed x1 x2 r l := by
  pointwise [val_main_v3, val_main_v2, val_main_v1, val_main_v0]
  rfl

theorem ref_mix (r : Fin 65536) (l : Fin 1024) :
    val_main_v20 (F := Ideal) x0 x1 x2 x3 (ix2 r l) = mix (act x0 r) (fun k => val_main_v3 (F := Ideal) x1 x2 (ix2 r k)) (gain x3) l := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1]
  rfl

theorem ref_norm (r : Fin 65536) (l : Fin 1024) :
    val_main_v35 (F := Ideal) x0 x1 x2 x3 x4 (ix2 r l)
      = norm (gain x4) (fun k => val_main_v20 (F := Ideal) x0 x1 x2 x3 (ix2 r k)) l := by
  pointwise [val_main_v35, val_main_v34, val_main_v33, val_main_v32, val_main_v31, val_main_v30, val_main_v29, val_main_v28, val_main_v27, val_main_v26, val_main_v25, val_main_v24, val_main_v23, val_main_v22, val_main_v21, val_main_cst_2, val_main_cst_3, val_main_cst_4]
  rfl

theorem ref_q (r : Fin 65536) (l : Fin 1024) :
    val_main_v38 (F := Ideal) x0 x1 x2 x3 x4 x10 (ix2 r l)
      = proj (mat x10) (fun k => val_main_v35 (F := Ideal) x0 x1 x2 x3 x4 (ix2 r k)) l := by
  pointwise [val_main_v38, val_main_v37, val_main_v36]
  rfl

theorem ref_score (r : Fin 65536) (h : Fin 4) (j : Fin 256) :
    val_main_v50 (F := Ideal) x0 x1 x2 x3 x4 x8 x10 (ix4 (batch r) h (tok r) j)
      = score (fun k => val_main_v38 (F := Ideal) x0 x1 x2 x3 x4 x10 (ix2 r k)) (mem x8 (batch r)) h j := by
  have e : ∀ hh, (⟨(batch r).val * 4096 + (tok r).val, hh⟩ : Fin 65536) = r := fun hh =>
    Fin.ext (Nat.div_add_mod' r.val 4096)
  generalize batch r = b at *
  generalize tok r = t at *
  pointwise [val_main_v43, val_main_v42, val_main_v41, val_main_v40, val_main_v39, val_main_v50, val_main_v49, val_main_v48, val_main_cst_5]
  simp only [e]
  rfl

theorem ref_top (b : Fin 16) (h : Fin 4) (t : Fin 4096) :
    val_main_v51 (F := Ideal) x0 x1 x2 x3 x4 x8 x10 (ix3 b h t)
      = top fun j => val_main_v50 (F := Ideal) x0 x1 x2 x3 x4 x8 x10 (ix4 b h t j) := by
  unfold val_main_v51
  rw [Host.reduce_eq_fold_single FloatOps.maximumf _ _ _ (by decide)]
  refine congrArg (fun f => Finset.univ.fold max low f) (funext fun k => ?_)
  refine congrArg (val_main_v50 (F := Ideal) x0 x1 x2 x3 x4 x8 x10) (funext fun a => Fin.ext ?_)
  match a with | ⟨0, _⟩ => rfl | ⟨1, _⟩ => rfl | ⟨2, _⟩ => rfl | ⟨3, _⟩ => rfl

theorem idx_top (b : Fin 16) (h : Fin 4) (t : Fin 4096) (j : Fin 256) :
    idx_main_v54 (idx_main_v55 (ix4 b h t j)) = ix3 b h t :=
  funext fun a => match a with | ⟨0, _⟩ => rfl | ⟨1, _⟩ => rfl | ⟨2, _⟩ => rfl

theorem ref_wgt (b : Fin 16) (h : Fin 4) (t : Fin 4096) (j : Fin 256) :
    val_main_v57 (F := Ideal) x0 x1 x2 x3 x4 x8 x10 (ix4 b h t j)
      = wgt (fun j => val_main_v50 (F := Ideal) x0 x1 x2 x3 x4 x8 x10 (ix4 b h t j)) j := by
  rw [val_main_v57_apply, val_main_v56_apply, val_main_v55_apply, val_main_v54_apply, idx_top, val_main_v53_apply, ref_top]
  exact congrArg (fun u => Ideal.exp (_ - u)) (low_max_top _)

theorem ref_soft (b : Fin 16) (h : Fin 4) (t : Fin 4096) (j : Fin 256) :
    val_main_v61 (F := Ideal) x0 x1 x2 x3 x4 x8 x10 (ix4 b h t j)
      = soft (fun j => val_main_v50 (F := Ideal) x0 x1 x2 x3 x4 x8 x10 (ix4 b h t j)) j := by
  rw [val_main_v61_apply, val_main_v60_apply, val_main_v59_apply, val_main_v58_apply, ref_wgt]
  have e : ∀ k, idx_main_v58 (idx_main_v59 (idx_main_v60 (ix4 b h t j))) k = ix4 b h t k := fun k =>
    funext fun a => match a with | ⟨0, _⟩ => rfl | ⟨1, _⟩ => rfl | ⟨2, _⟩ => rfl | ⟨3, _⟩ => rfl
  simp only [e, ref_wgt]
  have z : val_main_cst_8 (F := Ideal) (Shape.Idx.first h_S_) = 0 := Ideal.ofBits_zero_f32
  rw [z, zero_add]
  rfl

theorem ref_ctx (r : Fin 65536) (l : Fin 1024) :
    val_main_v67 (F := Ideal) x0 x1 x2 x3 x4 x8 x9 x10 x11 (ix2 r l)
      = ∑ x : Fin 1024, (∑ j : Fin 256, mem x9 (batch r) j x
          * (show EReal from val_main_v61 (F := Ideal) x0 x1 x2 x3 x4 x8 x10 (ix4 (batch r) (headOf x) (tok r) j))) * mat x11 x l := by
  pointwise [val_main_v67, val_main_v66, val_main_v65, val_main_v64, val_main_v63, val_main_v62, val_main_v47, val_main_v46, val_main_v45, val_main_v44]
  rfl

theorem ref_attn (r : Fin 65536) (l : Fin 1024) :
    val_main_v67 (F := Ideal) x0 x1 x2 x3 x4 x8 x9 x10 x11 (ix2 r l)
      = attn soft (fun k => val_main_v38 (F := Ideal) x0 x1 x2 x3 x4 x10 (ix2 r k)) (mem x8 (batch r)) (mem x9 (batch r)) (mat x11) l := by
  have hs : ∀ h j, val_main_v61 (F := Ideal) x0 x1 x2 x3 x4 x8 x10 (ix4 (batch r) h (tok r) j)
      = soft (score (fun k => val_main_v38 (F := Ideal) x0 x1 x2 x3 x4 x10 (ix2 r k)) (mem x8 (batch r)) h) j := by
    intro h j
    rw [ref_soft]
    exact congrArg (fun s => soft s j) (funext fun j => ref_score x0 x1 x2 x3 x4 x8 x10 r h j)
  rw [ref_ctx]
  simp only [hs]
  generalize (fun k => val_main_v38 (F := Ideal) x0 x1 x2 x3 x4 x10 (ix2 r k)) = q
  rw [Fin.sum_univ_tiles 4 256 rfl]
  refine Finset.sum_congr rfl fun h _ => Finset.sum_congr rfl fun d _ => ?_
  refine congrArg (· * mat x11 (col h d) l) (Finset.sum_congr rfl fun j _ => ?_)
  rw [mul_comm, headOf_tile]
  rfl

theorem ref_mid (r : Fin 65536) (l : Fin 1024) :
    val_main_v83 (F := Ideal) x0 x1 x2 x3 x4 x5 x8 x9 x10 x11 (ix2 r l)
      = mix (fun k => val_main_v20 (F := Ideal) x0 x1 x2 x3 (ix2 r k))
          (fun k => val_main_v67 (F := Ideal) x0 x1 x2 x3 x4 x8 x9 x10 x11 (ix2 r k)) (gain x5) l := by
  pointwise [val_main_v83, val_main_v82, val_main_v81, val_main_v80, val_main_v79, val_main_v78, val_main_v77, val_main_v76, val_main_v75, val_main_v74, val_main_v73, val_main_v72, val_main_v71, val_main_v70, val_main_v69, val_main_v68, val_main_cst_9, val_main_cst_10, val_main_cst_11]
  rfl

theorem ref_norm2 (r : Fin 65536) (l : Fin 1024) :
    val_main_v98 (F := Ideal) x0 x1 x2 x3 x4 x5 x6 x8 x9 x10 x11 (ix2 r l)
      = norm (gain x6) (fun k => val_main_v83 (F := Ideal) x0 x1 x2 x3 x4 x5 x8 x9 x10 x11 (ix2 r k)) l := by
  pointwise [val_main_v98, val_main_v97, val_main_v96, val_main_v95, val_main_v94, val_main_v93, val_main_v92, val_main_v91, val_main_v90, val_main_v89, val_main_v88, val_main_v87, val_main_v86, val_main_v85, val_main_v84, val_main_cst_12, val_main_cst_13, val_main_cst_14]
  rfl

theorem ref_hid (r : Fin 65536) (n : Fin 2816) :
    val_main_v105 (F := Ideal) x0 x1 x2 x3 x4 x5 x6 x8 x9 x10 x11 x12 (ix2 r n)
      = hid silu (matIn x12) (fun k => val_main_v98 (F := Ideal) x0 x1 x2 x3 x4 x5 x6 x8 x9 x10 x11 (ix2 r k)) n := by
  pointwise [val_main_v105, val_main_v104, val_main_v103, val_main_v102, val_main_v101, val_main_v100, val_main_v99, val_main_call0_v5, val_main_call0_v4, val_main_call0_v3, val_main_call0_v2, val_main_call0_v1, val_main_call0_v0, val_main_call0_cst, val_main_call0_cst_0]
  rfl

theorem ref_ffn (r : Fin 65536) (l : Fin 1024) :
    val_main_v108 (F := Ideal) x0 x1 x2 x3 x4 x5 x6 x8 x9 x10 x11 x12 x13 (ix2 r l)
      = ffn silu (matIn x12) (matOut x13) (fun k => val_main_v98 (F := Ideal) x0 x1 x2 x3 x4 x5 x6 x8 x9 x10 x11 (ix2 r k)) l := by
  pointwise [val_main_v108, val_main_v107, val_main_v106]
  exact Finset.sum_congr rfl fun n _ => congrArg (· * _) (ref_hid x0 x1 x2 x3 x4 x5 x6 x8 x9 x10 x11 x12 r n)

theorem ref_out (r : Fin 65536) (l : Fin 1024) :
    val_main_v124 (F := Ideal) x0 x1 x2 x3 x4 x5 x6 x7 x8 x9 x10 x11 x12 x13 (ix2 r l)
      = mix (fun k => val_main_v83 (F := Ideal) x0 x1 x2 x3 x4 x5 x8 x9 x10 x11 (ix2 r k))
          (fun k => val_main_v108 (F := Ideal) x0 x1 x2 x3 x4 x5 x6 x8 x9 x10 x11 x12 x13 (ix2 r k)) (gain x7) l := by
  pointwise [val_main_v124, val_main_v123, val_main_v122, val_main_v121, val_main_v120, val_main_v119, val_main_v118, val_main_v117, val_main_v116, val_main_v115, val_main_v114, val_main_v113, val_main_v112, val_main_v111, val_main_v110, val_main_v109, val_main_cst_15, val_main_cst_16, val_main_cst_17]
  rfl

/-- The reference's row. -/
theorem ref_row (r : Fin 65536) (l : Fin 1024) :
    val_main_v124 (F := Ideal) x0 x1 x2 x3 x4 x5 x6 x7 x8 x9 x10 x11 x12 x13 (ix2 r l)
      = fin silu (mid soft (mix (act x0 r) (mixed x1 x2 r) (gain x3)) (gain x4) (gain x5) (mem x8 (batch r)) (mem x9 (batch r)) (mat x10) (mat x11))
          (gain x6) (gain x7) (matIn x12) (matOut x13) l := by
  have h0 : (fun k => val_main_v3 (F := Ideal) x1 x2 (ix2 r k)) = _ := funext fun k => ref_mixed x1 x2 r k
  have h1 : (fun k => val_main_v20 (F := Ideal) x0 x1 x2 x3 (ix2 r k)) = _ := funext fun k => ref_mix x0 x1 x2 x3 r k
  have h2 : (fun k => val_main_v35 (F := Ideal) x0 x1 x2 x3 x4 (ix2 r k)) = _ := funext fun k => ref_norm x0 x1 x2 x3 x4 r k
  have h3 : (fun k => val_main_v38 (F := Ideal) x0 x1 x2 x3 x4 x10 (ix2 r k)) = _ := funext fun k => ref_q x0 x1 x2 x3 x4 x10 r k
  have h4 : (fun k => val_main_v67 (F := Ideal) x0 x1 x2 x3 x4 x8 x9 x10 x11 (ix2 r k)) = _ :=
    funext fun k => ref_attn x0 x1 x2 x3 x4 x8 x9 x10 x11 r k
  have h5 : (fun k => val_main_v83 (F := Ideal) x0 x1 x2 x3 x4 x5 x8 x9 x10 x11 (ix2 r k)) = _ :=
    funext fun k => ref_mid x0 x1 x2 x3 x4 x5 x8 x9 x10 x11 r k
  have h6 : (fun k => val_main_v98 (F := Ideal) x0 x1 x2 x3 x4 x5 x6 x8 x9 x10 x11 (ix2 r k)) = _ :=
    funext fun k => ref_norm2 x0 x1 x2 x3 x4 x5 x6 x8 x9 x10 x11 r k
  have h7 : (fun k => val_main_v108 (F := Ideal) x0 x1 x2 x3 x4 x5 x6 x8 x9 x10 x11 x12 x13 (ix2 r k)) = _ :=
    funext fun k => ref_ffn x0 x1 x2 x3 x4 x5 x6 x8 x9 x10 x11 x12 x13 r k
  rw [ref_out, h7, h6, h5, h4, h3, h2, h1, h0]
  rfl

end Cert.Reference2Ideal.Rows

end
-- ==== Proof.Sb.Blocks.lean ====
module

public import proofs.«01_k».proof.Proof.Sb.Track
public import proofs.«01_k».proof.Proof.Sb.RefRows
public import proofs.«01_k».proof.Proof.Blocks
public import Idealize.ShloMosaic.Lib.Pipeline.ValueKit
public import Idealize.ShloMosaic.Lib.Claim

/-!
The blocks a grid point is given, read as rows of the argument arrays: point `t` has the 512 tokens from
`512 * min t 127` on, their batch's memory and the second layer's weights.
-/

@[expose] public section

set_option maxRecDepth 16384

noncomputable section

namespace Cert.Kernel2Ideal.Body

open Cert.Kernel2Ideal Cert.Kernel2Ideal.Gen
open Idealize.ShloMosaic Idealize.ShloMosaic.TcCoe Idealize.SL.Sem
open Cert.ReferenceIdeal.Rows (batch tok act)
open Cert.Reference2Ideal.Rows (gain)
open Cert.KernelIdeal.Body (slot attX attH swi token batch_token rowOf rowOf3 matIn matOut gains mat mem attX_at attH_at swi_at)
open Cert.Row (norm mix softK siluK mid fin)

variable (m : (ℓ : Loc nD τ sig) → Buf (Elt Ideal) ℓ) (c : Dev nD)

/-- Where each window's block lies at a point. -/
theorem place : ∀ t : Fin cfg0.N,
    win0_0.index t = ![min t.val 127, 0] ∧ win0_1.index t = ![min t.val 127, 0]
    ∧ win0_2.index t = ![0, 0, 0] ∧ win0_3.index t = ![1, 0, 0] ∧ win0_4.index t = ![1, 0, 0]
    ∧ win0_5.index t = ![1, 0, 0] ∧ win0_6.index t = ![1, 0, 0] ∧ win0_7.index t = ![1, 0, 0]
    ∧ win0_8.index t = ![1, min t.val 127 / 8, 0, 0] ∧ win0_9.index t = ![1, min t.val 127 / 8, 0, 0]
    ∧ win0_10.index t = ![1, 0, 0] ∧ win0_11.index t = ![1, 0, 0] ∧ win0_12.index t = ![1, 0, 0]
    ∧ win0_13.index t = ![1, 0, 0] ∧ win0_14.index t = ![t.val - 1, 0] :=
  (by decide +kernel : ∀ t : Fin grid0.N, _)

theorem rows_x (t : Fin cfg0.N) (r : Fin 512) :
    rowOf (iblk m c 0 t) r = act (m ((c : Thread nD τ).loc main_arg0)) (token t.val r) := by
  funext k
  show V m c main_v10 (((cfg0.win 0).blk t).view.emb (ix2 r k)) = _
  have e : ((cfg0.win 0).blk t).view.emb (ix2 r k) = (ix2 (token t.val r) k : S65536x1024.Idx) := by
    blk_ext [place t, token]
  rw [e]
  entry_read
  pointwise
  rfl

theorem rows_m (t : Fin cfg0.N) (r : Fin 512) (k : Fin 1024) :
    iblk m c 1 t (ix2 r k) = m ((c : Thread nD τ).loc main_arg1) (ix3 (batch (token t.val r)) (tok (token t.val r)) k) := by
  show V m c main_v11 (((cfg0.win 1).blk t).view.emb (ix2 r k)) = _
  have e : ((cfg0.win 1).blk t).view.emb (ix2 r k) = (ix2 (token t.val r) k : S65536x1024.Idx) := by
    blk_ext [place t, token]
  rw [e]
  entry_read
  pointwise
  rfl

theorem mat_m (t : Fin cfg0.N) (k : Fin 1024) (l : Fin 1024) :
    iblk m c 2 t (ix3 0 k l) = m ((c : Thread nD τ).loc main_arg2) (ix3 0 k l) := by
  show V m c main_v9 (((cfg0.win 2).blk t).view.emb (ix3 0 k l)) = _
  have e : ((cfg0.win 2).blk t).view.emb (ix3 0 k l) = (ix3 0 k l : S1x1024x1024.Idx) := by
    blk_ext [place t]
  rw [e]
  entry_read
  pointwise

theorem mixed_at (x : Vec Ideal S512x1024 .bf16) (w : Vec Ideal S1x1024x1024 .bf16) (r : Fin 512) (l : Fin 1024) :
    mixed (F := Ideal) x w (ix2 r l) = ∑ k : Fin 1024, (show EReal from x (ix2 r k)) * (show EReal from w (ix3 0 k l)) := by
  pointwise [mixed]

/-- The rows the mixer's output is projected to. -/
theorem rows_mixed (t : Fin cfg0.N) (r : Fin 512) :
    rowOf (mixed (iblk m c 1 t) (iblk m c 2 t)) r
      = Cert.Reference2Ideal.Rows.mixed (m ((c : Thread nD τ).loc main_arg1)) (m ((c : Thread nD τ).loc main_arg2)) (token t.val r) := by
  funext l
  refine (mixed_at _ _ r l).trans ?_
  refine Finset.sum_congr rfl fun k _ => ?_
  rw [rows_m, mat_m]

theorem mem_k (t : Fin cfg0.N) (r : Fin 512) :
    mem (iblk m c 8 t) = Cert.Reference2Ideal.Rows.mem (m ((c : Thread nD τ).loc main_arg8)) (batch (token t.val r)) := by
  funext j k
  show V m c main_arg8 (((cfg0.win 8).blk t).view.emb (ix4 0 0 j k)) = _
  have e : ((cfg0.win 8).blk t).view.emb (ix4 0 0 j k) = (ix4 1 (batch (token t.val r)) j k : S4x16x256x1024.Idx) := by
    blk_ext [place t, batch_token]
  rw [e]
  rfl

theorem mem_v (t : Fin cfg0.N) (r : Fin 512) :
    mem (iblk m c 9 t) = Cert.Reference2Ideal.Rows.mem (m ((c : Thread nD τ).loc main_arg9)) (batch (token t.val r)) := by
  funext j k
  show V m c main_arg9 (((cfg0.win 9).blk t).view.emb (ix4 0 0 j k)) = _
  have e : ((cfg0.win 9).blk t).view.emb (ix4 0 0 j k) = (ix4 1 (batch (token t.val r)) j k : S4x16x256x1024.Idx) := by
    blk_ext [place t, batch_token]
  rw [e]
  rfl

theorem gains_3 (t : Fin cfg0.N) : gains (iblk m c 3 t) = gain (m ((c : Thread nD τ).loc main_arg3)) := by
  funext k
  show V m c main_v4 (((cfg0.win 3).blk t).view.emb (ix3 0 0 k)) = _
  have e : ((cfg0.win 3).blk t).view.emb (ix3 0 0 k) = (ix3 1 0 k : S4x1x1024.Idx) := by
    blk_ext [place t]
  rw [e]
  entry_read
  pointwise

theorem gains_4 (t : Fin cfg0.N) : gains (iblk m c 4 t) = gain (m ((c : Thread nD τ).loc main_arg4)) := by
  funext k
  show V m c main_v5 (((cfg0.win 4).blk t).view.emb (ix3 0 0 k)) = _
  have e : ((cfg0.win 4).blk t).view.emb (ix3 0 0 k) = (ix3 1 0 k : S4x1x1024.Idx) := by
    blk_ext [place t]
  rw [e]
  entry_read
  pointwise

theorem gains_5 (t : Fin cfg0.N) : gains (iblk m c 5 t) = gain (m ((c : Thread nD τ).loc main_arg5)) := by
  funext k
  show V m c main_v6 (((cfg0.win 5).blk t).view.emb (ix3 0 0 k)) = _
  have e : ((cfg0.win 5).blk t).view.emb (ix3 0 0 k) = (ix3 1 0 k : S4x1x1024.Idx) := by
    blk_ext [place t]
  rw [e]
  entry_read
  pointwise

theorem gains_6 (t : Fin cfg0.N) : gains (iblk m c 6 t) = gain (m ((c : Thread nD τ).loc main_arg6)) := by
  funext k
  show V m c main_v7 (((cfg0.win 6).blk t).view.emb (ix3 0 0 k)) = _
  have e : ((cfg0.win 6).blk t).view.emb (ix3 0 0 k) = (ix3 1 0 k : S4x1x1024.Idx) := by
    blk_ext [place t]
  rw [e]
  entry_read
  pointwise

theorem gains_7 (t : Fin cfg0.N) : gains (iblk m c 7 t) = gain (m ((c : Thread nD τ).loc main_arg7)) := by
  funext k
  show V m c main_v8 (((cfg0.win 7).blk t).view.emb (ix3 0 0 k)) = _
  have e : ((cfg0.win 7).blk t).view.emb (ix3 0 0 k) = (ix3 1 0 k : S4x1x1024.Idx) := by
    blk_ext [place t]
  rw [e]
  entry_read
  pointwise

theorem mat_q (t : Fin cfg0.N) : mat (iblk m c 10 t) = Cert.Reference2Ideal.Rows.mat (m ((c : Thread nD τ).loc main_arg10)) := by
  funext k l
  show V m c main_v0 (((cfg0.win 10).blk t).view.emb (ix3 0 k l)) = _
  have e : ((cfg0.win 10).blk t).view.emb (ix3 0 k l) = (ix3 1 k l : S4x1024x1024.Idx) := by
    blk_ext [place t]
  rw [e]
  entry_read
  pointwise

theorem mat_o (t : Fin cfg0.N) : mat (iblk m c 11 t) = Cert.Reference2Ideal.Rows.mat (m ((c : Thread nD τ).loc main_arg11)) := by
  funext k l
  show V m c main_v1 (((cfg0.win 11).blk t).view.emb (ix3 0 k l)) = _
  have e : ((cfg0.win 11).blk t).view.emb (ix3 0 k l) = (ix3 1 k l : S4x1024x1024.Idx) := by
    blk_ext [place t]
  rw [e]
  entry_read
  pointwise

theorem mat_in (t : Fin cfg0.N) : matIn (iblk m c 12 t) = Cert.Reference2Ideal.Rows.matIn (m ((c : Thread nD τ).loc main_arg12)) := by
  funext k l
  show V m c main_v2 (((cfg0.win 12).blk t).view.emb (ix3 0 k l)) = _
  have e : ((cfg0.win 12).blk t).view.emb (ix3 0 k l) = (ix3 1 k l : S4x1024x5632.Idx) := by
    blk_ext [place t]
  rw [e]
  entry_read
  pointwise

theorem mat_out (t : Fin cfg0.N) : matOut (iblk m c 13 t) = Cert.Reference2Ideal.Rows.matOut (m ((c : Thread nD τ).loc main_arg13)) := by
  funext k l
  show V m c main_v3 (((cfg0.win 13).blk t).view.emb (ix3 0 k l)) = _
  have e : ((cfg0.win 13).blk t).view.emb (ix3 0 k l) = (ix3 1 k l : S4x2816x1024.Idx) := by
    blk_ext [place t]
  rw [e]
  entry_read
  pointwise

/-- The row of the result that the kernel computes for a token, from the argument arrays. -/
def kernelRow (R : Fin 65536) : Fin 1024 → EReal :=
  fin siluK (mid softK (mix (act (m ((c : Thread nD τ).loc main_arg0)) R) (Cert.Reference2Ideal.Rows.mixed (m ((c : Thread nD τ).loc main_arg1)) (m ((c : Thread nD τ).loc main_arg2)) R) (gain (m ((c : Thread nD τ).loc main_arg3))))
      (gain (m ((c : Thread nD τ).loc main_arg4))) (gain (m ((c : Thread nD τ).loc main_arg5)))
      (Cert.Reference2Ideal.Rows.mem (m ((c : Thread nD τ).loc main_arg8)) (batch R))
      (Cert.Reference2Ideal.Rows.mem (m ((c : Thread nD τ).loc main_arg9)) (batch R))
      (Cert.Reference2Ideal.Rows.mat (m ((c : Thread nD τ).loc main_arg10))) (Cert.Reference2Ideal.Rows.mat (m ((c : Thread nD τ).loc main_arg11))))
    (gain (m ((c : Thread nD τ).loc main_arg6))) (gain (m ((c : Thread nD τ).loc main_arg7)))
    (Cert.Reference2Ideal.Rows.matIn (m ((c : Thread nD τ).loc main_arg12))) (Cert.Reference2Ideal.Rows.matOut (m ((c : Thread nD τ).loc main_arg13)))

/-- After the point that follows `n`, the output window holds the rows of `n`'s tokens. -/
theorem outAt_row (n : ℕ) (h : n + 1 < cfg0.N) (r : Fin 512) (l : Fin 1024) :
    outAt m c (n + 1) h (ix2 r l) = kernelRow m c (token n r) l := by
  have eX : rowOf3 (residAt m c ⟨n, Nat.lt_of_succ_lt h⟩) r = _ := attX_at _ _ _ _ _ _ _ _ _ r
  have eH : rowOf3 (normedAt m c ⟨n, Nat.lt_of_succ_lt h⟩) r = norm _ (rowOf3 (residAt m c ⟨n, Nat.lt_of_succ_lt h⟩) r) :=
    attH_at _ _ _ _ _ _ _ _ _ _ r
  rw [gains_6] at eH
  rw [rows_x, rows_mixed, gains_3, gains_4, gains_5, mem_k m c _ r, mem_v m c _ r, mat_q, mat_o] at eX
  show swi (normedAt m c ⟨n, Nat.lt_of_succ_lt h⟩) (residAt m c ⟨n, Nat.lt_of_succ_lt h⟩) (iblk m c 12 ⟨n + 1, h⟩)
    (iblk m c 13 ⟨n + 1, h⟩) (iblk m c 7 ⟨n + 1, h⟩) (ix2 r l) = _
  rw [swi_at, eH, eX, gains_7, mat_in, mat_out]
  rfl

/-- The result array after the run. -/
theorem final : (dats m 0 c).arrAt 14 (cfgs 0).N = fun i : S65536x1024.Idx => kernelRow m c (i 0) (i 1) := by
  refine (dats m 0 c).arrAt_eq_of_covers 14 _ (by decide +kernel) fun t hf y => ?_
  have h1 : 1 ≤ t.val := by
    revert hf
    exact (by decide +kernel : ∀ t : Fin grid0.N, win0_14.flush t = true → 1 ≤ t.val) t
  blk_simp
  rw [after0_14]
  have key : ∀ z : S512x1024.Idx, outAt m c t.val t.isLt z =
      kernelRow m c ((win0_14.blk t).view.emb z 0) ((win0_14.blk t).view.emb z 1) := by
    intro z
    obtain ⟨r, l, rfl⟩ : ∃ (r : Fin 512) (l : Fin 1024), z = ix2 r l :=
      ⟨z 0, z 1, by funext a; fin_cases a <;> rfl⟩
    have e : (win0_14.blk t).view.emb (ix2 r l) = (ix2 (token (t.val - 1) r) l : S65536x1024.Idx) := by
      have := t.isLt
      have hN : cfg0.N = 129 := by decide
      blk_ext [place t, token]
    rw [e]
    have hs : t.val - 1 + 1 = t.val := by omega
    have := outAt_row m c (t.val - 1) (by rw [hs]; exact t.isLt) r l
    simp only [hs] at this
    exact this
  exact key y

end Cert.Kernel2Ideal.Body

end
-- ==== Proof.Sb.Given.lean ====
/- The precondition read back: where it is all ones, every entry of every argument array is a number. -/
module

public import proofs.«01_k».proof.Proof.Gen.Pre_all_finite2
public import proofs.«01_k».proof.Proof.Given

@[expose] public section

noncomputable section

namespace Cert.Pre_all_finite2

open Idealize.ShloMosaic Cert.Row

/-- Of every array but the last gain and the last matrix, whose entries the two programs use alike. -/
theorem fine_args [Facts] (x0 : FVec Ideal S16x4096x1024 .f32) (x1 : FVec Ideal S16x4096x1024 .bf16) (x2 : FVec Ideal S1x1024x1024 .f32)
    (x3 x4 x5 x6 x7 : FVec Ideal S4x1024 .f32)
    (x8 x9 : FVec Ideal S4x16x256x1024 .bf16) (x10 x11 : FVec Ideal S4x1024x1024 .f32)
    (x12 : FVec Ideal S4x1024x5632 .f32) (x13 : FVec Ideal S4x2816x1024 .f32)
    (h : fn (F := Ideal) x0 x1 x2 x3 x4 x5 x6 x7 x8 x9 x10 x11 x12 x13 = fun _ => 1#1) :
    (∀ i, Fine (x0 i)) ∧ (∀ i, Fine (x1 i)) ∧ (∀ i, Fine (x2 i)) ∧ (∀ i, Fine (x3 i)) ∧ (∀ i, Fine (x4 i)) ∧ (∀ i, Fine (x5 i)) ∧ (∀ i, Fine (x6 i)) ∧ (∀ i, Fine (x8 i)) ∧ (∀ i, Fine (x9 i)) ∧ (∀ i, Fine (x10 i)) ∧ (∀ i, Fine (x11 i)) ∧ (∀ i, Fine (x12 i)) := by
  have e := congrFun h ix0
  unfold fn fn_part1 fn_part2 fn_part3 fn_part4 at e
  dsimp only [andi] at e
  simp only [IntOp.andi_eq_one] at e
  obtain ⟨⟨⟨⟨⟨⟨⟨⟨⟨⟨⟨⟨⟨⟨-, e0⟩, e1⟩, e2⟩, e3⟩, e4⟩, e5⟩, e6⟩, -⟩, e8⟩, e9⟩, e10⟩, e11⟩, e12⟩, -⟩ := e
  exact ⟨Cert.Pre_all_finite.fine_of_test x0 _ _ _ _ e0,
    Cert.Pre_all_finite.fine_of_test (extf .f32 x1 _) _ _ _ _ e1,
    Cert.Pre_all_finite.fine_of_test x2 _ _ _ _ e2,
    Cert.Pre_all_finite.fine_of_test x3 _ _ _ _ e3,
    Cert.Pre_all_finite.fine_of_test x4 _ _ _ _ e4,
    Cert.Pre_all_finite.fine_of_test x5 _ _ _ _ e5,
    Cert.Pre_all_finite.fine_of_test x6 _ _ _ _ e6,
    Cert.Pre_all_finite.fine_of_test (extf .f32 x8 _) _ _ _ _ e8,
    Cert.Pre_all_finite.fine_of_test (extf .f32 x9 _) _ _ _ _ e9,
    Cert.Pre_all_finite.fine_of_test x10 _ _ _ _ e10,
    Cert.Pre_all_finite.fine_of_test x11 _ _ _ _ e11,
    Cert.Pre_all_finite.fine_of_test x12 _ _ _ _ e12⟩

end Cert.Pre_all_finite2

end
-- ==== Proof.Sb.Value.lean ====
/- On numbers the kernel's result array is the reference's. -/
module

public import proofs.«01_k».proof.Proof.Sb.Blocks
public import proofs.«01_k».proof.Proof.Sb.Given

@[expose] public section

set_option maxRecDepth 16384

noncomputable section

namespace Cert.Kernel2Ideal.Body

open Idealize.ShloMosaic Idealize.ShloMosaic.TcCoe Idealize.SL.Sem Cert.Row
open Cert.Kernel2Ideal Cert.Kernel2Ideal.Gen
open Cert.Reference2Ideal.Read (val_main_v124)

variable (m : (ℓ : Loc nD τ sig) → Buf (Elt Ideal) ℓ) (c : Dev nD)

/-- The array the kernel leaves is the reference's array of the same arguments. -/
theorem value [Cert.Pre_all_finite2.Facts]
    (h : Cert.Pre_all_finite2.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = fun _ => 1#1) :
    (dats m 0 c).arrAt 14 (cfgs 0).N = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  obtain ⟨h0, h1, h2, h3, h4, h5, h6, h8, h9, h10, h11, h12⟩ := Cert.Pre_all_finite2.fine_args _ _ _ _ _ _ _ _ _ _ _ _ _ _ h
  rw [final]
  funext i
  obtain ⟨r, l, rfl⟩ : ∃ (r : Fin 65536) (l : Fin 1024), i = ix2 r l := ⟨i 0, i 1, by funext a; fin_cases a <;> rfl⟩
  refine Eq.trans ?_ (Cert.Reference2Ideal.Rows.ref_row _ _ _ _ _ _ _ _ _ _ _ _ _ _ r l).symm
  refine congrFun (?_ : kernelRow m c r = _) l
  exact (row_eq (fun _ => h0 _) (fun _ => fine_sum _ fun _ => (h1 _).mul (h2 _)) (fun _ => h3 _) (fun _ => h4 _) (fun _ => h5 _)
    (fun _ => h6 _) (fun _ _ => h8 _) (fun _ _ => h9 _) (fun _ _ => h10 _) (fun _ _ => h11 _) (fun _ _ => h12 _)).symm

end Cert.Kernel2Ideal.Body

end
-- ==== Proof.Ret.Slots.lean ====
module

public import proofs.«01_k».proof.Proof.Slots
public import proofs.«01_k».proof.Proof.Gen.Kernel3Ideal.Frame
public import proofs.«01_k».proof.Proof.Gen.Kernel3Ideal.Skeleton
public import Idealize.ShloMosaic.Lib.Pipeline.ValueKit
public import Idealize.ShloMosaic.Lib.WritesUnit

/-!
Reading one slot of a two-slot buffer after a store into a slot: the same slot holds what was stored, the other
slot is as it was. Then the rows the mixer's output is projected to.
-/

@[expose] public section

noncomputable section

namespace Cert.Kernel3Ideal.Body

open Cert.Kernel3Ideal Cert.Kernel3Ideal.Gen
open Idealize.ShloMosaic

variable {F : FTy → Type} [FloatOps F] {e : EltTy} {κ : Kind} {sp : Space}

/-- The slot just stored holds the payload. -/
theorem slot_hit (v : View sig κ sp S2x512x1024 e) (f : v.ty.Contents (Elt F)) (off off' : Fin 3 → ℕ)
    (inb : ∀ a, off a + S1x512x1024.size a ≤ S2x512x1024.size a) (inb' : ∀ a, off' a + S1x512x1024.size a ≤ S2x512x1024.size a)
    (w : Vec F S1x512x1024 e) (L : List (View.Piece (Elt F) S2x512x1024 e)) (h : off' = off) :
    v.readAt (Elt F) (Rect.unit (s := S2x512x1024) off S1x512x1024.size inb).toLoadRect
      (v.writes (Elt F) f (⟨Rect.unit (s := S2x512x1024) off' S1x512x1024.size inb', w⟩ :: L)) = w := by
  rw [View.readAt_eq_ld]
  funext y
  refine View.read_writes_cons_unit_of_mem v f inb' w L _ y h fun a => ?_
  show off a + 1 * (y a).val = _
  omega

/-- A slot other than the one just stored holds what it held before. -/
theorem slot_skip (v : View sig κ sp S2x512x1024 e) (f : v.ty.Contents (Elt F)) (off off' : Fin 3 → ℕ)
    (inb : ∀ a, off a + S1x512x1024.size a ≤ S2x512x1024.size a) (inb' : ∀ a, off' a + S1x512x1024.size a ≤ S2x512x1024.size a)
    (w : Vec F S1x512x1024 e) (L : List (View.Piece (Elt F) S2x512x1024 e)) (h : off 0 ≠ off' 0) :
    v.readAt (Elt F) (Rect.unit (s := S2x512x1024) off S1x512x1024.size inb).toLoadRect
      (v.writes (Elt F) f (⟨Rect.unit (s := S2x512x1024) off' S1x512x1024.size inb', w⟩ :: L))
      = v.readAt (Elt F) (Rect.unit (s := S2x512x1024) off S1x512x1024.size inb).toLoadRect (v.writes (Elt F) f L) := by
  rw [View.readAt_eq_ld, View.readAt_eq_ld]
  funext y
  refine View.read_writes_cons_unit_of_not_mem v f inb' w L _ rfl 0 ?_
  have h0 : (y 0).val < 1 := (y 0).isLt
  show off 0 + 1 * (y 0).val < off' 0 ∨ off' 0 + 1 ≤ off 0 + 1 * (y 0).val
  omega

/-- The mixer's rows times the mixer's output weights. -/
def mixed (m : Vec F S512x2048 .f32) (W : Vec F S1x2048x1024 .bf16) : Vec F S512x1024 .f32 :=
  matmul dot_S512x2048_S2048x1024_S512x1024_1_0_0_1_n_n none (truncf .bf16 (shapeCast S512x2048 m shapeCasts_S512x2048_S512x2048) bitsLt_bf16_f32)
    (shapeCast S2048x1024 W shapeCasts_S1x2048x1024_S2048x1024) (constant S512x1024 .f32 0x00000000#32)

/-- The slot a point reads. -/
theorem off1_eq : ∀ i : grid0.Coords, k0_off1 i = ![1 - (i 0).val % 2, 0, 0] := by decide +kernel
/-- The slot a point fills. -/
theorem off2_eq : ∀ i : grid0.Coords, k0_off2 i = ![(i 0).val % 2, 0, 0] := by decide +kernel
instance closedOff_1 (i : grid0.Coords) : ClosedOff (k0_off1 i) := ⟨![1 - (i 0).val % 2, 0, 0], off1_eq i⟩
instance closedOff_2 (i : grid0.Coords) : ClosedOff (k0_off2 i) := ⟨![(i 0).val % 2, 0, 0], off2_eq i⟩

/-- A point reads one slot and fills the other. -/
theorem off_ne (i : grid0.Coords) : k0_off1 i 0 ≠ k0_off2 i 0 := by
  rw [off1_eq, off2_eq]
  show 1 - (i 0).val % 2 ≠ (i 0).val % 2
  omega

/-- The first grid point, as the body tests for it. -/
abbrev cond (i : grid0.Coords) : Prop := (Scalar.cmpi .ne (Scalar.extui (Scalar.cmpi .eq (BitVec.ofNat 32 (i 0).val) 0#32)) 0#32) = 1#1

/-- At the first point the slot read is the one the zero stores fill. -/
theorem off1_first : ∀ i : grid0.Coords, cond i → k0_off1 i = ![1, 0, 0] := by decide +kernel

end Cert.Kernel3Ideal.Body

end
-- ==== Proof.Ret.Steps.lean ====
module

public import proofs.«01_k».proof.Proof.Ret.Slots
public import proofs.«01_k».proof.Proof.Gen.Kernel3Ideal.Skeleton

/-!
The printed body's own expressions, grouped step by step, are the other program's: the two bodies compute the
same attention over the memory and the same feed-forward, cut into expressions differently. Each lemma takes
its arguments as variables.
-/

@[expose] public section

set_option maxRecDepth 16384

noncomputable section

namespace Cert.Kernel3Ideal.Body

open Cert.Kernel3Ideal Cert.Kernel3Ideal.Gen
open Idealize.ShloMosaic Idealize.ShloMosaic.TcCoe

variable {F : FTy → Type} [FloatOps F]

/-- The residual stream after the mix. -/
theorem mix_x (x : Vec F S512x1024 .f32) (m : Vec F S512x2048 .f32) (W : Vec F S1x2048x1024 .bf16) (g : Vec F S1x1x1024 .f32) :
    k0_pay5 x m W g
      = Cert.KernelIdeal.Gen.k0_pay5 x (mixed m W) g := by
  unfold k0_pay5 Cert.KernelIdeal.Gen.k0_pay5
  simp only [mixed, shapeCast_self]

/-- The normalised rows that ask the memory. -/
theorem mix_q (x : Vec F S512x1024 .f32) (m : Vec F S512x2048 .f32) (W : Vec F S1x2048x1024 .bf16) (g g' : Vec F S1x1x1024 .f32) :
    k0_pay6 x m W g g'
      = Cert.KernelIdeal.Gen.k0_pay6 x (mixed m W) g g' := by
  unfold k0_pay6 Cert.KernelIdeal.Gen.k0_pay6
  simp only [mix_x, shapeCast_self]

/-- Head 0: its scores, the softmax over the memory's slots, the weighted values. -/
theorem head_0 (q : FVec F S512x1024 .bf16) (Wq : Vec F S1x1024x1024 .bf16) (K V : Vec F S1x1x256x256 .bf16) :
    k0_pay29 (k0_pay20 (k0_pay12 (k0_pay11 q Wq K) (FloatOps.ofBits FTy.f32 1031798784#32))) V
      = Cert.KernelIdeal.Gen.k0_pay30 (Cert.KernelIdeal.Gen.k0_pay19 (Cert.KernelIdeal.Gen.k0_pay12 q Wq K)) V := rfl

/-- Head 1: its scores, the softmax over the memory's slots, the weighted values. -/
theorem head_1 (q : FVec F S512x1024 .bf16) (Wq : Vec F S1x1024x1024 .bf16) (K V : Vec F S1x1x256x256 .bf16) :
    k0_pay30 (k0_pay21 (k0_pay13 (k0_pay9 q Wq) K)) V
      = Cert.KernelIdeal.Gen.k0_pay31 (Cert.KernelIdeal.Gen.k0_pay20 (Cert.KernelIdeal.Gen.k0_pay14 (Cert.KernelIdeal.Gen.k0_pay13 q Wq) K)) V := rfl

/-- Head 2: its scores, the softmax over the memory's slots, the weighted values. -/
theorem head_2 (q : FVec F S512x1024 .bf16) (Wq : Vec F S1x1024x1024 .bf16) (K V : Vec F S1x1x256x256 .bf16) :
    k0_pay31 (k0_pay22 (k0_pay14 (k0_pay9 q Wq) K)) V
      = Cert.KernelIdeal.Gen.k0_pay32 (Cert.KernelIdeal.Gen.k0_pay21 (Cert.KernelIdeal.Gen.k0_pay15 (Cert.KernelIdeal.Gen.k0_pay10 q Wq) K)) V := rfl

/-- Head 3: its scores, the softmax over the memory's slots, the weighted values. -/
theorem head_3 (q : FVec F S512x1024 .bf16) (Wq : Vec F S1x1024x1024 .bf16) (K V : Vec F S1x1x256x256 .bf16) :
    k0_pay32 (k0_pay24 (k0_pay15 (k0_pay9 q Wq) K) (k0_pay23 (k0_pay15 (k0_pay9 q Wq) K))) V
      = Cert.KernelIdeal.Gen.k0_pay33 (Cert.KernelIdeal.Gen.k0_pay24 (Cert.KernelIdeal.Gen.k0_pay22 (Cert.KernelIdeal.Gen.k0_pay16 (Cert.KernelIdeal.Gen.k0_pay10 q Wq) K)) (Cert.KernelIdeal.Gen.k0_pay23 (Cert.KernelIdeal.Gen.k0_pay16 (Cert.KernelIdeal.Gen.k0_pay10 q Wq) K)) (Scalar.ofBits .f32 0x3F800000#32)) V := rfl

/-- The residual stream after the attention. -/
theorem out_x (A : FVec F S512x1024 .f32) (h0 h1 h2 h3 : FVec F S512x256 .bf16) (o0 o1 o2 o3 : Vec F S1x256x1024 .bf16) (g : Vec F S1x1x1024 .f32) :
    k0_pay41 A (k0_pay39 h3 (k0_pay34 h0 o0) (k0_pay35 h1 o1) (k0_pay36 h2 o2) (k0_pay37 o3) g)
      = Cert.KernelIdeal.Gen.k0_pay39 A (Cert.KernelIdeal.Gen.k0_pay36 h0 h1 h2 h3 o0 o1 o2 o3) g := rfl

/-- Its norm, what the feed-forward reads. -/
theorem out_h (A : FVec F S512x1024 .f32) (h0 h1 h2 h3 : FVec F S512x256 .bf16) (o0 o1 o2 o3 : Vec F S1x256x1024 .bf16) (g : Vec F S1x1x1024 .f32) (g' : Vec F S1x1x1024 .f32) :
    k0_pay42 A (k0_pay39 h3 (k0_pay34 h0 o0) (k0_pay35 h1 o1) (k0_pay36 h2 o2) (k0_pay37 o3) g) g'
      = Cert.KernelIdeal.Gen.k0_pay40 (Cert.KernelIdeal.Gen.k0_pay38 A (Cert.KernelIdeal.Gen.k0_pay36 h0 h1 h2 h3 o0 o1 o2 o3) g) g' := rfl

/-- The feed-forward's first 256 columns. -/
theorem cell_0 (H : Vec F S1x512x1024 .bf16) (a b : Vec F S1x1024x256 .bf16) (d : Vec F S1x256x1024 .bf16) :
    k0_pay4 H a b d
      = Cert.KernelIdeal.Gen.k0_pay4 H a b d := rfl

/-- The next 768. -/
theorem cell_3 (C : FVec F S512x1024 .f32) (H : Vec F S1x512x1024 .bf16) (a b a' b' a'' b'' : Vec F S1x1024x256 .bf16) (d d' d'' : Vec F S1x256x1024 .bf16) :
    k0_pay10 (k0_pay7 C H a b d) (k0_pay8 H a' b') d' H a'' b'' d''
      = Cert.KernelIdeal.Gen.k0_pay11 (Cert.KernelIdeal.Gen.k0_pay9 C (Cert.KernelIdeal.Gen.k0_pay7 H) (Cert.KernelIdeal.Gen.k0_pay8 a) (constant S512x256 .f32 0x00000000#32) b d H a' b' d') H a'' b'' d'' := rfl

/-- The next 256. -/
theorem cell_4 (C : FVec F S512x1024 .f32) (H : Vec F S1x512x1024 .bf16) (a b : Vec F S1x1024x256 .bf16) (d : Vec F S1x256x1024 .bf16) :
    k0_pay19 C (k0_pay17 H b) (k0_pay18 H a) d
      = Cert.KernelIdeal.Gen.k0_pay18 C (Cert.KernelIdeal.Gen.k0_pay17 H a b) d := rfl

/-- The next 256. -/
theorem cell_5 (C : FVec F S512x1024 .f32) (H : Vec F S1x512x1024 .bf16) (a b : Vec F S1x1024x256 .bf16) (d : Vec F S1x256x1024 .bf16) :
    k0_pay25 C H a b d
      = Cert.KernelIdeal.Gen.k0_pay25 C H a b d := rfl

/-- The next 256. -/
theorem cell_6 (C : FVec F S512x1024 .f32) (H : Vec F S1x512x1024 .bf16) (a b : Vec F S1x1024x256 .bf16) (d : Vec F S1x256x1024 .bf16) :
    k0_pay28 C (k0_pay26 H) (k0_pay27 H a) b d
      = Cert.KernelIdeal.Gen.k0_pay29 C (Cert.KernelIdeal.Gen.k0_pay27 H a) (Cert.KernelIdeal.Gen.k0_pay28 H b) (Scalar.ofBits .f32 0x3F000000#32) d := rfl

/-- The next 256. -/
theorem cell_7 (C : FVec F S512x1024 .f32) (H : Vec F S1x512x1024 .bf16) (a b : Vec F S1x1024x256 .bf16) (d : Vec F S1x256x1024 .bf16) :
    k0_pay33 C H a b d
      = Cert.KernelIdeal.Gen.k0_pay35 C (Cert.KernelIdeal.Gen.k0_pay34 H) a b d := rfl

/-- The next 256. -/
theorem cell_8 (C : FVec F S512x1024 .f32) (H : Vec F S1x512x1024 .bf16) (a b : Vec F S1x1024x256 .bf16) (d : Vec F S1x256x1024 .bf16) :
    k0_pay38 C H a b d
      = Cert.KernelIdeal.Gen.k0_pay37 C H a b d := rfl

/-- The last 512, the last norm, the residual's last addition. -/
theorem cell_9 (C : FVec F S512x1024 .f32) (H : Vec F S1x512x1024 .bf16) (X : Vec F S1x512x1024 .f32) (g : Vec F S1x1x1024 .f32) (a b a' b' : Vec F S1x1024x256 .bf16) (d d' : Vec F S1x256x1024 .bf16) :
    k0_pay1 (k0_pay47 C (k0_pay44 H b) (k0_pay45 H a) (k0_pay46 H a) d H a' b' d') (k0_pay48 X) (k0_pay49 g) (k0_pay50 C (k0_pay44 H b) (k0_pay45 H a) (k0_pay46 H a) d H a' b' d')
      = Cert.KernelIdeal.Gen.k0_pay1 (Cert.KernelIdeal.Gen.k0_pay43 C (Cert.KernelIdeal.Gen.k0_pay41 H a b) (Cert.KernelIdeal.Gen.k0_pay42 d) H a' b' d') (Cert.KernelIdeal.Gen.k0_pay44 X) (Cert.KernelIdeal.Gen.k0_pay45 g) (Cert.KernelIdeal.Gen.k0_pay46 C (Cert.KernelIdeal.Gen.k0_pay41 H a b) (Cert.KernelIdeal.Gen.k0_pay42 d) H a' b' d') := rfl

end Cert.Kernel3Ideal.Body
-- ==== Proof.Ret.RunNext.lean ====
module

public import proofs.«01_k».proof.Proof.Ret.Slots
public import Idealize.ShloMosaic.Lib.Pipeline.ValueKit
public import Idealize.ShloMosaic.Lib.Tactic

/-!
One grid point's run: the body reads the slot the point before filled, stores the feed-forward of it into the
output window and fills its own slot with the attention half of its rows.
-/

@[expose] public section

set_option maxRecDepth 16384

noncomputable section

namespace Cert.Kernel3Ideal.Body

open Cert.Kernel3Ideal Cert.Kernel3Ideal.Gen
open Cert.KernelIdeal.Body (slot attX attH swi)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A point after the first runs; what it stores is the run's own finding. -/
def runNext (c : Dev nD) (i : grid0.Coords)
    (arg1 : Memref sig .tc .vmem S512x1024 .f32) (harg1 : arg1.IsWhole)
    (arg2 : Memref sig .tc .vmem S512x2048 .f32) (harg2 : arg2.IsWhole)
    (arg3 : Memref sig .tc .vmem S1x2048x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
    (hc : ¬cond i)
    (x1 : Vec F S512x1024 .f32) (x2 : Vec F S512x2048 .f32) (x3 : Vec F S1x2048x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16) (xb : Vec F S2x512x1024 .f32) (hb : Vec F S2x512x1024 .bf16) :
    Σ' (LO : List (View.Piece (Elt F) S512x1024 .f32)) (LX : List (View.Piece (Elt F) S2x512x1024 .f32)), { LH : List (View.Piece (Elt F) S2x512x1024 .bf16) //
    ∀ (E : Set ℕ) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ owns (c : Thread nD τ) arg16 fullShare xb ∗ owns (c : Thread nD τ) arg17 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ f, arg15.view.loc c.tc ↦[arg15.view.set]{fullShare} arg15.view.writes (Elt F) f LO)
          ∗ (arg16.view.loc c.tc ↦[arg16.view.set]{fullShare} arg16.view.writes (Elt F) (harg16.unread xb) LX)
          ∗ (arg17.view.loc c.tc ↦[arg17.view.set]{fullShare} arg17.view.writes (Elt F) (harg17.unread hb) LH)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_post_mixer_eq_skeleton]; unfold cc0_post_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg16.eq_unread hf16; obtain rfl := harg17.eq_unread hf17
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexact H16
    iexact H17

end Cert.Kernel3Ideal.Body

end
-- ==== Proof.Ret.StoresNext.lean ====
module

public import proofs.«01_k».proof.Proof.Ret.Steps
public import proofs.«01_k».proof.Proof.Ret.RunNext

/-!
What a point after the first stores, as the named values.
-/

@[expose] public section

set_option maxRecDepth 16384

noncomputable section

namespace Cert.Kernel3Ideal.Body

open Cert.Kernel3Ideal Cert.Kernel3Ideal.Gen
open Cert.KernelIdeal.Body (slot attX attH swi)
open Idealize.ShloMosaic Idealize.ShloMosaic.TcCoe

variable {F : FTy → Type} [FloatOps F]

variable (c : Dev nD) (i : grid0.Coords)
    (arg1 : Memref sig .tc .vmem S512x1024 .f32) (harg1 : arg1.IsWhole)
    (arg2 : Memref sig .tc .vmem S512x2048 .f32) (harg2 : arg2.IsWhole)
    (arg3 : Memref sig .tc .vmem S1x2048x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
  (hc : ¬cond i) (x1 : Vec F S512x1024 .f32) (x2 : Vec F S512x2048 .f32) (x3 : Vec F S1x2048x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16)
  (xb : Vec F S2x512x1024 .f32) (hb : Vec F S2x512x1024 .bf16)

set_option maxHeartbeats 1000000 in
/-- The residual slot gets the attention half. -/
theorem resid_next : (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).2.1 = [⟨Rect.unit (s := S2x512x1024) (k0_off2 i) S1x512x1024.size (k0_off2_inb i), attX x1 (mixed x2 x3) x4 x5 x6 x9 x10 x11 x12⟩] := by
  unfold runNext
  dsimp only
  simp only [runNext.sl.r, runNext.sl.H16_1, runNext.sl.H17_1, runNext.sl.cst_86, runNext.sl.r_1, runNext.sl.r_2, runNext.sl.r_3, runNext.sl.r_4, runNext.sl.r_5, runNext.sl.r_6, runNext.sl.r_7, runNext.sl.r_8, runNext.sl.r_9, runNext.sl.r_10, runNext.sl.r_11, runNext.sl.r_12, runNext.sl.r_13, runNext.sl.r_14, runNext.sl.r_15, runNext.sl.r_16, runNext.sl.r_17, runNext.sl.r_18, runNext.sl.r_19, runNext.sl.r_20, runNext.sl.r_21, runNext.sl.r_22, runNext.sl.r_23, runNext.sl.r_24, runNext.sl.r_25, runNext.sl.r_26, runNext.sl.r_27, runNext.sl.r_28, runNext.sl.r_29, runNext.sl.r_30, runNext.sl.r_31, runNext.sl.r_32, runNext.sl.r_33, runNext.sl.r_34, runNext.sl.r_35, runNext.sl.r_36, runNext.sl.r_37, runNext.sl.r_38, runNext.sl.r_39, runNext.sl.r_40, runNext.sl.r_41, runNext.sl.v377, slot_skip _ _ _ _ _ _ _ _ (off_ne i), View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

set_option maxHeartbeats 1000000 in
/-- The normalised slot gets the attention half's norm. -/
theorem normed_next : (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).2.2.val = [⟨Rect.unit (s := S2x512x1024) (k0_off2 i) S1x512x1024.size (k0_off2_inb i), attH x1 (mixed x2 x3) x4 x5 x6 x7 x9 x10 x11 x12⟩] := by
  unfold runNext
  dsimp only
  simp only [runNext.sl.r, runNext.sl.H16_1, runNext.sl.H17_1, runNext.sl.cst_86, runNext.sl.r_1, runNext.sl.r_2, runNext.sl.r_3, runNext.sl.r_4, runNext.sl.r_5, runNext.sl.r_6, runNext.sl.r_7, runNext.sl.r_8, runNext.sl.r_9, runNext.sl.r_10, runNext.sl.r_11, runNext.sl.r_12, runNext.sl.r_13, runNext.sl.r_14, runNext.sl.r_15, runNext.sl.r_16, runNext.sl.r_17, runNext.sl.r_18, runNext.sl.r_19, runNext.sl.r_20, runNext.sl.r_21, runNext.sl.r_22, runNext.sl.r_23, runNext.sl.r_24, runNext.sl.r_25, runNext.sl.r_26, runNext.sl.r_27, runNext.sl.r_28, runNext.sl.r_29, runNext.sl.r_30, runNext.sl.r_31, runNext.sl.r_32, runNext.sl.r_33, runNext.sl.r_34, runNext.sl.r_35, runNext.sl.r_36, runNext.sl.r_37, runNext.sl.r_38, runNext.sl.r_39, runNext.sl.r_40, runNext.sl.r_41, runNext.sl.v377, slot_skip _ _ _ _ _ _ _ _ (off_ne i), View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

set_option maxHeartbeats 1000000 in
/-- The output window gets the feed-forward of the slot read. -/
theorem out_next : (runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).1 = [⟨Rect.unit (s := S512x1024) ![0, 0] S512x1024.size inb_S512x1024_S512x1024_0_0,
    swi (slot (k0_off1 i) (k0_off1_inb i) hb) (slot (k0_off1 i) (k0_off1_inb i) xb) x13 x14 x8⟩] := by
  unfold runNext
  dsimp only
  simp only [runNext.sl.r, runNext.sl.H16_1, runNext.sl.H17_1, runNext.sl.cst_86, runNext.sl.r_1, runNext.sl.r_2, runNext.sl.r_3, runNext.sl.r_4, runNext.sl.r_5, runNext.sl.r_6, runNext.sl.r_7, runNext.sl.r_8, runNext.sl.r_9, runNext.sl.r_10, runNext.sl.r_11, runNext.sl.r_12, runNext.sl.r_13, runNext.sl.r_14, runNext.sl.r_15, runNext.sl.r_16, runNext.sl.r_17, runNext.sl.r_18, runNext.sl.r_19, runNext.sl.r_20, runNext.sl.r_21, runNext.sl.r_22, runNext.sl.r_23, runNext.sl.r_24, runNext.sl.r_25, runNext.sl.r_26, runNext.sl.r_27, runNext.sl.r_28, runNext.sl.r_29, runNext.sl.r_30, runNext.sl.r_31, runNext.sl.r_32, runNext.sl.r_33, runNext.sl.r_34, runNext.sl.r_35, runNext.sl.r_36, runNext.sl.r_37, runNext.sl.r_38, runNext.sl.r_39, runNext.sl.r_40, runNext.sl.r_41, runNext.sl.v377, slot_skip _ _ _ _ _ _ _ _ (off_ne i), View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

end Cert.Kernel3Ideal.Body

end
-- ==== Proof.Ret.RunFirst.lean ====
module

public import proofs.«01_k».proof.Proof.Ret.Slots
public import Idealize.ShloMosaic.Lib.Pipeline.ValueKit
public import Idealize.ShloMosaic.Lib.Tactic

/-!
One grid point's run: the body reads the slot the point before filled, stores the feed-forward of it into the
output window and fills its own slot with the attention half of its rows.
-/

@[expose] public section

set_option maxRecDepth 16384

noncomputable section

namespace Cert.Kernel3Ideal.Body

open Cert.Kernel3Ideal Cert.Kernel3Ideal.Gen
open Cert.KernelIdeal.Body (slot attX attH swi)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first point runs; what it stores is the run's own finding. -/
def runFirst (c : Dev nD) (i : grid0.Coords)
    (arg1 : Memref sig .tc .vmem S512x1024 .f32) (harg1 : arg1.IsWhole)
    (arg2 : Memref sig .tc .vmem S512x2048 .f32) (harg2 : arg2.IsWhole)
    (arg3 : Memref sig .tc .vmem S1x2048x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
    (hc : cond i)
    (x1 : Vec F S512x1024 .f32) (x2 : Vec F S512x2048 .f32) (x3 : Vec F S1x2048x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16) (xb : Vec F S2x512x1024 .f32) (hb : Vec F S2x512x1024 .bf16) :
    Σ' (LO : List (View.Piece (Elt F) S512x1024 .f32)) (LX : List (View.Piece (Elt F) S2x512x1024 .f32)), { LH : List (View.Piece (Elt F) S2x512x1024 .bf16) //
    ∀ (E : Set ℕ) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ owns (c : Thread nD τ) arg16 fullShare xb ∗ owns (c : Thread nD τ) arg17 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ f, arg15.view.loc c.tc ↦[arg15.view.set]{fullShare} arg15.view.writes (Elt F) f LO)
          ∗ (arg16.view.loc c.tc ↦[arg16.view.set]{fullShare} arg16.view.writes (Elt F) (harg16.unread xb) LX)
          ∗ (arg17.view.loc c.tc ↦[arg17.view.set]{fullShare} arg17.view.writes (Elt F) (harg17.unread hb) LH)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_post_mixer_eq_skeleton]; unfold cc0_post_mixer_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg16.eq_unread hf16; obtain rfl := harg17.eq_unread hf17
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexact H16
    iexact H17

end Cert.Kernel3Ideal.Body

end
-- ==== Proof.Ret.StoresFirst.lean ====
module

public import proofs.«01_k».proof.Proof.Ret.Steps
public import proofs.«01_k».proof.Proof.Ret.RunFirst

/-!
What the first point stores, as the named values.
-/

@[expose] public section

set_option maxRecDepth 16384

noncomputable section

namespace Cert.Kernel3Ideal.Body

open Cert.Kernel3Ideal Cert.Kernel3Ideal.Gen
open Cert.KernelIdeal.Body (slot attX attH swi)
open Idealize.ShloMosaic Idealize.ShloMosaic.TcCoe

variable {F : FTy → Type} [FloatOps F]

variable (c : Dev nD) (i : grid0.Coords)
    (arg1 : Memref sig .tc .vmem S512x1024 .f32) (harg1 : arg1.IsWhole)
    (arg2 : Memref sig .tc .vmem S512x2048 .f32) (harg2 : arg2.IsWhole)
    (arg3 : Memref sig .tc .vmem S1x2048x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
  (hc : cond i) (x1 : Vec F S512x1024 .f32) (x2 : Vec F S512x2048 .f32) (x3 : Vec F S1x2048x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16)
  (xb : Vec F S2x512x1024 .f32) (hb : Vec F S2x512x1024 .bf16)

set_option maxHeartbeats 1000000 in
/-- The residual slot gets the attention half. -/
theorem resid_first : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).2.1 = [⟨Rect.unit (s := S2x512x1024) (k0_off2 i) S1x512x1024.size (k0_off2_inb i), attX x1 (mixed x2 x3) x4 x5 x6 x9 x10 x11 x12⟩, ⟨Rect.unit (s := S2x512x1024) ![1, 0, 0] S1x512x1024.size inb_S2x512x1024_S1x512x1024_1_0_0, k0_pay2⟩] := by
  unfold runFirst
  dsimp only
  simp only [runFirst.sl.r, runFirst.sl.H16_2, runFirst.sl.H17_1, runFirst.sl.H17_2, runFirst.sl.cst_86, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.v377, slot_skip _ _ _ _ _ _ _ _ (off_ne i), slot_hit _ _ _ _ _ _ _ _ (off1_first i hc).symm, View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

set_option maxHeartbeats 1000000 in
/-- The normalised slot gets the attention half's norm. -/
theorem normed_first : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).2.2.val = [⟨Rect.unit (s := S2x512x1024) (k0_off2 i) S1x512x1024.size (k0_off2_inb i), attH x1 (mixed x2 x3) x4 x5 x6 x7 x9 x10 x11 x12⟩, ⟨Rect.unit (s := S2x512x1024) ![1, 0, 0] S1x512x1024.size inb_S2x512x1024_S1x512x1024_1_0_0, k0_pay3⟩] := by
  unfold runFirst
  dsimp only
  simp only [runFirst.sl.r, runFirst.sl.H16_2, runFirst.sl.H17_1, runFirst.sl.H17_2, runFirst.sl.cst_86, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.v377, slot_skip _ _ _ _ _ _ _ _ (off_ne i), slot_hit _ _ _ _ _ _ _ _ (off1_first i hc).symm, View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

set_option maxHeartbeats 1000000 in
/-- The output window gets the feed-forward of the slot read. -/
theorem out_first : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb).1 = [⟨Rect.unit (s := S512x1024) ![0, 0] S512x1024.size inb_S512x1024_S512x1024_0_0,
    swi (k0_pay3 (F := F)) (k0_pay2 (F := F)) x13 x14 x8⟩] := by
  unfold runFirst
  dsimp only
  simp only [runFirst.sl.r, runFirst.sl.H16_2, runFirst.sl.H17_1, runFirst.sl.H17_2, runFirst.sl.cst_86, runFirst.sl.r_1, runFirst.sl.r_2, runFirst.sl.r_3, runFirst.sl.r_4, runFirst.sl.r_5, runFirst.sl.r_6, runFirst.sl.r_7, runFirst.sl.r_8, runFirst.sl.r_9, runFirst.sl.r_10, runFirst.sl.r_11, runFirst.sl.r_12, runFirst.sl.r_13, runFirst.sl.r_14, runFirst.sl.r_15, runFirst.sl.r_16, runFirst.sl.r_17, runFirst.sl.r_18, runFirst.sl.r_19, runFirst.sl.r_20, runFirst.sl.r_21, runFirst.sl.r_22, runFirst.sl.r_23, runFirst.sl.r_24, runFirst.sl.r_25, runFirst.sl.r_26, runFirst.sl.r_27, runFirst.sl.r_28, runFirst.sl.r_29, runFirst.sl.r_30, runFirst.sl.r_31, runFirst.sl.r_32, runFirst.sl.r_33, runFirst.sl.r_34, runFirst.sl.r_35, runFirst.sl.r_36, runFirst.sl.r_37, runFirst.sl.r_38, runFirst.sl.r_39, runFirst.sl.r_40, runFirst.sl.r_41, runFirst.sl.v377, slot_skip _ _ _ _ _ _ _ _ (off_ne i), slot_hit _ _ _ _ _ _ _ _ (off1_first i hc).symm, View.writes_nil]
  simp (disch := decide) only [View.readAt_eq_ld, Memref.IsWhole.read_unread, View.ld_unit_lit']
  simp only [mix_x, mix_q, head_0, head_1, head_2, head_3, out_x, out_h, cell_0, cell_3, cell_4, cell_5, cell_6, cell_7, cell_8, cell_9]
  rfl

end Cert.Kernel3Ideal.Body

end
-- ==== Proof.Ret.Body.lean ====
module

public import proofs.«01_k».proof.Proof.Ret.StoresNext
public import proofs.«01_k».proof.Proof.Ret.StoresFirst
public import Idealize.ShloMosaic.Lib.VecWindow

/-!
One grid point's run, its memory before and after named.
-/

@[expose] public section

set_option maxRecDepth 16384

noncomputable section

namespace Cert.Kernel3Ideal.Body

open Cert.Kernel3Ideal Cert.Kernel3Ideal.Gen
open Cert.KernelIdeal.Body (slot attX attH swi)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A point after the first. -/
theorem body_next (c : Dev nD) (i : grid0.Coords)
    (arg1 : Memref sig .tc .vmem S512x1024 .f32) (harg1 : arg1.IsWhole)
    (arg2 : Memref sig .tc .vmem S512x2048 .f32) (harg2 : arg2.IsWhole)
    (arg3 : Memref sig .tc .vmem S1x2048x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
    (hc : ¬cond i)
    (x1 : Vec F S512x1024 .f32) (x2 : Vec F S512x2048 .f32) (x3 : Vec F S1x2048x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16) (xb : Vec F S2x512x1024 .f32) (hb : Vec F S2x512x1024 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ owns (c : Thread nD τ) arg16 fullShare xb ∗ owns (c : Thread nD τ) arg17 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (swi (slot (k0_off1 i) (k0_off1_inb i) hb) (slot (k0_off1 i) (k0_off1_inb i) xb) x13 x14 x8)
          ∗ (∃ D, ⌜slot (k0_off2 i) (k0_off2_inb i) D = attX x1 (mixed x2 x3) x4 x5 x6 x9 x10 x11 x12⌝ ∗ owns (c : Thread nD τ) arg16 fullShare D)
          ∗ (∃ D, ⌜slot (k0_off2 i) (k0_off2_inb i) D = attH x1 (mixed x2 x3) x4 x5 x6 x7 x9 x10 x11 x12⌝ ∗ owns (c : Thread nD τ) arg17 fullShare D)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hO := out_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  have hX := resid_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  have hH := normed_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  generalize runNext c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb = R at hO hX hH
  obtain ⟨LO, LX, LH, hall⟩ := R
  dsimp only at hO hX hH
  subst hO; subst hX; subst hH
  have hrun := hall E K
  iintro ⟨H1, H2, H3, H4, H5, H6, H7, H8, H9, H10, H11, H12, H13, H14, H15, H16, H17, Hk⟩
  iapply hrun
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, ⟨%f, H15⟩, H16, H17⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_full _ _ _ _ _
  isplitl [H16]
  · iexists _; isplitr
    swap
    · unfold owns; iexists _; isplitr
      swap; · iexact H16
      ipureintro; rfl
    ipureintro; exact slot_hit arg16.view _ _ _ _ _ _ _ rfl
  · iexists _; isplitr
    swap
    · unfold owns; iexists _; isplitr
      swap; · iexact H17
      ipureintro; rfl
    ipureintro; exact slot_hit arg17.view _ _ _ _ _ _ _ rfl

set_option maxHeartbeats 1000000 in
/-- The first point. -/
theorem body_first (c : Dev nD) (i : grid0.Coords)
    (arg1 : Memref sig .tc .vmem S512x1024 .f32) (harg1 : arg1.IsWhole)
    (arg2 : Memref sig .tc .vmem S512x2048 .f32) (harg2 : arg2.IsWhole)
    (arg3 : Memref sig .tc .vmem S1x2048x1024 .bf16) (harg3 : arg3.IsWhole)
    (arg4 : Memref sig .tc .vmem S1x1x1024 .f32) (harg4 : arg4.IsWhole)
    (arg5 : Memref sig .tc .vmem S1x1x1024 .f32) (harg5 : arg5.IsWhole)
    (arg6 : Memref sig .tc .vmem S1x1x1024 .f32) (harg6 : arg6.IsWhole)
    (arg7 : Memref sig .tc .vmem S1x1x1024 .f32) (harg7 : arg7.IsWhole)
    (arg8 : Memref sig .tc .vmem S1x1x1024 .f32) (harg8 : arg8.IsWhole)
    (arg9 : Memref sig .tc .vmem S1x1x256x1024 .bf16) (harg9 : arg9.IsWhole)
    (arg10 : Memref sig .tc .vmem S1x1x256x1024 .bf16) (harg10 : arg10.IsWhole)
    (arg11 : Memref sig .tc .vmem S1x1024x1024 .bf16) (harg11 : arg11.IsWhole)
    (arg12 : Memref sig .tc .vmem S1x1024x1024 .bf16) (harg12 : arg12.IsWhole)
    (arg13 : Memref sig .tc .vmem S1x1024x5632 .bf16) (harg13 : arg13.IsWhole)
    (arg14 : Memref sig .tc .vmem S1x2816x1024 .bf16) (harg14 : arg14.IsWhole)
    (arg15 : Memref sig .tc .vmem S512x1024 .f32) (harg15 : arg15.IsWhole)
    (arg16 : Memref sig .tc .vmem S2x512x1024 .f32) (harg16 : arg16.IsWhole)
    (arg17 : Memref sig .tc .vmem S2x512x1024 .bf16) (harg17 : arg17.IsWhole)
    (hc : cond i)
    (x1 : Vec F S512x1024 .f32) (x2 : Vec F S512x2048 .f32) (x3 : Vec F S1x2048x1024 .bf16) (x4 : Vec F S1x1x1024 .f32) (x5 : Vec F S1x1x1024 .f32) (x6 : Vec F S1x1x1024 .f32) (x7 : Vec F S1x1x1024 .f32) (x8 : Vec F S1x1x1024 .f32) (x9 : Vec F S1x1x256x1024 .bf16) (x10 : Vec F S1x1x256x1024 .bf16) (x11 : Vec F S1x1024x1024 .bf16) (x12 : Vec F S1x1024x1024 .bf16) (x13 : Vec F S1x1024x5632 .bf16) (x14 : Vec F S1x2816x1024 .bf16) (xb : Vec F S2x512x1024 .f32) (hb : Vec F S2x512x1024 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (∃ d, owns (c : Thread nD τ) arg15 fullShare d) ∗ owns (c : Thread nD τ) arg16 fullShare xb ∗ owns (c : Thread nD τ) arg17 fullShare hb
      ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare (swi (k0_pay3 (F := F)) (k0_pay2 (F := F)) x13 x14 x8)
          ∗ (∃ D, ⌜slot (k0_off2 i) (k0_off2_inb i) D = attX x1 (mixed x2 x3) x4 x5 x6 x9 x10 x11 x12⌝ ∗ owns (c : Thread nD τ) arg16 fullShare D)
          ∗ (∃ D, ⌜slot (k0_off2 i) (k0_off2_inb i) D = attH x1 (mixed x2 x3) x4 x5 x6 x7 x9 x10 x11 x12⌝ ∗ owns (c : Thread nD τ) arg17 fullShare D)) -∗ K ⟨⟩))
      ⊢ wp frame (wpE (defs₀ (F := F)) Variants.none c none) E (cc0_post_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have hO := out_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  have hX := resid_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  have hH := normed_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb
  generalize runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x1 x2 x3 x4 x5 x6 x7 x8 x9 x10 x11 x12 x13 x14 xb hb = R at hO hX hH
  obtain ⟨LO, LX, LH, hall⟩ := R
  dsimp only at hO hX hH
  subst hO; subst hX; subst hH
  have hrun := hall E K
  iintro ⟨H1, H2, H3, H4, H5, H6, H7, H8, H9, H10, H11, H12, H13, H14, H15, H16, H17, Hk⟩
  iapply hrun
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H1, H2, H3, H4, H5, H6, H7, H8, H9, H10, H11, H12, H13, H14, ⟨%f, H15⟩, H16, H17⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_full _ _ _ _ _
  isplitl [H16]
  · iexists _; isplitr
    swap
    · unfold owns; iexists _; isplitr
      swap; · iexact H16
      ipureintro; rfl
    ipureintro; exact slot_hit arg16.view _ _ _ _ _ _ _ rfl
  · iexists _; isplitr
    swap
    · unfold owns; iexists _; isplitr
      swap; · iexact H17
      ipureintro; rfl
    ipureintro; exact slot_hit arg17.view _ _ _ _ _ _ _ rfl

end Cert.Kernel3Ideal.Body

end
-- ==== Proof.Ret.Track.lean ====
module

public import proofs.«01_k».proof.Proof.Ret.Body

/-!
The launch: what each grid point leaves (the feed-forward of the point before in the output window, its own
attention half in its slot), the body's obligation at every point, the run of the whole program and its frame.
-/

@[expose] public section

set_option maxRecDepth 16384

noncomputable section

namespace Cert.Kernel3Ideal.Body

open Cert.Kernel3Ideal Cert.Kernel3Ideal.Gen
open Cert.KernelIdeal.Body (slot attX attH swi)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x256x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1024x5632 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2816x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x1024 .f32 := win0_14.stage (cfg0.slots t 14)
abbrev hs0_14 (t : Fin cfg0.N) : (ms0_14 t).IsWhole := hstage0_14 ((cfg0.slots t 14).cast nbuf0_14)

/-- The residual rows' two slots. -/
abbrev scX : Memref sig .tc .vmem S2x512x1024 .f32 := Memref.whole cc0_scratch0
/-- The normalised rows' two slots. -/
abbrev scH : Memref sig .tc .vmem S2x512x1024 .bf16 := Memref.whole cc0_scratch1

theorem PhiA_eq (c : Dev nD) :
    (Pipeline.ΦA spec0 c : sProp 𝕄)
      = iprop(iprop((∃ d, owns (c : Thread nD τ) scX fullShare d) ∗ (∃ d, owns (c : Thread nD τ) scH fullShare d)) ∗ (∃ r, prngReg c r)) := by
  unfold Pipeline.ΦA; rw [scopedRest0_eq]; simp only [scX, scH, owns_whole]; try rfl

/-- The residual rows point `t` leaves in its slot. -/
def residAt (c : Dev nD) (t : Fin cfg0.N) : Vec F S1x512x1024 .f32 :=
  attX (iblk m c 0 t) (mixed (iblk m c 1 t) (iblk m c 2 t)) (iblk m c 3 t) (iblk m c 4 t) (iblk m c 5 t) (iblk m c 8 t) (iblk m c 9 t) (iblk m c 10 t) (iblk m c 11 t)

/-- The normalised rows point `t` leaves in its slot. -/
def normedAt (c : Dev nD) (t : Fin cfg0.N) : Vec F S1x512x1024 .bf16 :=
  attH (iblk m c 0 t) (mixed (iblk m c 1 t) (iblk m c 2 t)) (iblk m c 3 t) (iblk m c 4 t) (iblk m c 5 t) (iblk m c 6 t) (iblk m c 8 t) (iblk m c 9 t) (iblk m c 10 t) (iblk m c 11 t)

/-- What the output window holds after point `n`: the feed-forward of what the point before left, of zeros at the
    first point. -/
def outAt (c : Dev nD) : (n : ℕ) → n < cfg0.N → Vec F S512x1024 .f32
  | 0, h => swi k0_pay3 k0_pay2 (iblk m c 12 ⟨0, h⟩) (iblk m c 13 ⟨0, h⟩) (iblk m c 7 ⟨0, h⟩)
  | n + 1, h => swi (normedAt m c ⟨n, Nat.lt_of_succ_lt h⟩) (residAt m c ⟨n, Nat.lt_of_succ_lt h⟩) (iblk m c 12 ⟨n + 1, h⟩) (iblk m c 13 ⟨n + 1, h⟩) (iblk m c 7 ⟨n + 1, h⟩)

/-- Between points: before the first, the buffers at anything; afterwards each buffer's slot of the point just run
    at what that point left in it, the other slot at anything. -/
def PhiS (c : Dev nD) : (n : ℕ) → n ≤ cfg0.N → sProp 𝕄
  | 0, _ => Pipeline.ΦA spec0 c
  | n + 1, hn => iprop(iprop(
      (∃ D, ⌜slot (k0_off2 (grid0.coords ⟨n, hn⟩)) (k0_off2_inb (grid0.coords ⟨n, hn⟩)) D = residAt m c ⟨n, hn⟩⌝ ∗ owns (c : Thread nD τ) scX fullShare D)
      ∗ (∃ D, ⌜slot (k0_off2 (grid0.coords ⟨n, hn⟩)) (k0_off2_inb (grid0.coords ⟨n, hn⟩)) D = normedAt m c ⟨n, hn⟩⌝ ∗ owns (c : Thread nD τ) scH fullShare D)) ∗ (∃ r, prngReg c r))

/-- The slot a point reads is the one the point before filled. -/
theorem off1_step (n : ℕ) (h : n + 1 < cfg0.N) :
    k0_off1 (grid0.coords ⟨n + 1, h⟩) = k0_off2 (grid0.coords ⟨n, Nat.lt_of_succ_lt h⟩) := by
  have h' : n + 1 < 129 := lt_of_lt_of_eq h (show cfg0.N = 129 from N_0)
  have e1 : (grid0.coords ⟨n + 1, h⟩ 0).val = (n + 1) / 1 % 129 := Pipeline.Grid.coords_val ⟨n + 1, h⟩ 0 (by decide) rfl
  have e2 : (grid0.coords ⟨n, Nat.lt_of_succ_lt h⟩ 0).val = n / 1 % 129 := Pipeline.Grid.coords_val ⟨n, Nat.lt_of_succ_lt h⟩ 0 (by decide) rfl
  rw [off1_eq, off2_eq, e1, e2]
  congr 1
  omega

theorem slot_congr {e : EltTy} {off off' : Fin 3 → ℕ} (h : off = off') (ho : ∀ a, off a + S1x512x1024.size a ≤ S2x512x1024.size a)
    (ho' : ∀ a, off' a + S1x512x1024.size a ≤ S2x512x1024.size a) (D : Vec F S2x512x1024 e) : slot off ho D = slot off' ho' D := by
  subst h; rfl

/-- The body's test holds at the first point alone. -/
theorem cond_iff : ∀ t : Fin cfg0.N, cond (grid0.coords t) ↔ t.val = 0 := fun t => by
  have h : ∀ i : grid0.Coords, cond i ↔ (i 0).val = 0 := by decide +kernel
  have h' : t.val < 129 := lt_of_lt_of_eq t.isLt (show cfg0.N = 129 from N_0)
  have e : (grid0.coords t 0).val = t.val / 1 % 129 := Pipeline.Grid.coords_val t 0 (by decide) rfl
  rw [h, e]; omega

/-- What the pipeline is run on: the arrays as the region finds them, after the body each input's block in place
    and the output window at `outAt`, `PhiS` between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = outAt m c t.val t.isLt := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)) ∗ (∃ d, owns (c : Thread nD τ) (ms0_13 t) fullShare ((dats m 0 c).before 13 t d)) ∗ (∃ d, owns (c : Thread nD τ) (ms0_14 t) fullShare ((dats m 0 c).before 14 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t) ∗ owns (c : Thread nD τ) (ms0_6 t) fullShare ((dats m 0 c).after 6 t) ∗ owns (c : Thread nD τ) (ms0_7 t) fullShare ((dats m 0 c).after 7 t) ∗ owns (c : Thread nD τ) (ms0_8 t) fullShare ((dats m 0 c).after 8 t) ∗ owns (c : Thread nD τ) (ms0_9 t) fullShare ((dats m 0 c).after 9 t) ∗ owns (c : Thread nD τ) (ms0_10 t) fullShare ((dats m 0 c).after 10 t) ∗ owns (c : Thread nD τ) (ms0_11 t) fullShare ((dats m 0 c).after 11 t) ∗ owns (c : Thread nD τ) (ms0_12 t) fullShare ((dats m 0 c).after 12 t) ∗ owns (c : Thread nD τ) (ms0_13 t) fullShare ((dats m 0 c).after 13 t) ∗ owns (c : Thread nD τ) (ms0_14 t) fullShare ((dats m 0 c).after 14 t))

set_option maxHeartbeats 6400000 in
/-- The body at any point meets its obligation: at the first point from anything, at a later one from the slots the
    point before filled. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14]
  rw [show (dats m 0 c).Φ t.succ = PhiS m c (t.val + 1) t.isLt from rfl, PhiS_castSucc m c t]
  obtain ⟨n, hn⟩ := t
  cases n with
  | zero =>
    dsimp only [PhiS, outAt]
    rw [PhiA_eq]
    iintro ⟨⟨⟨⟨%xb, HX⟩, ⟨%hb, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (body_first c (grid0.coords ⟨0, hn⟩) _ _ _ _ _ _ _ _ _ _ _ _ _ _ _ _ _ _ _ _ _ _ _ _ _ _ _ _ _ _ _ _ _ _  ((cond_iff ⟨0, hn⟩).mpr rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) xb hb Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HX]; · iexact HX
    isplitl [HH]; · iexact HH
    iintro ⟨H0, H1, H2, H3, H4, H5, H6, H7, H8, H9, H10, H11, H12, H13, H14, HX, HH⟩
    isplitl [HX HH Hg]
    · isplitl [HX HH]
      · isplitl [HX]
        · iexact HX
        · iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  | succ n =>
    dsimp only [PhiS, outAt]
    iintro ⟨⟨⟨⟨%xb, %hxb, HX⟩, ⟨%hb, %hhb, HH⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    have hx' := (slot_congr (off1_step n hn) (k0_off1_inb (grid0.coords ⟨n + 1, hn⟩)) _ xb).trans hxb
    have hh' := (slot_congr (off1_step n hn) (k0_off1_inb (grid0.coords ⟨n + 1, hn⟩)) _ hb).trans hhb
    rw [← hx', ← hh']
    iapply (body_next c (grid0.coords ⟨n + 1, hn⟩) _ _ _ _ _ _ _ _ _ _ _ _ _ _ _ _ _ _ _ _ _ _ _ _ _ _ _ _ _ _ _ _ _ _  (fun h => Nat.succ_ne_zero n ((cond_iff ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) xb hb Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexists _; iexact H14
    isplitl [HX]; · iexact HX
    isplitl [HH]; · iexact HH
    iintro ⟨H0, H1, H2, H3, H4, H5, H6, H7, H8, H9, H10, H11, H12, H13, H14, HX, HH⟩
    isplitl [HX HH Hg]
    · isplitl [HX HH]
      · isplitl [HX]
        · iexact HX
        · iexact HH
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

/-- The body table's row at a point is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

/-- After a point the slots' contents may be forgotten. -/
theorem Phi_out (c : Dev nD) (n : ℕ) (h : n + 1 ≤ cfg0.N) : PhiS m c (n + 1) h ⊢ Pipeline.ΦA spec0 c := by
  dsimp only [PhiS]
  rw [PhiA_eq]
  iintro ⟨⟨⟨%xb, -, HX⟩, ⟨%hb, -, HH⟩⟩, Hg⟩
  isplitl [HX HH]
  · isplitl [HX]
    · iexists _; iexact HX
    · iexists _; iexact HH
  iexact Hg

theorem hout (c : Dev nD) : (dats m 0 c).Φ (Fin.last cfg0.N) ⊢ Pipeline.ΦA spec0 c := by
  rw [show (dats m 0 c).Φ (Fin.last cfg0.N) = PhiS m c (128 + 1) (le_of_eq N_0.symm) from rfl]
  exact Phi_out m c 128 _

set_option backward.isDefEq.respectTransparency.types false in
set_option maxHeartbeats 800000 in
/-- The program runs to the arrays the proof data compute, its counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments are left as they were and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.Kernel3Ideal.Body

end
-- ==== Proof.Ret.Same.lean ====
module

public import proofs.«01_k».proof.Defs
public import proofs.«01_k».proof.Proof.Ret.Track
public import proofs.«01_k».proof.Proof.Gen.Kernel3

/-!
The two printings of the kernel name one program: body and calls agree at the machine's values, so the frame
proved for every value domain is also the first printing's.
-/

@[expose] public section

set_option maxRecDepth 16384

namespace Cert.Kernel3.Body

open Idealize.ShloMosaic Idealize.SL.Sem

/-- The body. -/
theorem body_eq : Cert.Kernel3.cc0_post_mixer (F := Bits) = Cert.Kernel3Ideal.cc0_post_mixer (F := Bits) := rfl

set_option maxHeartbeats 1000000 in
/-- The definitions it is called by. -/
theorem defs₀_eq : Cert.Kernel3.defs₀ (F := Bits) = Cert.Kernel3Ideal.defs₀ (F := Bits) := by
  unfold Cert.Kernel3.defs₀ Cert.Kernel3Ideal.defs₀
  congr 1
  funext a x
  obtain ⟨_ | n, ha⟩ := a
  · obtain ⟨t, s⟩ := x
    dsimp only
    generalize hb : Cert.Kernel3.cc0_post_mixer (F := Bits) = B
    obtain rfl : B = Cert.Kernel3Ideal.cc0_post_mixer (F := Bits) := hb.symm.trans body_eq
    rfl
  · exact absurd ha (by omega)

/-- The program. -/
theorem defs_eq : Cert.Kernel3.defs (F := Bits) = Cert.Kernel3Ideal.defs (F := Bits) := by
  unfold Cert.Kernel3.defs Cert.Kernel3Ideal.defs
  rw [defs₀_eq]
  rfl

/-- No run of the first printing goes wrong. -/
theorem frame : Cert.quiescent_Kernel3 := fun m g _ => by
  rw [defs_eq]
  exact Cert.Kernel3Ideal.Body.frame (F := Bits) m g

end Cert.Kernel3.Body
-- ==== Proof.Ret.RefRows.lean ====
module

public import proofs.«01_k».proof.Proof.RefRows
public import proofs.«01_k».proof.Proof.Gen.Reference3Ideal.Read

/-!
The reference's result, read at one token: its row is the layer's row, with the softmax and the activation as
quotients.
-/

@[expose] public section

set_option maxRecDepth 16384

noncomputable section

namespace Cert.Reference3Ideal.Rows

open Cert.Reference3Ideal Cert.Reference3Ideal.Gen Cert.Reference3Ideal.Read
open Idealize.ShloMosaic
open Cert.Row
open Cert.ReferenceIdeal.Rows (batch tok act low_max_top headOf headOf_tile)

/-- The token's row of the mixer's output times the mixer's output weights. -/
def mixed (x1 : S16x4096x2048.Idx → EReal) (x2 : S1x2048x1024.Idx → EReal) (r : Fin 65536) : Fin 1024 → EReal := fun l =>
  ∑ k : Fin 2048, x1 (ix3 (batch r) (tok r) k) * x2 (ix3 0 k l)

/-- The third layer's gains. -/
abbrev gain (g : S4x1024.Idx → EReal) : Fin 1024 → EReal := fun k => g (ix2 2 k)
/-- The third layer's square matrix. -/
abbrev mat (W : S4x1024x1024.Idx → EReal) : Fin 1024 → Fin 1024 → EReal := fun k l => W (ix3 2 k l)
/-- The third layer's memory rows of a batch. -/
abbrev mem (K : S4x16x256x1024.Idx → EReal) (b : Fin 16) : Fin 256 → Fin 1024 → EReal := fun j k => K (ix4 2 b j k)
/-- The third layer's feed-forward input weights. -/
abbrev matIn (W : S4x1024x5632.Idx → EReal) : Fin 1024 → Fin 5632 → EReal := fun k n => W (ix3 2 k n)
/-- The third layer's feed-forward output weights. -/
abbrev matOut (W : S4x2816x1024.Idx → EReal) : Fin 2816 → Fin 1024 → EReal := fun n k => W (ix3 2 n k)

variable (x0 : FVec Ideal S16x4096x1024 .f32) (x1 : FVec Ideal S16x4096x2048 .f32) (x2 : FVec Ideal S1x2048x1024 .f32) (x3 x4 x5 x6 x7 : FVec Ideal S4x1024 .f32)
  (x8 x9 : FVec Ideal S4x16x256x1024 .bf16) (x10 x11 : FVec Ideal S4x1024x1024 .f32)
  (x12 : FVec Ideal S4x1024x5632 .f32) (x13 : FVec Ideal S4x2816x1024 .f32)

theorem ref_mixed (r : Fin 65536) (l : Fin 1024) :
    val_main_v2 (F := Ideal) x1 x2 (ix2 r l) = mixed x1 x2 r l := by
  pointwise [val_main_v2, val_main_v1, val_main_v0]
  rfl

theorem ref_mix (r : Fin 65536) (l : Fin 1024) :
    val_main_v19 (F := Ideal) x0 x1 x2 x3 (ix2 r l) = mix (act x0 r) (fun k => val_main_v2 (F := Ideal) x1 x2 (ix2 r k)) (gain x3) l := by
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  rfl

theorem ref_norm (r : Fin 65536) (l : Fin 1024) :
    val_main_v34 (F := Ideal) x0 x1 x2 x3 x4 (ix2 r l)
      = norm (gain x4) (fun k => val_main_v19 (F := Ideal) x0 x1 x2 x3 (ix2 r k)) l := by
  pointwise [val_main_v34, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4]
  rfl

theorem ref_q (r : Fin 65536) (l : Fin 1024) :
    val_main_v37 (F := Ideal) x0 x1 x2 x3 x4 x10 (ix2 r l)
      = proj (mat x10) (fun k => val_main_v34 (F := Ideal) x0 x1 x2 x3 x4 (ix2 r k)) l := by
  pointwise [val_main_v37, val_main_v36, val_main_v35]
  rfl

theorem ref_score (r : Fin 65536) (h : Fin 4) (j : Fin 256) :
    val_main_v49 (F := Ideal) x0 x1 x2 x3 x4 x8 x10 (ix4 (batch r) h (tok r) j)
      = score (fun k => val_main_v37 (F := Ideal) x0 x1 x2 x3 x4 x10 (ix2 r k)) (mem x8 (batch r)) h j := by
  have e : ∀ hh, (⟨(batch r).val * 4096 + (tok r).val, hh⟩ : Fin 65536) = r := fun hh =>
    Fin.ext (Nat.div_add_mod' r.val 4096)
  generalize batch r = b at *
  generalize tok r = t at *
  pointwise [val_main_v42, val_main_v41, val_main_v40, val_main_v39, val_main_v38, val_main_v49, val_main_v48, val_main_v47, val_main_cst_5]
  simp only [e]
  rfl

theorem ref_top (b : Fin 16) (h : Fin 4) (t : Fin 4096) :
    val_main_v50 (F := Ideal) x0 x1 x2 x3 x4 x8 x10 (ix3 b h t)
      = top fun j => val_main_v49 (F := Ideal) x0 x1 x2 x3 x4 x8 x10 (ix4 b h t j) := by
  unfold val_main_v50
  rw [Host.reduce_eq_fold_single FloatOps.maximumf _ _ _ (by decide)]
  refine congrArg (fun f => Finset.univ.fold max low f) (funext fun k => ?_)
  refine congrArg (val_main_v49 (F := Ideal) x0 x1 x2 x3 x4 x8 x10) (funext fun a => Fin.ext ?_)
  match a with | ⟨0, _⟩ => rfl | ⟨1, _⟩ => rfl | ⟨2, _⟩ => rfl | ⟨3, _⟩ => rfl

theorem idx_top (b : Fin 16) (h : Fin 4) (t : Fin 4096) (j : Fin 256) :
    idx_main_v53 (idx_main_v54 (ix4 b h t j)) = ix3 b h t :=
  funext fun a => match a with | ⟨0, _⟩ => rfl | ⟨1, _⟩ => rfl | ⟨2, _⟩ => rfl

theorem ref_wgt (b : Fin 16) (h : Fin 4) (t : Fin 4096) (j : Fin 256) :
    val_main_v56 (F := Ideal) x0 x1 x2 x3 x4 x8 x10 (ix4 b h t j)
      = wgt (fun j => val_main_v49 (F := Ideal) x0 x1 x2 x3 x4 x8 x10 (ix4 b h t j)) j := by
  rw [val_main_v56_apply, val_main_v55_apply, val_main_v54_apply, val_main_v53_apply, idx_top, val_main_v52_apply, ref_top]
  exact congrArg (fun u => Ideal.exp (_ - u)) (low_max_top _)

theorem ref_soft (b : Fin 16) (h : Fin 4) (t : Fin 4096) (j : Fin 256) :
    val_main_v60 (F := Ideal) x0 x1 x2 x3 x4 x8 x10 (ix4 b h t j)
      = soft (fun j => val_main_v49 (F := Ideal) x0 x1 x2 x3 x4 x8 x10 (ix4 b h t j)) j := by
  rw [val_main_v60_apply, val_main_v59_apply, val_main_v58_apply, val_main_v57_apply, ref_wgt]
  have e : ∀ k, idx_main_v57 (idx_main_v58 (idx_main_v59 (ix4 b h t j))) k = ix4 b h t k := fun k =>
    funext fun a => match a with | ⟨0, _⟩ => rfl | ⟨1, _⟩ => rfl | ⟨2, _⟩ => rfl | ⟨3, _⟩ => rfl
  simp only [e, ref_wgt]
  have z : val_main_cst_8 (F := Ideal) (Shape.Idx.first h_S_) = 0 := Ideal.ofBits_zero_f32
  rw [z, zero_add]
  rfl

theorem ref_ctx (r : Fin 65536) (l : Fin 1024) :
    val_main_v66 (F := Ideal) x0 x1 x2 x3 x4 x8 x9 x10 x11 (ix2 r l)
      = ∑ x : Fin 1024, (∑ j : Fin 256, mem x9 (batch r) j x
          * (show EReal from val_main_v60 (F := Ideal) x0 x1 x2 x3 x4 x8 x10 (ix4 (batch r) (headOf x) (tok r) j))) * mat x11 x l := by
  pointwise [val_main_v66, val_main_v65, val_main_v64, val_main_v63, val_main_v62, val_main_v61, val_main_v46, val_main_v45, val_main_v44, val_main_v43]
  rfl

theorem ref_attn (r : Fin 65536) (l : Fin 1024) :
    val_main_v66 (F := Ideal) x0 x1 x2 x3 x4 x8 x9 x10 x11 (ix2 r l)
      = attn soft (fun k => val_main_v37 (F := Ideal) x0 x1 x2 x3 x4 x10 (ix2 r k)) (mem x8 (batch r)) (mem x9 (batch r)) (mat x11) l := by
  have hs : ∀ h j, val_main_v60 (F := Ideal) x0 x1 x2 x3 x4 x8 x10 (ix4 (batch r) h (tok r) j)
      = soft (score (fun k => val_main_v37 (F := Ideal) x0 x1 x2 x3 x4 x10 (ix2 r k)) (mem x8 (batch r)) h) j := by
    intro h j
    rw [ref_soft]
    exact congrArg (fun s => soft s j) (funext fun j => ref_score x0 x1 x2 x3 x4 x8 x10 r h j)
  rw [ref_ctx]
  simp only [hs]
  generalize (fun k => val_main_v37 (F := Ideal) x0 x1 x2 x3 x4 x10 (ix2 r k)) = q
  rw [Fin.sum_univ_tiles 4 256 rfl]
  refine Finset.sum_congr rfl fun h _ => Finset.sum_congr rfl fun d _ => ?_
  refine congrArg (· * mat x11 (col h d) l) (Finset.sum_congr rfl fun j _ => ?_)
  rw [mul_comm, headOf_tile]
  rfl

theorem ref_mid (r : Fin 65536) (l : Fin 1024) :
    val_main_v82 (F := Ideal) x0 x1 x2 x3 x4 x5 x8 x9 x10 x11 (ix2 r l)
      = mix (fun k => val_main_v19 (F := Ideal) x0 x1 x2 x3 (ix2 r k))
          (fun k => val_main_v66 (F := Ideal) x0 x1 x2 x3 x4 x8 x9 x10 x11 (ix2 r k)) (gain x5) l := by
  pointwise [val_main_v82, val_main_v81, val_main_v80, val_main_v79, val_main_v78, val_main_v77, val_main_v76, val_main_v75, val_main_v74, val_main_v73, val_main_v72, val_main_v71, val_main_v70, val_main_v69, val_main_v68, val_main_v67, val_main_cst_9, val_main_cst_10, val_main_cst_11]
  rfl

theorem ref_norm2 (r : Fin 65536) (l : Fin 1024) :
    val_main_v97 (F := Ideal) x0 x1 x2 x3 x4 x5 x6 x8 x9 x10 x11 (ix2 r l)
      = norm (gain x6) (fun k => val_main_v82 (F := Ideal) x0 x1 x2 x3 x4 x5 x8 x9 x10 x11 (ix2 r k)) l := by
  pointwise [val_main_v97, val_main_v96, val_main_v95, val_main_v94, val_main_v93, val_main_v92, val_main_v91, val_main_v90, val_main_v89, val_main_v88, val_main_v87, val_main_v86, val_main_v85, val_main_v84, val_main_v83, val_main_cst_12, val_main_cst_13, val_main_cst_14]
  rfl

theorem ref_hid (r : Fin 65536) (n : Fin 2816) :
    val_main_v104 (F := Ideal) x0 x1 x2 x3 x4 x5 x6 x8 x9 x10 x11 x12 (ix2 r n)
      = hid silu (matIn x12) (fun k => val_main_v97 (F := Ideal) x0 x1 x2 x3 x4 x5 x6 x8 x9 x10 x11 (ix2 r k)) n := by
  pointwise [val_main_v104, val_main_v103, val_main_v102, val_main_v101, val_main_v100, val_main_v99, val_main_v98, val_main_call0_v5, val_main_call0_v4, val_main_call0_v3, val_main_call0_v2, val_main_call0_v1, val_main_call0_v0, val_main_call0_cst, val_main_call0_cst_0]
  rfl

theorem ref_ffn (r : Fin 65536) (l : Fin 1024) :
    val_main_v107 (F := Ideal) x0 x1 x2 x3 x4 x5 x6 x8 x9 x10 x11 x12 x13 (ix2 r l)
      = ffn silu (matIn x12) (matOut x13) (fun k => val_main_v97 (F := Ideal) x0 x1 x2 x3 x4 x5 x6 x8 x9 x10 x11 (ix2 r k)) l := by
  pointwise [val_main_v107, val_main_v106, val_main_v105]
  exact Finset.sum_congr rfl fun n _ => congrArg (· * _) (ref_hid x0 x1 x2 x3 x4 x5 x6 x8 x9 x10 x11 x12 r n)

theorem ref_out (r : Fin 65536) (l : Fin 1024) :
    val_main_v123 (F := Ideal) x0 x1 x2 x3 x4 x5 x6 x7 x8 x9 x10 x11 x12 x13 (ix2 r l)
      = mix (fun k => val_main_v82 (F := Ideal) x0 x1 x2 x3 x4 x5 x8 x9 x10 x11 (ix2 r k))
          (fun k => val_main_v107 (F := Ideal) x0 x1 x2 x3 x4 x5 x6 x8 x9 x10 x11 x12 x13 (ix2 r k)) (gain x7) l := by
  pointwise [val_main_v123, val_main_v122, val_main_v121, val_main_v120, val_main_v119, val_main_v118, val_main_v117, val_main_v116, val_main_v115, val_main_v114, val_main_v113, val_main_v112, val_main_v111, val_main_v110, val_main_v109, val_main_v108, val_main_cst_15, val_main_cst_16, val_main_cst_17]
  rfl

/-- The reference's row. -/
theorem ref_row (r : Fin 65536) (l : Fin 1024) :
    val_main_v123 (F := Ideal) x0 x1 x2 x3 x4 x5 x6 x7 x8 x9 x10 x11 x12 x13 (ix2 r l)
      = fin silu (mid soft (mix (act x0 r) (mixed x1 x2 r) (gain x3)) (gain x4) (gain x5) (mem x8 (batch r)) (mem x9 (batch r)) (mat x10) (mat x11))
          (gain x6) (gain x7) (matIn x12) (matOut x13) l := by
  have h0 : (fun k => val_main_v2 (F := Ideal) x1 x2 (ix2 r k)) = _ := funext fun k => ref_mixed x1 x2 r k
  have h1 : (fun k => val_main_v19 (F := Ideal) x0 x1 x2 x3 (ix2 r k)) = _ := funext fun k => ref_mix x0 x1 x2 x3 r k
  have h2 : (fun k => val_main_v34 (F := Ideal) x0 x1 x2 x3 x4 (ix2 r k)) = _ := funext fun k => ref_norm x0 x1 x2 x3 x4 r k
  have h3 : (fun k => val_main_v37 (F := Ideal) x0 x1 x2 x3 x4 x10 (ix2 r k)) = _ := funext fun k => ref_q x0 x1 x2 x3 x4 x10 r k
  have h4 : (fun k => val_main_v66 (F := Ideal) x0 x1 x2 x3 x4 x8 x9 x10 x11 (ix2 r k)) = _ :=
    funext fun k => ref_attn x0 x1 x2 x3 x4 x8 x9 x10 x11 r k
  have h5 : (fun k => val_main_v82 (F := Ideal) x0 x1 x2 x3 x4 x5 x8 x9 x10 x11 (ix2 r k)) = _ :=
    funext fun k => ref_mid x0 x1 x2 x3 x4 x5 x8 x9 x10 x11 r k
  have h6 : (fun k => val_main_v97 (F := Ideal) x0 x1 x2 x3 x4 x5 x6 x8 x9 x10 x11 (ix2 r k)) = _ :=
    funext fun k => ref_norm2 x0 x1 x2 x3 x4 x5 x6 x8 x9 x10 x11 r k
  have h7 : (fun k => val_main_v107 (F := Ideal) x0 x1 x2 x3 x4 x5 x6 x8 x9 x10 x11 x12 x13 (ix2 r k)) = _ :=
    funext fun k => ref_ffn x0 x1 x2 x3 x4 x5 x6 x8 x9 x10 x11 x12 x13 r k
  rw [ref_out, h7, h6, h5, h4, h3, h2, h1, h0]
  rfl

end Cert.Reference3Ideal.Rows

end
-- ==== Proof.Ret.Blocks.lean ====
module

public import proofs.«01_k».proof.Proof.Ret.Track
public import proofs.«01_k».proof.Proof.Ret.RefRows
public import proofs.«01_k».proof.Proof.Blocks
public import Idealize.ShloMosaic.Lib.Pipeline.ValueKit
public import Idealize.ShloMosaic.Lib.Claim

/-!
The blocks a grid point is given, read as rows of the argument arrays: point `t` has the 512 tokens from
`512 * min t 127` on, their batch's memory and the third layer's weights.
-/

@[expose] public section

set_option maxRecDepth 16384

noncomputable section

namespace Cert.Kernel3Ideal.Body

open Cert.Kernel3Ideal Cert.Kernel3Ideal.Gen
open Idealize.ShloMosaic Idealize.ShloMosaic.TcCoe Idealize.SL.Sem
open Cert.ReferenceIdeal.Rows (batch tok act)
open Cert.Reference3Ideal.Rows (gain)
open Cert.KernelIdeal.Body (slot attX attH swi token batch_token rowOf rowOf3 matIn matOut gains mat mem attX_at attH_at swi_at)
open Cert.Row (norm mix softK siluK mid fin)

variable (m : (ℓ : Loc nD τ sig) → Buf (Elt Ideal) ℓ) (c : Dev nD)

/-- Where each window's block lies at a point. -/
theorem place : ∀ t : Fin cfg0.N,
    win0_0.index t = ![min t.val 127, 0] ∧ win0_1.index t = ![min t.val 127, 0]
    ∧ win0_2.index t = ![0, 0, 0] ∧ win0_3.index t = ![2, 0, 0] ∧ win0_4.index t = ![2, 0, 0]
    ∧ win0_5.index t = ![2, 0, 0] ∧ win0_6.index t = ![2, 0, 0] ∧ win0_7.index t = ![2, 0, 0]
    ∧ win0_8.index t = ![2, min t.val 127 / 8, 0, 0] ∧ win0_9.index t = ![2, min t.val 127 / 8, 0, 0]
    ∧ win0_10.index t = ![2, 0, 0] ∧ win0_11.index t = ![2, 0, 0] ∧ win0_12.index t = ![2, 0, 0]
    ∧ win0_13.index t = ![2, 0, 0] ∧ win0_14.index t = ![t.val - 1, 0] :=
  (by decide +kernel : ∀ t : Fin grid0.N, _)

theorem rows_x (t : Fin cfg0.N) (r : Fin 512) :
    rowOf (iblk m c 0 t) r = act (m ((c : Thread nD τ).loc main_arg0)) (token t.val r) := by
  funext k
  show V m c main_v10 (((cfg0.win 0).blk t).view.emb (ix2 r k)) = _
  have e : ((cfg0.win 0).blk t).view.emb (ix2 r k) = (ix2 (token t.val r) k : S65536x1024.Idx) := by
    blk_ext [place t, token]
  rw [e]
  entry_read
  pointwise
  rfl

theorem rows_m (t : Fin cfg0.N) (r : Fin 512) (k : Fin 2048) :
    iblk m c 1 t (ix2 r k) = m ((c : Thread nD τ).loc main_arg1) (ix3 (batch (token t.val r)) (tok (token t.val r)) k) := by
  show V m c main_v11 (((cfg0.win 1).blk t).view.emb (ix2 r k)) = _
  have e : ((cfg0.win 1).blk t).view.emb (ix2 r k) = (ix2 (token t.val r) k : S65536x2048.Idx) := by
    blk_ext [place t, token]
  rw [e]
  entry_read
  pointwise
  rfl

theorem mat_m (t : Fin cfg0.N) (k : Fin 2048) (l : Fin 1024) :
    iblk m c 2 t (ix3 0 k l) = m ((c : Thread nD τ).loc main_arg2) (ix3 0 k l) := by
  show V m c main_v9 (((cfg0.win 2).blk t).view.emb (ix3 0 k l)) = _
  have e : ((cfg0.win 2).blk t).view.emb (ix3 0 k l) = (ix3 0 k l : S1x2048x1024.Idx) := by
    blk_ext [place t]
  rw [e]
  entry_read
  pointwise

theorem mixed_at (x : Vec Ideal S512x2048 .f32) (w : Vec Ideal S1x2048x1024 .bf16) (r : Fin 512) (l : Fin 1024) :
    mixed (F := Ideal) x w (ix2 r l) = ∑ k : Fin 2048, (show EReal from x (ix2 r k)) * (show EReal from w (ix3 0 k l)) := by
  pointwise [mixed]

/-- The rows the mixer's output is projected to. -/
theorem rows_mixed (t : Fin cfg0.N) (r : Fin 512) :
    rowOf (mixed (iblk m c 1 t) (iblk m c 2 t)) r
      = Cert.Reference3Ideal.Rows.mixed (m ((c : Thread nD τ).loc main_arg1)) (m ((c : Thread nD τ).loc main_arg2)) (token t.val r) := by
  funext l
  refine (mixed_at _ _ r l).trans ?_
  refine Finset.sum_congr rfl fun k _ => ?_
  rw [rows_m, mat_m]

theorem mem_k (t : Fin cfg0.N) (r : Fin 512) :
    mem (iblk m c 8 t) = Cert.Reference3Ideal.Rows.mem (m ((c : Thread nD τ).loc main_arg8)) (batch (token t.val r)) := by
  funext j k
  show V m c main_arg8 (((cfg0.win 8).blk t).view.emb (ix4 0 0 j k)) = _
  have e : ((cfg0.win 8).blk t).view.emb (ix4 0 0 j k) = (ix4 2 (batch (token t.val r)) j k : S4x16x256x1024.Idx) := by
    blk_ext [place t, batch_token]
  rw [e]
  rfl

theorem mem_v (t : Fin cfg0.N) (r : Fin 512) :
    mem (iblk m c 9 t) = Cert.Reference3Ideal.Rows.mem (m ((c : Thread nD τ).loc main_arg9)) (batch (token t.val r)) := by
  funext j k
  show V m c main_arg9 (((cfg0.win 9).blk t).view.emb (ix4 0 0 j k)) = _
  have e : ((cfg0.win 9).blk t).view.emb (ix4 0 0 j k) = (ix4 2 (batch (token t.val r)) j k : S4x16x256x1024.Idx) := by
    blk_ext [place t, batch_token]
  rw [e]
  rfl

theorem gains_3 (t : Fin cfg0.N) : gains (iblk m c 3 t) = gain (m ((c : Thread nD τ).loc main_arg3)) := by
  funext k
  show V m c main_v4 (((cfg0.win 3).blk t).view.emb (ix3 0 0 k)) = _
  have e : ((cfg0.win 3).blk t).view.emb (ix3 0 0 k) = (ix3 2 0 k : S4x1x1024.Idx) := by
    blk_ext [place t]
  rw [e]
  entry_read
  pointwise

theorem gains_4 (t : Fin cfg0.N) : gains (iblk m c 4 t) = gain (m ((c : Thread nD τ).loc main_arg4)) := by
  funext k
  show V m c main_v5 (((cfg0.win 4).blk t).view.emb (ix3 0 0 k)) = _
  have e : ((cfg0.win 4).blk t).view.emb (ix3 0 0 k) = (ix3 2 0 k : S4x1x1024.Idx) := by
    blk_ext [place t]
  rw [e]
  entry_read
  pointwise

theorem gains_5 (t : Fin cfg0.N) : gains (iblk m c 5 t) = gain (m ((c : Thread nD τ).loc main_arg5)) := by
  funext k
  show V m c main_v6 (((cfg0.win 5).blk t).view.emb (ix3 0 0 k)) = _
  have e : ((cfg0.win 5).blk t).view.emb (ix3 0 0 k) = (ix3 2 0 k : S4x1x1024.Idx) := by
    blk_ext [place t]
  rw [e]
  entry_read
  pointwise

theorem gains_6 (t : Fin cfg0.N) : gains (iblk m c 6 t) = gain (m ((c : Thread nD τ).loc main_arg6)) := by
  funext k
  show V m c main_v7 (((cfg0.win 6).blk t).view.emb (ix3 0 0 k)) = _
  have e : ((cfg0.win 6).blk t).view.emb (ix3 0 0 k) = (ix3 2 0 k : S4x1x1024.Idx) := by
    blk_ext [place t]
  rw [e]
  entry_read
  pointwise

theorem gains_7 (t : Fin cfg0.N) : gains (iblk m c 7 t) = gain (m ((c : Thread nD τ).loc main_arg7)) := by
  funext k
  show V m c main_v8 (((cfg0.win 7).blk t).view.emb (ix3 0 0 k)) = _
  have e : ((cfg0.win 7).blk t).view.emb (ix3 0 0 k) = (ix3 2 0 k : S4x1x1024.Idx) := by
    blk_ext [place t]
  rw [e]
  entry_read
  pointwise

theorem mat_q (t : Fin cfg0.N) : mat (iblk m c 10 t) = Cert.Reference3Ideal.Rows.mat (m ((c : Thread nD τ).loc main_arg10)) := by
  funext k l
  show V m c main_v0 (((cfg0.win 10).blk t).view.emb (ix3 0 k l)) = _
  have e : ((cfg0.win 10).blk t).view.emb (ix3 0 k l) = (ix3 2 k l : S4x1024x1024.Idx) := by
    blk_ext [place t]
  rw [e]
  entry_read
  pointwise

theorem mat_o (t : Fin cfg0.N) : mat (iblk m c 11 t) = Cert.Reference3Ideal.Rows.mat (m ((c : Thread nD τ).loc main_arg11)) := by
  funext k l
  show V m c main_v1 (((cfg0.win 11).blk t).view.emb (ix3 0 k l)) = _
  have e : ((cfg0.win 11).blk t).view.emb (ix3 0 k l) = (ix3 2 k l : S4x1024x1024.Idx) := by
    blk_ext [place t]
  rw [e]
  entry_read
  pointwise

theorem mat_in (t : Fin cfg0.N) : matIn (iblk m c 12 t) = Cert.Reference3Ideal.Rows.matIn (m ((c : Thread nD τ).loc main_arg12)) := by
  funext k l
  show V m c main_v2 (((cfg0.win 12).blk t).view.emb (ix3 0 k l)) = _
  have e : ((cfg0.win 12).blk t).view.emb (ix3 0 k l) = (ix3 2 k l : S4x1024x5632.Idx) := by
    blk_ext [place t]
  rw [e]
  entry_read
  pointwise

theorem mat_out (t : Fin cfg0.N) : matOut (iblk m c 13 t) = Cert.Reference3Ideal.Rows.matOut (m ((c : Thread nD τ).loc main_arg13)) := by
  funext k l
  show V m c main_v3 (((cfg0.win 13).blk t).view.emb (ix3 0 k l)) = _
  have e : ((cfg0.win 13).blk t).view.emb (ix3 0 k l) = (ix3 2 k l : S4x2816x1024.Idx) := by
    blk_ext [place t]
  rw [e]
  entry_read
  pointwise

/-- The row of the result that the kernel computes for a token, from the argument arrays. -/
def kernelRow (R : Fin 65536) : Fin 1024 → EReal :=
  fin siluK (mid softK (mix (act (m ((c : Thread nD τ).loc main_arg0)) R) (Cert.Reference3Ideal.Rows.mixed (m ((c : Thread nD τ).loc main_arg1)) (m ((c : Thread nD τ).loc main_arg2)) R) (gain (m ((c : Thread nD τ).loc main_arg3))))
      (gain (m ((c : Thread nD τ).loc main_arg4))) (gain (m ((c : Thread nD τ).loc main_arg5)))
      (Cert.Reference3Ideal.Rows.mem (m ((c : Thread nD τ).loc main_arg8)) (batch R))
      (Cert.Reference3Ideal.Rows.mem (m ((c : Thread nD τ).loc main_arg9)) (batch R))
      (Cert.Reference3Ideal.Rows.mat (m ((c : Thread nD τ).loc main_arg10))) (Cert.Reference3Ideal.Rows.mat (m ((c : Thread nD τ).loc main_arg11))))
    (gain (m ((c : Thread nD τ).loc main_arg6))) (gain (m ((c : Thread nD τ).loc main_arg7)))
    (Cert.Reference3Ideal.Rows.matIn (m ((c : Thread nD τ).loc main_arg12))) (Cert.Reference3Ideal.Rows.matOut (m ((c : Thread nD τ).loc main_arg13)))

/-- After the point that follows `n`, the output window holds the rows of `n`'s tokens. -/
theorem outAt_row (n : ℕ) (h : n + 1 < cfg0.N) (r : Fin 512) (l : Fin 1024) :
    outAt m c (n + 1) h (ix2 r l) = kernelRow m c (token n r) l := by
  have eX : rowOf3 (residAt m c ⟨n, Nat.lt_of_succ_lt h⟩) r = _ := attX_at _ _ _ _ _ _ _ _ _ r
  have eH : rowOf3 (normedAt m c ⟨n, Nat.lt_of_succ_lt h⟩) r = norm _ (rowOf3 (residAt m c ⟨n, Nat.lt_of_succ_lt h⟩) r) :=
    attH_at _ _ _ _ _ _ _ _ _ _ r
  rw [gains_6] at eH
  rw [rows_x, rows_mixed, gains_3, gains_4, gains_5, mem_k m c _ r, mem_v m c _ r, mat_q, mat_o] at eX
  show swi (normedAt m c ⟨n, Nat.lt_of_succ_lt h⟩) (residAt m c ⟨n, Nat.lt_of_succ_lt h⟩) (iblk m c 12 ⟨n + 1, h⟩)
    (iblk m c 13 ⟨n + 1, h⟩) (iblk m c 7 ⟨n + 1, h⟩) (ix2 r l) = _
  rw [swi_at, eH, eX, gains_7, mat_in, mat_out]
  rfl

/-- The result array after the run. -/
theorem final : (dats m 0 c).arrAt 14 (cfgs 0).N = fun i : S65536x1024.Idx => kernelRow m c (i 0) (i 1) := by
  refine (dats m 0 c).arrAt_eq_of_covers 14 _ (by decide +kernel) fun t hf y => ?_
  have h1 : 1 ≤ t.val := by
    revert hf
    exact (by decide +kernel : ∀ t : Fin grid0.N, win0_14.flush t = true → 1 ≤ t.val) t
  blk_simp
  rw [after0_14]
  have key : ∀ z : S512x1024.Idx, outAt m c t.val t.isLt z =
      kernelRow m c ((win0_14.blk t).view.emb z 0) ((win0_14.blk t).view.emb z 1) := by
    intro z
    obtain ⟨r, l, rfl⟩ : ∃ (r : Fin 512) (l : Fin 1024), z = ix2 r l :=
      ⟨z 0, z 1, by funext a; fin_cases a <;> rfl⟩
    have e : (win0_14.blk t).view.emb (ix2 r l) = (ix2 (token (t.val - 1) r) l : S65536x1024.Idx) := by
      have := t.isLt
      have hN : cfg0.N = 129 := by decide
      blk_ext [place t, token]
    rw [e]
    have hs : t.val - 1 + 1 = t.val := by omega
    have := outAt_row m c (t.val - 1) (by rw [hs]; exact t.isLt) r l
    simp only [hs] at this
    exact this
  exact key y

end Cert.Kernel3Ideal.Body

end
-- ==== Proof.Ret.Given.lean ====
/- The precondition read back: where it is all ones, every entry of every argument array is a number. -/
module

public import proofs.«01_k».proof.Proof.Gen.Pre_all_finite3
public import proofs.«01_k».proof.Proof.Given

@[expose] public section

noncomputable section

namespace Cert.Pre_all_finite3

open Idealize.ShloMosaic Cert.Row

/-- Of every array but the last gain and the last matrix, whose entries the two programs use alike. -/
theorem fine_args [Facts] (x0 : FVec Ideal S16x4096x1024 .f32) (x1 : FVec Ideal S16x4096x2048 .f32) (x2 : FVec Ideal S1x2048x1024 .f32)
    (x3 x4 x5 x6 x7 : FVec Ideal S4x1024 .f32)
    (x8 x9 : FVec Ideal S4x16x256x1024 .bf16) (x10 x11 : FVec Ideal S4x1024x1024 .f32)
    (x12 : FVec Ideal S4x1024x5632 .f32) (x13 : FVec Ideal S4x2816x1024 .f32)
    (h : fn (F := Ideal) x0 x1 x2 x3 x4 x5 x6 x7 x8 x9 x10 x11 x12 x13 = fun _ => 1#1) :
    (∀ i, Fine (x0 i)) ∧ (∀ i, Fine (x1 i)) ∧ (∀ i, Fine (x2 i)) ∧ (∀ i, Fine (x3 i)) ∧ (∀ i, Fine (x4 i)) ∧ (∀ i, Fine (x5 i)) ∧ (∀ i, Fine (x6 i)) ∧ (∀ i, Fine (x8 i)) ∧ (∀ i, Fine (x9 i)) ∧ (∀ i, Fine (x10 i)) ∧ (∀ i, Fine (x11 i)) ∧ (∀ i, Fine (x12 i)) := by
  have e := congrFun h ix0
  unfold fn fn_part1 fn_part2 fn_part3 fn_part4 at e
  dsimp only [andi] at e
  simp only [IntOp.andi_eq_one] at e
  obtain ⟨⟨⟨⟨⟨⟨⟨⟨⟨⟨⟨⟨⟨⟨-, e0⟩, e1⟩, e2⟩, e3⟩, e4⟩, e5⟩, e6⟩, -⟩, e8⟩, e9⟩, e10⟩, e11⟩, e12⟩, -⟩ := e
  exact ⟨Cert.Pre_all_finite.fine_of_test x0 _ _ _ _ e0,
    Cert.Pre_all_finite.fine_of_test x1 _ _ _ _ e1,
    Cert.Pre_all_finite.fine_of_test x2 _ _ _ _ e2,
    Cert.Pre_all_finite.fine_of_test x3 _ _ _ _ e3,
    Cert.Pre_all_finite.fine_of_test x4 _ _ _ _ e4,
    Cert.Pre_all_finite.fine_of_test x5 _ _ _ _ e5,
    Cert.Pre_all_finite.fine_of_test x6 _ _ _ _ e6,
    Cert.Pre_all_finite.fine_of_test (extf .f32 x8 _) _ _ _ _ e8,
    Cert.Pre_all_finite.fine_of_test (extf .f32 x9 _) _ _ _ _ e9,
    Cert.Pre_all_finite.fine_of_test x10 _ _ _ _ e10,
    Cert.Pre_all_finite.fine_of_test x11 _ _ _ _ e11,
    Cert.Pre_all_finite.fine_of_test x12 _ _ _ _ e12⟩

end Cert.Pre_all_finite3

end
-- ==== Proof.Ret.Value.lean ====
/- On numbers the kernel's result array is the reference's. -/
module

public import proofs.«01_k».proof.Proof.Ret.Blocks
public import proofs.«01_k».proof.Proof.Ret.Given

@[expose] public section

set_option maxRecDepth 16384

noncomputable section

namespace Cert.Kernel3Ideal.Body

open Idealize.ShloMosaic Idealize.ShloMosaic.TcCoe Idealize.SL.Sem Cert.Row
open Cert.Kernel3Ideal Cert.Kernel3Ideal.Gen
open Cert.Reference3Ideal.Read (val_main_v123)

variable (m : (ℓ : Loc nD τ sig) → Buf (Elt Ideal) ℓ) (c : Dev nD)

/-- The array the kernel leaves is the reference's array of the same arguments. -/
theorem value [Cert.Pre_all_finite3.Facts]
    (h : Cert.Pre_all_finite3.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) = fun _ => 1#1) :
    (dats m 0 c).arrAt 14 (cfgs 0).N = val_main_v123 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  obtain ⟨h0, h1, h2, h3, h4, h5, h6, h8, h9, h10, h11, h12⟩ := Cert.Pre_all_finite3.fine_args _ _ _ _ _ _ _ _ _ _ _ _ _ _ h
  rw [final]
  funext i
  obtain ⟨r, l, rfl⟩ : ∃ (r : Fin 65536) (l : Fin 1024), i = ix2 r l := ⟨i 0, i 1, by funext a; fin_cases a <;> rfl⟩
  refine Eq.trans ?_ (Cert.Reference3Ideal.Rows.ref_row _ _ _ _ _ _ _ _ _ _ _ _ _ _ r l).symm
  refine congrFun (?_ : kernelRow m c r = _) l
  exact (row_eq (fun _ => h0 _) (fun _ => fine_sum _ fun _ => (h1 _).mul (h2 _)) (fun _ => h3 _) (fun _ => h4 _) (fun _ => h5 _)
    (fun _ => h6 _) (fun _ _ => h8 _) (fun _ _ => h9 _) (fun _ _ => h10 _) (fun _ _ => h11 _) (fun _ _ => h12 _)).symm

end Cert.Kernel3Ideal.Body

end
-- ==== Proof.SbProject.lean ====
module

public import proofs.«01_k».proof.Proof.Spec
public import proofs.«01_k».proof.Proof.Gen.Kernel4Ideal.Value
public import proofs.«01_k».proof.Proof.Gen.Reference4Ideal.Read
public import Idealize.ShloMosaic.Lib.Pipeline.ValueKit
public import Idealize.ShloMosaic.Lib.Claim

/-!
The stick-breaking projection: a token's row is normed with the second layer's gains and multiplied by three
square matrices, the thirds of the weight's columns; the first product is scaled by one eighth. The kernel and
the reference both compute exactly that.
-/

@[expose] public section

set_option maxRecDepth 16384

noncomputable section

namespace Cert.SbProject

open Idealize.ShloMosaic Idealize.ShloMosaic.TcCoe Idealize.SL.Sem
open Cert.Row (norm proj)

/-- One over the root of the head dimension. -/
def eighth : EReal := Ideal.ofBits .f32 0x3E000000#32
/-- The 1024 columns of the weight from `o` on. -/
def third (W : Fin 1024 → Fin 3072 → EReal) (o : ℕ) (h : o ≤ 2048) (k l : Fin 1024) : EReal := W k ⟨o + l.val, by omega⟩
/-- The token's row. -/
def act (x : Cert.Kernel4Ideal.S16x4096x1024.Idx → EReal) (r : Fin 65536) (k : Fin 1024) : EReal :=
  x (ix3 ⟨r.val / 4096, by omega⟩ ⟨r.val % 4096, by omega⟩ k)
/-- The second layer's gains. -/
def gain (g : Cert.Kernel4Ideal.S4x1024.Idx → EReal) (k : Fin 1024) : EReal := g (ix2 1 k)
/-- The weight as a matrix. -/
def wide (W : Cert.Kernel4Ideal.S1x1024x3072.Idx → EReal) (k : Fin 1024) (n : Fin 3072) : EReal := W (ix3 0 k n)

namespace Ref

open Cert.Reference4Ideal Cert.Reference4Ideal.Gen Cert.Reference4Ideal.Read

variable (x0 : FVec Ideal S16x4096x1024 .f32) (x1 : FVec Ideal S4x1024 .f32) (x2 : FVec Ideal S1x1024x3072 .f32)

theorem ref_norm (r : Fin 65536) (l : Fin 1024) :
    val_main_v15 (F := Ideal) x0 x1 (ix2 r l) = norm (gain x1) (act x0 r) l := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_dot (r : Fin 65536) (n : Fin 3072) :
    val_main_v17 (F := Ideal) x0 x1 x2 (ix2 r n) = ∑ k, norm (gain x1) (act x0 r) k * wide x2 k n := by
  simp only [← ref_norm]
  pointwise [val_main_v17, val_main_v16]
  rfl

theorem ref_q (r : Fin 65536) (l : Fin 1024) :
    val_main_v23 (F := Ideal) x0 x1 x2 (ix2 r l)
      = proj (third (wide x2) 0 (by decide)) (norm (gain x1) (act x0 r)) l * eighth := by
  pointwise [val_main_v23, val_main_v22, val_main_v21, val_main_v18, val_main_cst_2]
  rw [ref_dot]
  simp only [proj, third, Nat.zero_add]
  rfl

theorem ref_k (r : Fin 65536) (l : Fin 1024) :
    val_main_v24 (F := Ideal) x0 x1 x2 (ix2 r l)
      = proj (third (wide x2) 1024 (by decide)) (norm (gain x1) (act x0 r)) l := by
  pointwise [val_main_v24, val_main_v19]
  rw [ref_dot]
  rfl

theorem ref_v (r : Fin 65536) (l : Fin 1024) :
    val_main_v25 (F := Ideal) x0 x1 x2 (ix2 r l)
      = proj (third (wide x2) 2048 (by decide)) (norm (gain x1) (act x0 r)) l := by
  pointwise [val_main_v25, val_main_v20]
  rw [ref_dot]
  rfl

end Ref

open Cert.Kernel4Ideal Cert.Kernel4Ideal.Gen

theorem pay1_at (x : FVec Ideal S512x1024 .f32) (g : Vec Ideal S1x1024 .f32) (r : Fin 512) (l : Fin 1024) :
    k0_pay1 (F := Ideal) x g (ix2 r l) = norm (fun k => g (ix2 0 k)) (fun k => x (ix2 r k)) l := by
  pointwise [k0_pay1]
  rfl

theorem pay2_at (x : FVec Ideal S512x1024 .f32) (g : Vec Ideal S1x1024 .f32) (W : Vec Ideal S1x1024x1024 .bf16)
    (r : Fin 512) (l : Fin 1024) :
    k0_pay2 (F := Ideal) x g W (ix2 r l)
      = proj (fun k l => W (ix3 0 k l)) (norm (fun k => g (ix2 0 k)) (fun k => x (ix2 r k))) l * eighth := by
  unfold proj
  simp only [← pay1_at]
  pointwise [k0_pay2]
  rfl

theorem pay3_at (x : FVec Ideal S512x1024 .f32) (g : Vec Ideal S1x1024 .f32) (W : Vec Ideal S1x1024x1024 .bf16)
    (r : Fin 512) (l : Fin 1024) :
    k0_pay3 (F := Ideal) x g W (ix2 r l)
      = proj (fun k l => W (ix3 0 k l)) (norm (fun k => g (ix2 0 k)) (fun k => x (ix2 r k))) l := by
  unfold proj
  simp only [← pay1_at]
  pointwise [k0_pay3]

theorem pay4_eq (x : FVec Ideal S512x1024 .f32) (g : Vec Ideal S1x1024 .f32) (W : Vec Ideal S1x1024x1024 .bf16) :
    k0_pay4 (F := Ideal) x g W = k0_pay3 (F := Ideal) x g W := rfl

variable (m : (ℓ : Loc nD τ sig) → Buf (Elt Ideal) ℓ) (c : Dev nD)

/-- Where each window's block lies at a point. -/
theorem place : ∀ t : Fin cfg0.N,
    win0_0.index t = ![t.val, 0] ∧ win0_1.index t = ![0, 0] ∧ win0_2.index t = ![0, 0, 0]
    ∧ win0_3.index t = ![t.val, 0] ∧ win0_4.index t = ![t.val, 0] ∧ win0_5.index t = ![t.val, 0] :=
  (by decide +kernel : ∀ t : Fin grid0.N, _)

/-- The token at row `r` of the block of point `t`. -/
def token (t : Fin cfg0.N) (r : Fin 512) : Fin 65536 :=
  ⟨t.val * 512 + r.val, by have := t.isLt; have hN : cfg0.N = 128 := by decide
                           omega⟩

theorem row_x (t : Fin cfg0.N) (r : Fin 512) (k : Fin 1024) :
    iblk m c 0 t (ix2 r k) = act (m ((c : Thread nD τ).loc main_arg0)) (token t r) k := by
  show V m c main_v0 (((cfg0.win 0).blk t).view.emb (ix2 r k)) = _
  have e : ((cfg0.win 0).blk t).view.emb (ix2 r k) = (ix2 (token t r) k : S65536x1024.Idx) := by
    blk_ext [place t, token]
  rw [e]
  entry_read
  pointwise
  rfl

theorem row_g (t : Fin cfg0.N) (k : Fin 1024) :
    iblk m c 1 t (ix2 0 k) = gain (m ((c : Thread nD τ).loc main_arg1)) k := by
  show V m c main_v3 (((cfg0.win 1).blk t).view.emb (ix2 0 k)) = _
  have e : ((cfg0.win 1).blk t).view.emb (ix2 0 k) = (ix2 0 k : S1x1024.Idx) := by
    blk_ext [place t]
  rw [e]
  entry_read
  pointwise
  rfl

theorem row_w (t : Fin cfg0.N) (k : Fin 1024) (n : Fin 3072) :
    iblk m c 2 t (ix3 0 k n) = wide (m ((c : Thread nD τ).loc main_arg2)) k n := by
  show V m c main_v4 (((cfg0.win 2).blk t).view.emb (ix3 0 k n)) = _
  have e : ((cfg0.win 2).blk t).view.emb (ix3 0 k n) = (ix3 0 k n : S1x1024x3072.Idx) := by
    blk_ext [place t]
  rw [e]
  entry_read
  pointwise
  rfl

theorem row_third (t : Fin cfg0.N) (o : ℕ) (ho : o ≤ 2048) (inb) (k l : Fin 1024) :
    View.ld (iblk m c 2 t) (Rect.unit (s := S1x1024x3072) ![0, 0, o] S1x1024x1024.size inb) (ix3 0 k l)
      = third (wide (m ((c : Thread nD τ).loc main_arg2))) o ho k l :=
  (View.ld_unit_apply_of _ _ _ _ _ (ix3 0 k ⟨o + l.val, by omega⟩) fun a =>
    match a with | ⟨0, _⟩ => rfl | ⟨1, _⟩ => (Nat.zero_add _).symm | ⟨2, _⟩ => rfl).trans (row_w m c t k _)

/-- The product of the token's normed row with a third of the weight. -/
def prod (o : ℕ) (ho : o ≤ 2048) (R : Fin 65536) : Fin 1024 → EReal :=
  proj (third (wide (m ((c : Thread nD τ).loc main_arg2))) o ho)
    (norm (gain (m ((c : Thread nD τ).loc main_arg1))) (act (m ((c : Thread nD τ).loc main_arg0)) R))

theorem block_q (t : Fin cfg0.N) (r : Fin 512) (l : Fin 1024) :
    out0_3 (iblk m c 0 t) (iblk m c 1 t) (iblk m c 2 t) (ix2 r l) = prod m c 0 (by decide) (token t r) l * eighth := by
  unfold out0_3
  rw [View.canon_cons_unit_lit' _ _ _ (by decide), View.ld_unit_lit' _ _ (by decide), View.ld_unit_lit' _ _ (by decide), pay2_at]
  simp only [row_x, row_g, row_third m c t 0 (by decide)]
  rfl

theorem block_k (t : Fin cfg0.N) (r : Fin 512) (l : Fin 1024) :
    out0_4 (iblk m c 0 t) (iblk m c 1 t) (iblk m c 2 t) (ix2 r l) = prod m c 1024 (by decide) (token t r) l := by
  unfold out0_4
  rw [View.canon_cons_unit_lit' _ _ _ (by decide), View.ld_unit_lit' _ _ (by decide), View.ld_unit_lit' _ _ (by decide), pay3_at]
  simp only [row_x, row_g, row_third m c t 1024 (by decide)]
  rfl

theorem block_v (t : Fin cfg0.N) (r : Fin 512) (l : Fin 1024) :
    out0_5 (iblk m c 0 t) (iblk m c 1 t) (iblk m c 2 t) (ix2 r l) = prod m c 2048 (by decide) (token t r) l := by
  unfold out0_5
  rw [View.canon_cons_unit_lit' _ _ _ (by decide), View.ld_unit_lit' _ _ (by decide), View.ld_unit_lit' _ _ (by decide), pay4_eq, pay3_at]
  simp only [row_x, row_g, row_third m c t 2048 (by decide)]
  rfl

/-- An index of a block is a row and a column. -/
theorem split (z : S512x1024.Idx) : ∃ (r : Fin 512) (l : Fin 1024), z = ix2 r l :=
  ⟨z 0, z 1, by funext a; fin_cases a <;> rfl⟩

/-- The first result is the reference's. -/
theorem final_q : (dats m 0 c).arrAt 3 (cfgs 0).N = Cert.Reference4Ideal.Read.val_main_v23 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, l, rfl⟩ := split y
  have e : ((cfg0.win 3).blk t).view.emb (ix2 r l) = (ix2 (token t r) l : S65536x1024.Idx) := by
    blk_ext [place t, token]
  exact (block_q m c t r l).trans ((Ref.ref_q _ _ _ _ l).symm.trans (congrArg _ e.symm))

/-- The second result is the reference's. -/
theorem final_k : (dats m 0 c).arrAt 4 (cfgs 0).N = Cert.Reference4Ideal.Read.val_main_v24 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨r, l, rfl⟩ := split y
  have e : ((cfg0.win 4).blk t).view.emb (ix2 r l) = (ix2 (token t r) l : S65536x1024.Idx) := by
    blk_ext [place t, token]
  exact (block_k m c t r l).trans ((Ref.ref_k _ _ _ _ l).symm.trans (congrArg _ e.symm))

/-- The third result is the reference's. -/
theorem final_v : (dats m 0 c).arrAt 5 (cfgs 0).N = Cert.Reference4Ideal.Read.val_main_v25 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  obtain ⟨r, l, rfl⟩ := split y
  have e : ((cfg0.win 5).blk t).view.emb (ix2 r l) = (ix2 (token t r) l : S65536x1024.Idx) := by
    blk_ext [place t, token]
  exact (block_v m c t r l).trans ((Ref.ref_v _ _ _ _ l).symm.trans (congrArg _ e.symm))

end Cert.SbProject

end
-- ==== Proof.MemoryKv.lean ====
module

public import proofs.«01_k».proof.Proof.Spec
public import proofs.«01_k».proof.Proof.Gen.Kernel5Ideal.Value
public import proofs.«01_k».proof.Proof.Gen.Reference5Ideal.Read
public import Idealize.ShloMosaic.Lib.Pipeline.ValueKit
public import Idealize.ShloMosaic.Lib.Claim

/-!
The memory's keys and values: for each layer, a memory row is normed with the layer's gains and multiplied by
the two halves of the layer's weight. The kernel and the reference both compute exactly that.
-/

@[expose] public section

set_option maxRecDepth 16384

noncomputable section

namespace Cert.MemoryKv

open Idealize.ShloMosaic Idealize.ShloMosaic.TcCoe Idealize.SL.Sem
open Cert.Row (norm proj)

/-- The 1024 columns of the weight from `o` on. -/
def part (W : Fin 1024 → Fin 2048 → EReal) (o : ℕ) (h : o ≤ 1024) (k l : Fin 1024) : EReal := W k ⟨o + l.val, by omega⟩
/-- A row of a batch's memory. -/
def row (x : Cert.Kernel5Ideal.S16x256x1024.Idx → EReal) (b : Fin 16) (j : Fin 256) (k : Fin 1024) : EReal := x (ix3 b j k)
/-- A layer's gains. -/
def gain (g : Cert.Kernel5Ideal.S4x1024.Idx → EReal) (i : Fin 4) (k : Fin 1024) : EReal := g (ix2 i k)
/-- A layer's weight as a matrix. -/
def wide (W : Cert.Kernel5Ideal.S4x1024x2048.Idx → EReal) (i : Fin 4) (k : Fin 1024) (n : Fin 2048) : EReal := W (ix3 i k n)

namespace Ref

open Cert.Reference5Ideal Cert.Reference5Ideal.Gen Cert.Reference5Ideal.Read

variable (x0 : FVec Ideal S16x256x1024 .f32) (x1 : FVec Ideal S4x1024 .f32) (x2 : FVec Ideal S4x1024x2048 .f32)

theorem ref_norm (i : Fin 4) (b : Fin 16) (j : Fin 256) (l : Fin 1024) :
    val_main_v14 (F := Ideal) x0 x1 (ix4 i b j l) = norm (gain x1 i) (row x0 b j) l := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_dot (i : Fin 4) (b : Fin 16) (j : Fin 256) (n : Fin 2048) :
    val_main_v15 (F := Ideal) x0 x1 x2 (ix4 i b j n) = ∑ k, norm (gain x1 i) (row x0 b j) k * wide x2 i k n := by
  simp only [← ref_norm]
  pointwise [val_main_v15]
  rfl

theorem ref_k (i : Fin 4) (b : Fin 16) (j : Fin 256) (l : Fin 1024) :
    val_main_v18 (F := Ideal) x0 x1 x2 (ix4 i b j l)
      = proj (part (wide x2 i) 0 (by decide)) (norm (gain x1 i) (row x0 b j)) l := by
  pointwise [val_main_v18, val_main_v16]
  rw [ref_dot]
  simp only [proj, part, Nat.zero_add]

theorem ref_v (i : Fin 4) (b : Fin 16) (j : Fin 256) (l : Fin 1024) :
    val_main_v19 (F := Ideal) x0 x1 x2 (ix4 i b j l)
      = proj (part (wide x2 i) 1024 (by decide)) (norm (gain x1 i) (row x0 b j)) l := by
  pointwise [val_main_v19, val_main_v17]
  rw [ref_dot]
  rfl

end Ref

open Cert.Kernel5Ideal Cert.Kernel5Ideal.Gen

theorem pay1_at (x : Vec Ideal S1x256x1024 .f32) (g : Vec Ideal S1x1x1024 .f32) (r : Fin 256) (l : Fin 1024) :
    k0_pay1 (F := Ideal) x g (ix2 r l) = norm (fun k => g (ix3 0 0 k)) (fun k => x (ix3 0 r k)) l := by
  pointwise [k0_pay1]
  rfl

theorem pay2_at (x : Vec Ideal S1x256x1024 .f32) (g : Vec Ideal S1x1x1024 .f32) (W : Vec Ideal S1x1024x1024 .bf16)
    (r : Fin 256) (l : Fin 1024) :
    k0_pay2 (F := Ideal) x g W (ix4 0 0 r l)
      = proj (fun k l => W (ix3 0 k l)) (norm (fun k => g (ix3 0 0 k)) (fun k => x (ix3 0 r k))) l := by
  unfold proj
  simp only [← pay1_at]
  pointwise [k0_pay2]

theorem pay3_eq (x : Vec Ideal S1x256x1024 .f32) (g : Vec Ideal S1x1x1024 .f32) (W : Vec Ideal S1x1024x1024 .bf16) :
    k0_pay3 (F := Ideal) x g W = k0_pay2 (F := Ideal) x g W := rfl

variable (m : (ℓ : Loc nD τ sig) → Buf (Elt Ideal) ℓ) (c : Dev nD)

/-- Where each window's block lies at a point. -/
theorem place : ∀ t : Fin cfg0.N,
    win0_0.index t = ![t.val % 16, 0, 0] ∧ win0_1.index t = ![t.val / 16, 0, 0] ∧ win0_2.index t = ![t.val / 16, 0, 0]
    ∧ win0_3.index t = ![t.val / 16, t.val % 16, 0, 0] ∧ win0_4.index t = ![t.val / 16, t.val % 16, 0, 0] :=
  (by decide +kernel : ∀ t : Fin grid0.N, _)

/-- The layer of a point. -/
def layer (t : Fin cfg0.N) : Fin 4 :=
  ⟨t.val / 16, by have := t.isLt; have hN : cfg0.N = 64 := by decide
                  omega⟩
/-- The batch of a point. -/
def batch (t : Fin cfg0.N) : Fin 16 := ⟨t.val % 16, by omega⟩

theorem row_x (t : Fin cfg0.N) (r : Fin 256) (k : Fin 1024) :
    iblk m c 0 t (ix3 0 r k) = row (m ((c : Thread nD τ).loc main_arg0)) (batch t) r k := by
  show V m c main_arg0 (((cfg0.win 0).blk t).view.emb (ix3 0 r k)) = _
  have e : ((cfg0.win 0).blk t).view.emb (ix3 0 r k) = (ix3 (batch t) r k : S16x256x1024.Idx) := by
    blk_ext [place t, batch]
  rw [e]
  rfl

theorem row_g (t : Fin cfg0.N) (k : Fin 1024) :
    iblk m c 1 t (ix3 0 0 k) = gain (m ((c : Thread nD τ).loc main_arg1)) (layer t) k := by
  show V m c main_v1 (((cfg0.win 1).blk t).view.emb (ix3 0 0 k)) = _
  have e : ((cfg0.win 1).blk t).view.emb (ix3 0 0 k) = (ix3 (layer t) 0 k : S4x1x1024.Idx) := by
    blk_ext [place t, layer]
  rw [e]
  entry_read
  pointwise
  rfl

theorem row_w (t : Fin cfg0.N) (k : Fin 1024) (n : Fin 2048) :
    iblk m c 2 t (ix3 0 k n) = wide (m ((c : Thread nD τ).loc main_arg2)) (layer t) k n := by
  show V m c main_v0 (((cfg0.win 2).blk t).view.emb (ix3 0 k n)) = _
  have e : ((cfg0.win 2).blk t).view.emb (ix3 0 k n) = (ix3 (layer t) k n : S4x1024x2048.Idx) := by
    blk_ext [place t, layer]
  rw [e]
  entry_read
  pointwise
  rfl

theorem row_part (t : Fin cfg0.N) (o : ℕ) (ho : o ≤ 1024) (inb) (k l : Fin 1024) :
    View.ld (iblk m c 2 t) (Rect.unit (s := S1x1024x2048) ![0, 0, o] S1x1024x1024.size inb) (ix3 0 k l)
      = part (wide (m ((c : Thread nD τ).loc main_arg2)) (layer t)) o ho k l :=
  (View.ld_unit_apply_of _ _ _ _ _ (ix3 0 k ⟨o + l.val, by omega⟩) fun a =>
    match a with | ⟨0, _⟩ => rfl | ⟨1, _⟩ => (Nat.zero_add _).symm | ⟨2, _⟩ => rfl).trans (row_w m c t k _)

/-- The product of the normed memory row with a half of the weight. -/
def prod (o : ℕ) (ho : o ≤ 1024) (i : Fin 4) (b : Fin 16) (j : Fin 256) : Fin 1024 → EReal :=
  proj (part (wide (m ((c : Thread nD τ).loc main_arg2)) i) o ho)
    (norm (gain (m ((c : Thread nD τ).loc main_arg1)) i) (row (m ((c : Thread nD τ).loc main_arg0)) b j))

theorem block_k (t : Fin cfg0.N) (r : Fin 256) (l : Fin 1024) :
    out0_3 (iblk m c 0 t) (iblk m c 1 t) (iblk m c 2 t) (ix4 0 0 r l) = prod m c 0 (by decide) (layer t) (batch t) r l := by
  unfold out0_3
  rw [View.canon_cons_unit_lit' _ _ _ (by decide), View.ld_unit_lit' _ _ (by decide), View.ld_unit_lit' _ _ (by decide), pay2_at]
  simp only [row_x, row_g, row_part m c t 0 (by decide)]
  rfl

theorem block_v (t : Fin cfg0.N) (r : Fin 256) (l : Fin 1024) :
    out0_4 (iblk m c 0 t) (iblk m c 1 t) (iblk m c 2 t) (ix4 0 0 r l) = prod m c 1024 (by decide) (layer t) (batch t) r l := by
  unfold out0_4
  rw [View.canon_cons_unit_lit' _ _ _ (by decide), View.ld_unit_lit' _ _ (by decide), View.ld_unit_lit' _ _ (by decide), pay3_eq, pay2_at]
  simp only [row_x, row_g, row_part m c t 1024 (by decide)]
  rfl

/-- An index of a block is a row and a column. -/
theorem split (z : S1x1x256x1024.Idx) : ∃ (r : Fin 256) (l : Fin 1024), z = ix4 0 0 r l :=
  ⟨z 2, z 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩

/-- The keys are the reference's. -/
theorem final_k : (dats m 0 c).arrAt 3 (cfgs 0).N = Cert.Reference5Ideal.Read.val_main_v18 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, l, rfl⟩ := split y
  have e : ((cfg0.win 3).blk t).view.emb (ix4 0 0 r l) = (ix4 (layer t) (batch t) r l : S4x16x256x1024.Idx) := by
    blk_ext [place t, layer, batch]
  exact (block_k m c t r l).trans ((Ref.ref_k _ _ _ _ _ _ l).symm.trans (congrArg _ e.symm))

/-- The values are the reference's. -/
theorem final_v : (dats m 0 c).arrAt 4 (cfgs 0).N = Cert.Reference5Ideal.Read.val_main_v19 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  obtain ⟨r, l, rfl⟩ := split y
  have e : ((cfg0.win 4).blk t).view.emb (ix4 0 0 r l) = (ix4 (layer t) (batch t) r l : S4x16x256x1024.Idx) := by
    blk_ext [place t, layer, batch]
  exact (block_v m c t r l).trans ((Ref.ref_v _ _ _ _ _ _ l).symm.trans (congrArg _ e.symm))

end Cert.MemoryKv

end
-- ==== Proof.RetReference.lean ====
module

public import proofs.«01_k».proof.Proof.Spec
public import proofs.«01_k».proof.Proof.Gen.Reference6Ideal.Read
public import Idealize.ShloMosaic.Lib.Pipeline.ValueKit

/-!
The reference's retention projection at an index: a normed row times the weight gives 6144 columns. The first
1024 are the queries and the next 1024 the keys, each head's 256 columns turned pairwise by the position's
angles; the rest are the values and the gate.
-/

@[expose] public section

set_option maxRecDepth 16384

noncomputable section

namespace Cert.RetProject

open Idealize.ShloMosaic
open Cert.Row (norm silu scale col)
open Cert.Reference6Ideal Cert.Reference6Ideal.Gen Cert.Reference6Ideal.Read

/-- Column `d` of the first half of a head's columns. -/
def lo (d : Fin 128) : Fin 256 := ⟨d.val, by omega⟩
/-- Column `d` of the second half of a head's columns. -/
def hi (d : Fin 128) : Fin 256 := ⟨128 + d.val, by omega⟩
/-- The batch of a row. -/
def batch (r : Fin 65536) : Fin 16 := ⟨r.val / 4096, by omega⟩
/-- The position of a row in its batch. -/
def tok (r : Fin 65536) : Fin 4096 := ⟨r.val % 4096, by omega⟩
/-- A row of the activations. -/
def row (x : S16x4096x1024.Idx → EReal) (b : Fin 16) (s : Fin 4096) (k : Fin 1024) : EReal := x (ix3 b s k)
/-- The layer's gains. -/
def gain (g : S4x1024.Idx → EReal) (k : Fin 1024) : EReal := g (ix2 2 k)
/-- The weight as a matrix. -/
def wide (W : S1x1024x6144.Idx → EReal) (k : Fin 1024) (n : Fin 6144) : EReal := W (ix3 0 k n)
/-- The cosine of a position's angle. -/
def co (s : Fin 4096) (d : Fin 128) : EReal := val_main_v35 (F := Ideal) (ix2 s d)
/-- The sine of a position's angle. -/
def si (s : Fin 4096) (d : Fin 128) : EReal := val_main_v36 (F := Ideal) (ix2 s d)

variable (x0 : FVec Ideal S16x4096x1024 .f32) (x1 : FVec Ideal S4x1024 .f32) (x2 : FVec Ideal S1x1024x6144 .f32)

/-- One column of the projection of a row. -/
def cell (b : Fin 16) (s : Fin 4096) (n : Fin 6144) : EReal := ∑ k, norm (gain x1) (row x0 b s) k * wide x2 k n
/-- The two halves of a head's columns from `o` on, turned. -/
def turnLo (o : ℕ) (ho : o ≤ 5120) (b : Fin 16) (s : Fin 4096) (h : Fin 4) (d : Fin 128) : EReal :=
  cell x0 x1 x2 b s ⟨o + (col h (lo d)).val, by omega⟩ * co s d - cell x0 x1 x2 b s ⟨o + (col h (hi d)).val, by omega⟩ * si s d
/-- The second half, likewise. -/
def turnHi (o : ℕ) (ho : o ≤ 5120) (b : Fin 16) (s : Fin 4096) (h : Fin 4) (d : Fin 128) : EReal :=
  cell x0 x1 x2 b s ⟨o + (col h (lo d)).val, by omega⟩ * si s d + cell x0 x1 x2 b s ⟨o + (col h (hi d)).val, by omega⟩ * co s d

theorem ref_norm (b : Fin 16) (s : Fin 4096) (l : Fin 1024) :
    val_main_v14 (F := Ideal) x0 x1 (ix3 b s l) = norm (gain x1) (row x0 b s) l := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_dot (b : Fin 16) (s : Fin 4096) (n : Fin 6144) :
    val_main_v16 (F := Ideal) x0 x1 x2 (ix3 b s n) = cell x0 x1 x2 b s n := by
  unfold cell
  simp only [← ref_norm]
  pointwise [val_main_v16, val_main_v15]
  rfl

/-- The queries before they are turned. -/
theorem ref_q (b : Fin 16) (h : Fin 4) (s : Fin 4096) (e : Fin 256) :
    val_main_v23 (F := Ideal) x0 x1 x2 (ix4 b h s e) = cell x0 x1 x2 b s ⟨0 + (col h e).val, by omega⟩ := by
  rw [val_main_v23_apply, val_main_v22_apply, val_main_v17_apply, ← ref_dot]
  refine congrArg _ (funext fun a => ?_)
  match a with
  | ⟨0, _⟩ => exact Fin.ext (by show (((b.val * 4096 + s.val) * 4 + h.val) * 256 + e.val) / 4194304 = b.val; omega)
  | ⟨1, _⟩ => exact Fin.ext (by show (((b.val * 4096 + s.val) * 4 + h.val) * 256 + e.val) / 1024 % 4096 = s.val; omega)
  | ⟨2, _⟩ => exact Fin.ext (by show (((b.val * 4096 + s.val) * 4 + h.val) * 256 + e.val) % 1024 = 0 + (h.val * 256 + e.val); omega)

/-- The keys before they are turned. -/
theorem ref_k (b : Fin 16) (h : Fin 4) (s : Fin 4096) (e : Fin 256) :
    val_main_v55 (F := Ideal) x0 x1 x2 (ix4 b h s e) = cell x0 x1 x2 b s ⟨1024 + (col h e).val, by omega⟩ := by
  rw [val_main_v55_apply, val_main_v54_apply, val_main_v18_apply, ← ref_dot]
  refine congrArg _ (funext fun a => ?_)
  match a with
  | ⟨0, _⟩ => exact Fin.ext (by show (((b.val * 4096 + s.val) * 4 + h.val) * 256 + e.val) / 4194304 = b.val; omega)
  | ⟨1, _⟩ => exact Fin.ext (by show (((b.val * 4096 + s.val) * 4 + h.val) * 256 + e.val) / 1024 % 4096 = s.val; omega)
  | ⟨2, _⟩ => exact Fin.ext (by show 1024 + (((b.val * 4096 + s.val) * 4 + h.val) * 256 + e.val) % 1024 = 1024 + (h.val * 256 + e.val); omega)

/-- Two halves joined, read in the first. -/
theorem joinLo (x y : S16x4x4096x128.Idx → EReal) (b : Fin 16) (h : Fin 4) (s : Fin 4096) (d : Fin 128) :
    concatenate S16x4x4096x256 3 [⟨S16x4x4096x128, x⟩, ⟨S16x4x4096x128, y⟩]
      concatenates_S16x4x4096x128_S16x4x4096x128_S16x4x4096x256_d3 (ix4 b h s (lo d)) = x (ix4 b h s d) :=
  concatenate_pair_apply_left (t := S16x4x4096x256) (s₁ := S16x4x4096x128) (s₂ := S16x4x4096x128) 3 x y _ (ix4 b h s (lo d)) rfl (ix4 b h s d) fun a => match a with
    | ⟨0, _⟩ => rfl | ⟨1, _⟩ => rfl | ⟨2, _⟩ => rfl | ⟨3, _⟩ => rfl

/-- Two halves joined, read in the second. -/
theorem joinHi (x y : S16x4x4096x128.Idx → EReal) (b : Fin 16) (h : Fin 4) (s : Fin 4096) (d : Fin 128) :
    concatenate S16x4x4096x256 3 [⟨S16x4x4096x128, x⟩, ⟨S16x4x4096x128, y⟩]
      concatenates_S16x4x4096x128_S16x4x4096x128_S16x4x4096x256_d3 (ix4 b h s (hi d)) = y (ix4 b h s d) :=
  concatenate_pair_apply_right (t := S16x4x4096x256) (s₁ := S16x4x4096x128) (s₂ := S16x4x4096x128) 3 x y _ (ix4 b h s (hi d)) rfl rfl (ix4 b h s d) (fun a => match a with
    | ⟨0, _⟩ => fun _ => rfl | ⟨1, _⟩ => fun _ => rfl | ⟨2, _⟩ => fun _ => rfl | ⟨3, _⟩ => fun n => absurd rfl n)
    (Nat.add_comm d.val 128)

theorem ref_q_lo (b : Fin 16) (h : Fin 4) (s : Fin 4096) (d : Fin 128) :
    val_main_v53 (F := Ideal) x0 x1 x2 (ix4 b h s (lo d)) = turnLo x0 x1 x2 0 (by decide) b s h d := by
  refine (joinLo _ _ b h s d).trans ?_
  unfold turnLo
  rw [← ref_q, ← ref_q]
  pointwise [val_main_v45, val_main_v44, val_main_v43, val_main_v42, val_main_v41, val_main_v40, val_main_v39, val_main_v38, val_main_v37]
  rfl

theorem ref_q_hi (b : Fin 16) (h : Fin 4) (s : Fin 4096) (d : Fin 128) :
    val_main_v53 (F := Ideal) x0 x1 x2 (ix4 b h s (hi d)) = turnHi x0 x1 x2 0 (by decide) b s h d := by
  refine (joinHi _ _ b h s d).trans ?_
  unfold turnHi
  rw [← ref_q, ← ref_q]
  pointwise [val_main_v52, val_main_v51, val_main_v50, val_main_v49, val_main_v48, val_main_v47, val_main_v46, val_main_v38, val_main_v37]
  rfl

theorem ref_k_lo (b : Fin 16) (h : Fin 4) (s : Fin 4096) (d : Fin 128) :
    val_main_v87 (F := Ideal) x0 x1 x2 (ix4 b h s (lo d)) = turnLo x0 x1 x2 1024 (by decide) b s h d * scale := by
  refine congrArg (· * scale) ?_
  refine (joinLo _ _ b h s d).trans ?_
  unfold turnLo
  rw [← ref_k, ← ref_k]
  pointwise [val_main_v77, val_main_v76, val_main_v75, val_main_v74, val_main_v73, val_main_v72, val_main_v71, val_main_v70, val_main_v69]
  rfl

theorem ref_k_hi (b : Fin 16) (h : Fin 4) (s : Fin 4096) (d : Fin 128) :
    val_main_v87 (F := Ideal) x0 x1 x2 (ix4 b h s (hi d)) = turnHi x0 x1 x2 1024 (by decide) b s h d * scale := by
  refine congrArg (· * scale) ?_
  refine (joinHi _ _ b h s d).trans ?_
  unfold turnHi
  rw [← ref_k, ← ref_k]
  pointwise [val_main_v84, val_main_v83, val_main_v82, val_main_v81, val_main_v80, val_main_v79, val_main_v78, val_main_v70, val_main_v69]
  rfl

/-- The queries' result holds row `r`, head `h`, column `e` at row `r`, column `(h, e)`. -/
theorem out_q (r : Fin 65536) (h : Fin 4) (e : Fin 256) :
    val_main_v93 (F := Ideal) x0 x1 x2 (ix2 r (col h e)) = val_main_v53 (F := Ideal) x0 x1 x2 (ix4 (batch r) h (tok r) e) := by
  show val_main_v90 (F := Ideal) x0 x1 x2 _ = _
  rw [val_main_v90_apply, val_main_v89_apply]
  refine congrArg _ (funext fun a => ?_)
  match a with
  | ⟨0, _⟩ => exact Fin.ext (by show (r.val * 1024 + (h.val * 256 + e.val)) / 4194304 = r.val / 4096; omega)
  | ⟨1, _⟩ => exact Fin.ext (by show (r.val * 1024 + (h.val * 256 + e.val)) / 256 % 4 = h.val; omega)
  | ⟨2, _⟩ => exact Fin.ext (by show (r.val * 1024 + (h.val * 256 + e.val)) / 1024 % 4096 = r.val % 4096; omega)
  | ⟨3, _⟩ => exact Fin.ext (by show (r.val * 1024 + (h.val * 256 + e.val)) % 256 = e.val; omega)

/-- The keys' result holds batch `b`, position `s`, head `h`, column `e` at row `(h, e)`, column `s` of batch `b`. -/
theorem out_k (b : Fin 16) (s : Fin 4096) (h : Fin 4) (e : Fin 256) :
    val_main_v94 (F := Ideal) x0 x1 x2 (ix3 b (col h e) s) = val_main_v87 (F := Ideal) x0 x1 x2 (ix4 b h s e) := by
  show val_main_v92 (F := Ideal) x0 x1 x2 _ = _
  rw [val_main_v92_apply, val_main_v91_apply]
  refine congrArg _ (funext fun a => ?_)
  match a with
  | ⟨0, _⟩ => exact Fin.ext (by show ((b.val * 1024 + (h.val * 256 + e.val)) * 4096 + s.val) / 4194304 = b.val; omega)
  | ⟨1, _⟩ => exact Fin.ext (by show ((b.val * 1024 + (h.val * 256 + e.val)) * 4096 + s.val) / 1048576 % 4 = h.val; omega)
  | ⟨2, _⟩ => exact Fin.ext (by show ((b.val * 1024 + (h.val * 256 + e.val)) * 4096 + s.val) % 4096 = s.val; omega)
  | ⟨3, _⟩ => exact Fin.ext (by show ((b.val * 1024 + (h.val * 256 + e.val)) * 4096 + s.val) / 4096 % 256 = e.val; omega)

/-- The flat row and column of the two last results. -/
theorem flat (r : Fin 65536) (n : Fin 2048) : idx_main_v95 (ix2 r n) = (ix3 (batch r) (tok r) n : S16x4096x2048.Idx) := by
  funext a
  match a with
  | ⟨0, _⟩ => exact Fin.ext (by show (r.val * 2048 + n.val) / 8388608 = r.val / 4096; omega)
  | ⟨1, _⟩ => exact Fin.ext (by show (r.val * 2048 + n.val) / 2048 % 4096 = r.val % 4096; omega)
  | ⟨2, _⟩ => exact Fin.ext (by show (r.val * 2048 + n.val) % 2048 = n.val; omega)

theorem out_v (r : Fin 65536) (n : Fin 2048) :
    val_main_v96 (F := Ideal) x0 x1 x2 (ix2 r n) = cell x0 x1 x2 (batch r) (tok r) ⟨2048 + n.val, by omega⟩ := by
  show val_main_v95 (F := Ideal) x0 x1 x2 _ = _
  rw [val_main_v95_apply, flat, val_main_v19_apply, ← ref_dot]
  exact congrArg _ (funext fun a => match a with | ⟨0, _⟩ => rfl | ⟨1, _⟩ => rfl | ⟨2, _⟩ => rfl)

theorem out_gate (r : Fin 65536) (n : Fin 2048) :
    val_main_v97 (F := Ideal) x0 x1 x2 (ix2 r n) = silu (cell x0 x1 x2 (batch r) (tok r) ⟨4096 + n.val, by omega⟩) := by
  rw [val_main_v97_apply, show idx_main_v97 (ix2 r n) = _ from flat r n, ← ref_dot]
  pointwise [val_main_v88, val_main_call0_v5, val_main_call0_v4, val_main_call0_v3, val_main_call0_v2, val_main_call0_v1, val_main_call0_v0, val_main_call0_cst, val_main_call0_cst_0, val_main_v20]
  rfl

end Cert.RetProject

end
-- ==== Proof.RetRows.lean ====
module

public import proofs.«01_k».proof.Proof.RetReference
public import proofs.«01_k».proof.Proof.Finite
public import proofs.«01_k».proof.Proof.Gen.Kernel6Ideal.Value
public import Idealize.ShloMosaic.Lib.Pipeline.ValueKit
public import Idealize.ShloMosaic.Lib.Claim

/-!
What one step of the retention projection's kernel holds: the rows it normed, the columns of the weight it read,
and the products, each at an index.
-/

@[expose] public section

set_option maxRecDepth 16384

noncomputable section

namespace Cert.RetProject

open Idealize.ShloMosaic Idealize.ShloMosaic.TcCoe Idealize.SL.Sem
open Cert.Row (norm silu siluK scale col half)
open Cert.Kernel6Ideal Cert.Kernel6Ideal.Gen

/-! ## The kernel's values at an index, of any operands -/

theorem pay4_at (x : Vec Ideal S512x1024 .f32) (g : Vec Ideal S1x1024 .f32) (r : Fin 512) (l : Fin 1024) :
    k0_pay4 (F := Ideal) x g (ix2 r l) = norm (fun k => g (ix2 0 k)) (fun k => x (ix2 r k)) l := by
  pointwise [k0_pay4]
  rfl

theorem pay21_at (n : FVec Ideal S512x1024 .bf16) (W : Vec Ideal S1x1024x256 .bf16) (r : Fin 512) (e : Fin 256) :
    k0_pay21 (F := Ideal) n W (ix2 r e) = ∑ k : Fin 1024, n (ix2 r k) * W (ix3 0 k e) := by
  pointwise [k0_pay21]

theorem pay26_at (n : FVec Ideal S512x1024 .bf16) (W : Vec Ideal S1x256x1024 .bf16) (e : Fin 256) (r : Fin 512) :
    k0_pay26 (F := Ideal) n W (ix2 e r) = ∑ k : Fin 1024, W (ix3 0 e k) * n (ix2 r k) := by
  pointwise [k0_pay26]

theorem pay24_at (n : FVec Ideal S512x1024 .bf16) (c s : FVec Ideal S512x128 .f32) (W : Vec Ideal S1x1024x256 .bf16)
    (r : Fin 512) (d : Fin 128) :
    k0_pay24 (F := Ideal) n c s W (ix2 r d)
      = k0_pay21 (F := Ideal) n W (ix2 r (lo d)) * c (ix2 r d) - k0_pay21 (F := Ideal) n W (ix2 r (hi d)) * s (ix2 r d) := by
  pointwise [k0_pay24, k0_pay22, k0_pay23]
  rfl

theorem pay25_at (n : FVec Ideal S512x1024 .bf16) (c s : FVec Ideal S512x128 .f32) (W : Vec Ideal S1x1024x256 .bf16)
    (r : Fin 512) (d : Fin 128) :
    k0_pay25 (F := Ideal) c s (k0_pay22 (F := Ideal) n W) (k0_pay23 (F := Ideal) n W) (ix2 r d)
      = k0_pay21 (F := Ideal) n W (ix2 r (lo d)) * s (ix2 r d) + k0_pay21 (F := Ideal) n W (ix2 r (hi d)) * c (ix2 r d) := by
  pointwise [k0_pay25, k0_pay22, k0_pay23]
  rfl

theorem pay29_at (n : FVec Ideal S512x1024 .bf16) (c s : FVec Ideal S128x512 .f32) (W : Vec Ideal S1x256x1024 .bf16)
    (d : Fin 128) (r : Fin 512) :
    k0_pay29 (F := Ideal) n c s W (ix3 0 d r)
      = (k0_pay26 (F := Ideal) n W (ix2 (lo d) r) * c (ix2 d r) - k0_pay26 (F := Ideal) n W (ix2 (hi d) r) * s (ix2 d r)) * scale := by
  pointwise [k0_pay29, k0_pay27, k0_pay28]
  rfl

theorem pay30_at (n : FVec Ideal S512x1024 .bf16) (c s : FVec Ideal S128x512 .f32) (W : Vec Ideal S1x256x1024 .bf16)
    (d : Fin 128) (r : Fin 512) :
    k0_pay30 (F := Ideal) n c s W (ix3 0 d r)
      = (k0_pay26 (F := Ideal) n W (ix2 (lo d) r) * s (ix2 d r) + k0_pay26 (F := Ideal) n W (ix2 (hi d) r) * c (ix2 d r)) * scale := by
  pointwise [k0_pay30, k0_pay27, k0_pay28]
  rfl

theorem pay51_at (n : FVec Ideal S512x1024 .bf16) (W : Vec Ideal S1x1024x512 .bf16) (r : Fin 512) (e : Fin 512) :
    k0_pay51 (F := Ideal) n W (ix2 r e) = ∑ k : Fin 1024, n (ix2 r k) * W (ix3 0 k e) := by
  pointwise [k0_pay51]

theorem pay52_at (n : FVec Ideal S512x1024 .bf16) (W : Vec Ideal S1x1024x512 .bf16) (r : Fin 512) (e : Fin 512) :
    k0_pay52 (F := Ideal) n W (ix2 r e) = siluK (∑ k : Fin 1024, n (ix2 r k) * W (ix3 0 k e)) := by
  unfold siluK half
  pointwise [k0_pay52]

variable (m : (ℓ : Loc nD τ sig) → Buf (Elt Ideal) ℓ) (c : Dev nD)

/-! ## The blocks of a step -/

/-- Where each window's block lies at a point. -/
theorem place : ∀ t : Fin cfg0.N,
    win0_0.index t = ![t.val, 0] ∧ win0_1.index t = ![0, 0] ∧ win0_2.index t = ![0, 0, 0] ∧ win0_3.index t = ![0, 0, 0]
    ∧ win0_4.index t = ![t.val % 8, 0] ∧ win0_5.index t = ![t.val % 8, 0] ∧ win0_6.index t = ![0, t.val % 8]
    ∧ win0_7.index t = ![0, t.val % 8] ∧ win0_8.index t = ![t.val, 0] ∧ win0_9.index t = ![t.val / 8, 0, t.val % 8]
    ∧ win0_10.index t = ![t.val, 0] ∧ win0_11.index t = ![t.val, 0] :=
  (by decide +kernel : ∀ t : Fin grid0.N, _)

/-- The flat row at row `r` of the block of point `t`. -/
def token (t : Fin cfg0.N) (r : Fin 512) : Fin 65536 :=
  ⟨t.val * 512 + r.val, by have := t.isLt; have hN : cfg0.N = 128 := by decide
                           omega⟩

theorem row_x (t : Fin cfg0.N) (r : Fin 512) (k : Fin 1024) :
    iblk m c 0 t (ix2 r k) = row (m ((c : Thread nD τ).loc main_arg0)) (batch (token t r)) (tok (token t r)) k := by
  show V m c main_v3 (((cfg0.win 0).blk t).view.emb (ix2 r k)) = _
  have e : ((cfg0.win 0).blk t).view.emb (ix2 r k) = (ix2 (token t r) k : S65536x1024.Idx) := by
    blk_ext [place t, token]
  rw [e]
  entry_read
  pointwise
  rfl

theorem row_g (t : Fin cfg0.N) (k : Fin 1024) :
    iblk m c 1 t (ix2 0 k) = gain (m ((c : Thread nD τ).loc main_arg1)) k := by
  show V m c main_v6 (((cfg0.win 1).blk t).view.emb (ix2 0 k)) = _
  have e : ((cfg0.win 1).blk t).view.emb (ix2 0 k) = (ix2 0 k : S1x1024.Idx) := by
    blk_ext [place t]
  rw [e]
  entry_read
  pointwise
  rfl

theorem row_w (t : Fin cfg0.N) (k : Fin 1024) (n : Fin 6144) :
    iblk m c 2 t (ix3 0 k n) = wide (m ((c : Thread nD τ).loc main_arg2)) k n := by
  show V m c main_v0 (((cfg0.win 2).blk t).view.emb (ix3 0 k n)) = _
  have e : ((cfg0.win 2).blk t).view.emb (ix3 0 k n) = (ix3 0 k n : S1x1024x6144.Idx) := by
    blk_ext [place t]
  rw [e]
  entry_read
  pointwise
  rfl

theorem row_wt (t : Fin cfg0.N) (n k : Fin 1024) :
    iblk m c 3 t (ix3 0 n k) = wide (m ((c : Thread nD τ).loc main_arg2)) k ⟨1024 + n.val, by omega⟩ := by
  show V m c main_v2 (((cfg0.win 3).blk t).view.emb (ix3 0 n k)) = _
  have e : ((cfg0.win 3).blk t).view.emb (ix3 0 n k) = (ix3 0 n k : S1x1024x1024.Idx) := by
    blk_ext [place t]
  rw [e]
  entry_read
  pointwise
  rfl

/-- The kernel's table of cosines is the reference's. -/
theorem table_co : V m c main_v19 = Cert.Reference6Ideal.Read.val_main_v35 (F := Ideal) := by
  entry_read
  rfl
/-- The kernel's table of sines is the reference's. -/
theorem table_si : V m c main_v20 = Cert.Reference6Ideal.Read.val_main_v36 (F := Ideal) := by
  entry_read
  rfl

theorem pos_lt (t : Fin cfg0.N) (r : Fin 512) : (tok (token t r)).val = t.val % 8 * 512 + r.val := by
  show (t.val * 512 + r.val) % 4096 = _
  omega

theorem row_co (t : Fin cfg0.N) (r : Fin 512) (d : Fin 128) : iblk m c 4 t (ix2 r d) = co (tok (token t r)) d := by
  show V m c main_v19 (((cfg0.win 4).blk t).view.emb (ix2 r d)) = _
  have e : ((cfg0.win 4).blk t).view.emb (ix2 r d) = (ix2 (tok (token t r)) d : S4096x128.Idx) := by
    blk_ext [place t, pos_lt]
  rw [e, table_co]
  rfl

theorem row_si (t : Fin cfg0.N) (r : Fin 512) (d : Fin 128) : iblk m c 5 t (ix2 r d) = si (tok (token t r)) d := by
  show V m c main_v20 (((cfg0.win 5).blk t).view.emb (ix2 r d)) = _
  have e : ((cfg0.win 5).blk t).view.emb (ix2 r d) = (ix2 (tok (token t r)) d : S4096x128.Idx) := by
    blk_ext [place t, pos_lt]
  rw [e, table_si]
  rfl

theorem col_co (t : Fin cfg0.N) (r : Fin 512) (d : Fin 128) : iblk m c 6 t (ix2 d r) = co (tok (token t r)) d := by
  show V m c main_v21 (((cfg0.win 6).blk t).view.emb (ix2 d r)) = _
  have e : ((cfg0.win 6).blk t).view.emb (ix2 d r) = (ix2 d (tok (token t r)) : S128x4096.Idx) := by
    blk_ext [place t, pos_lt]
  rw [e]
  have h : V m c main_v21 = transpose S128x4096 [1, 0] (Cert.Reference6Ideal.Read.val_main_v35 (F := Ideal)) transposes_S4096x128_S128x4096_1_0 := by
    entry_read
    rfl
  rw [h]
  pointwise
  rfl

theorem col_si (t : Fin cfg0.N) (r : Fin 512) (d : Fin 128) : iblk m c 7 t (ix2 d r) = si (tok (token t r)) d := by
  show V m c main_v22 (((cfg0.win 7).blk t).view.emb (ix2 d r)) = _
  have e : ((cfg0.win 7).blk t).view.emb (ix2 d r) = (ix2 d (tok (token t r)) : S128x4096.Idx) := by
    blk_ext [place t, pos_lt]
  rw [e]
  have h : V m c main_v22 = transpose S128x4096 [1, 0] (Cert.Reference6Ideal.Read.val_main_v36 (F := Ideal)) transposes_S4096x128_S128x4096_1_0 := by
    entry_read
    rfl
  rw [h]
  pointwise
  rfl

/-- A value of the step's eight input blocks. -/
abbrev blocks {α : Type} (f : Vec Ideal S512x1024 .f32 → Vec Ideal S1x1024 .f32 → Vec Ideal S1x1024x6144 .bf16 → Vec Ideal S1x1024x1024 .bf16 →
    Vec Ideal S512x128 .f32 → Vec Ideal S512x128 .f32 → Vec Ideal S128x512 .f32 → Vec Ideal S128x512 .f32 → α) (t : Fin cfg0.N) : α :=
  f (iblk m c 0 t) (iblk m c 1 t) (iblk m c 2 t) (iblk m c 3 t) (iblk m c 4 t) (iblk m c 5 t) (iblk m c 6 t) (iblk m c 7 t)

theorem normed (t : Fin cfg0.N) (r : Fin 512) (k : Fin 1024) :
    blocks m c (k0_pay56 (F := Ideal)) t (ix2 r k)
      = norm (gain (m ((c : Thread nD τ).loc main_arg1))) (row (m ((c : Thread nD τ).loc main_arg0)) (batch (token t r)) (tok (token t r))) k := by
  unfold blocks k0_pay56
  rw [View.ld_unit_lit' _ _ (by decide), View.ld_unit_lit' _ _ (by decide), pay4_at]
  simp only [row_x, row_g]

theorem cos_at (t : Fin cfg0.N) (r : Fin 512) (d : Fin 128) :
    blocks m c (k0_pay57 (F := Ideal)) t (ix2 r d) = co (tok (token t r)) d := by
  unfold blocks k0_pay57
  rw [View.ld_unit_lit' _ _ (by decide), ← row_co m c]
  pointwise [k0_pay5]

theorem sin_at (t : Fin cfg0.N) (r : Fin 512) (d : Fin 128) :
    blocks m c (k0_pay58 (F := Ideal)) t (ix2 r d) = si (tok (token t r)) d := by
  unfold blocks k0_pay58
  rw [View.ld_unit_lit' _ _ (by decide), ← row_si m c]
  pointwise [k0_pay6]

theorem cosT_at (t : Fin cfg0.N) (r : Fin 512) (d : Fin 128) :
    blocks m c (k0_pay59 (F := Ideal)) t (ix2 d r) = co (tok (token t r)) d := by
  unfold blocks k0_pay59
  rw [View.ld_unit_lit' _ _ (by decide), ← col_co m c]
  pointwise [k0_pay7]

theorem sinT_at (t : Fin cfg0.N) (r : Fin 512) (d : Fin 128) :
    blocks m c (k0_pay60 (F := Ideal)) t (ix2 d r) = si (tok (token t r)) d := by
  unfold blocks k0_pay60
  rw [View.ld_unit_lit' _ _ (by decide), ← col_si m c]
  pointwise [k0_pay8]

/-- One column of the projection of the row at `R`, of this run's arguments. -/
abbrev at' (R : Fin 65536) (n : Fin 6144) : EReal :=
  cell (m ((c : Thread nD τ).loc main_arg0)) (m ((c : Thread nD τ).loc main_arg1)) (m ((c : Thread nD τ).loc main_arg2)) (batch R) (tok R) n

/-- The product with 256 columns of the weight from `o` on. -/
theorem dot_q (t : Fin cfg0.N) (o : ℕ) (inb) (r : Fin 512) (e : Fin 256) (n : Fin 6144) (hn : n.val = o + e.val) :
    k0_pay21 (F := Ideal) (blocks m c (k0_pay56 (F := Ideal)) t)
        (View.ld (iblk m c 2 t) (Rect.unit (s := S1x1024x6144) ![0, 0, o] S1x1024x256.size inb)) (ix2 r e) = at' m c (token t r) n := by
  rw [pay21_at]
  refine Finset.sum_congr rfl fun k _ => ?_
  rw [normed]
  exact congrArg _ ((View.ld_unit_apply_of _ _ _ _ _ (ix3 0 k n) fun a =>
    match a with | ⟨0, _⟩ => rfl | ⟨1, _⟩ => (Nat.zero_add _).symm | ⟨2, _⟩ => hn).trans (row_w m c t k n))

/-- The product with 512 columns of the weight from `o` on. -/
theorem dot_v (t : Fin cfg0.N) (o : ℕ) (inb) (r : Fin 512) (e : Fin 512) (n : Fin 6144) (hn : n.val = o + e.val) :
    (∑ k : Fin 1024, blocks m c (k0_pay56 (F := Ideal)) t (ix2 r k)
        * View.ld (iblk m c 2 t) (Rect.unit (s := S1x1024x6144) ![0, 0, o] S1x1024x512.size inb) (ix3 0 k e)) = at' m c (token t r) n := by
  refine Finset.sum_congr rfl fun k _ => ?_
  rw [normed]
  exact congrArg _ ((View.ld_unit_apply_of _ _ _ _ _ (ix3 0 k n) fun a =>
    match a with | ⟨0, _⟩ => rfl | ⟨1, _⟩ => (Nat.zero_add _).symm | ⟨2, _⟩ => hn).trans (row_w m c t k n))

/-- The product with 256 rows of the keys' weight, turned over, from `o` on. -/
theorem dot_k (t : Fin cfg0.N) (o : ℕ) (ho : o ≤ 768) (inb) (r : Fin 512) (e : Fin 256) (n : Fin 6144) (hn : n.val = 1024 + (o + e.val)) :
    k0_pay26 (F := Ideal) (blocks m c (k0_pay56 (F := Ideal)) t)
        (View.ld (iblk m c 3 t) (Rect.unit (s := S1x1024x1024) ![0, o, 0] S1x256x1024.size inb)) (ix2 e r) = at' m c (token t r) n := by
  obtain ⟨n, hlt⟩ := n
  subst hn
  rw [pay26_at]
  refine Finset.sum_congr rfl fun k _ => ?_
  rw [normed, mul_comm]
  exact congrArg _ ((View.ld_unit_apply_of _ _ _ _ _ (ix3 0 ⟨o + e.val, by omega⟩ k) fun a =>
    match a with | ⟨0, _⟩ => rfl | ⟨1, _⟩ => rfl | ⟨2, _⟩ => (Nat.zero_add _).symm).trans (row_wt m c t _ k))

end Cert.RetProject

end
-- ==== Proof.RetProject.lean ====
module

public import proofs.«01_k».proof.Proof.RetRows
public import proofs.«01_k».proof.Proof.Given
public import proofs.«01_k».proof.Proof.Gen.Pre_all_finite6

/-!
The retention projection's four results: each array the kernel leaves is the reference's. A step stores its
queries and keys in eight pieces each, the two halves of four heads, and its values and gate in four pieces each.
-/

@[expose] public section

set_option maxRecDepth 16384

noncomputable section

namespace Cert.RetProject

open Idealize.ShloMosaic Idealize.ShloMosaic.TcCoe Idealize.SL.Sem
open Cert.Row (norm silu siluK scale col half Fine fine_sum norm_fine)
open Cert.Kernel6Ideal Cert.Kernel6Ideal.Gen

variable (m : (ℓ : Loc nD τ sig) → Buf (Elt Ideal) ℓ) (c : Dev nD)

/-- The reference's queries of this run's arguments. -/
abbrev refQ := Cert.Reference6Ideal.Read.val_main_v93 (F := Ideal)
  (m ((c : Thread nD τ).loc main_arg0)) (m ((c : Thread nD τ).loc main_arg1)) (m ((c : Thread nD τ).loc main_arg2))
/-- The reference's keys. -/
abbrev refK := Cert.Reference6Ideal.Read.val_main_v94 (F := Ideal)
  (m ((c : Thread nD τ).loc main_arg0)) (m ((c : Thread nD τ).loc main_arg1)) (m ((c : Thread nD τ).loc main_arg2))
/-- The reference's values. -/
abbrev refV := Cert.Reference6Ideal.Read.val_main_v96 (F := Ideal)
  (m ((c : Thread nD τ).loc main_arg0)) (m ((c : Thread nD τ).loc main_arg1)) (m ((c : Thread nD τ).loc main_arg2))
/-- The reference's gate. -/
abbrev refG := Cert.Reference6Ideal.Read.val_main_v97 (F := Ideal)
  (m ((c : Thread nD τ).loc main_arg0)) (m ((c : Thread nD τ).loc main_arg1)) (m ((c : Thread nD τ).loc main_arg2))

/-! ## One piece of a step's store -/

/-- The first half of head `h`'s queries. -/
theorem q_lo (t : Fin cfg0.N) (h : Fin 4) (o : ℕ) (ho : o = h.val * 256) (inb) (r : Fin 512) (l : Fin 1024) (x : S512x128.Idx)
    (e0 : r.val = (x 0).val) (e1 : l.val = o + (x 1).val) :
    k0_pay24 (F := Ideal) (blocks m c (k0_pay56 (F := Ideal)) t) (blocks m c (k0_pay57 (F := Ideal)) t) (blocks m c (k0_pay58 (F := Ideal)) t)
        (View.ld (iblk m c 2 t) (Rect.unit (s := S1x1024x6144) ![0, 0, o] S1x1024x256.size inb)) x = refQ m c (ix2 (token t r) l) := by
  obtain ⟨d, rfl⟩ : ∃ d : Fin 128, x = ix2 r d :=
    ⟨x 1, funext fun a => match a with | ⟨0, _⟩ => Fin.ext e0.symm | ⟨1, _⟩ => rfl⟩
  obtain rfl : l = col h (lo d) := Fin.ext (e1.trans (by subst ho; rfl))
  unfold refQ
  rw [out_q, ref_q_lo, pay24_at, cos_at, sin_at,
    dot_q m c t o inb r _ ⟨0 + (col h (lo d)).val, by omega⟩ (by subst ho; exact Nat.zero_add _),
    dot_q m c t o inb r _ ⟨0 + (col h (hi d)).val, by omega⟩ (by subst ho; exact Nat.zero_add _)]
  rfl

/-- The second half of head `h`'s queries. -/
theorem q_hi (t : Fin cfg0.N) (h : Fin 4) (o p : ℕ) (ho : o = h.val * 256) (hp : p = o + 128) (inb) (r : Fin 512) (l : Fin 1024)
    (x : S512x128.Idx) (e0 : r.val = (x 0).val) (e1 : l.val = p + (x 1).val) :
    k0_pay25 (F := Ideal) (blocks m c (k0_pay57 (F := Ideal)) t) (blocks m c (k0_pay58 (F := Ideal)) t)
        (k0_pay22 (F := Ideal) (blocks m c (k0_pay56 (F := Ideal)) t) (View.ld (iblk m c 2 t) (Rect.unit (s := S1x1024x6144) ![0, 0, o] S1x1024x256.size inb)))
        (k0_pay23 (F := Ideal) (blocks m c (k0_pay56 (F := Ideal)) t) (View.ld (iblk m c 2 t) (Rect.unit (s := S1x1024x6144) ![0, 0, o] S1x1024x256.size inb)))
        x = refQ m c (ix2 (token t r) l) := by
  obtain ⟨d, rfl⟩ : ∃ d : Fin 128, x = ix2 r d :=
    ⟨x 1, funext fun a => match a with | ⟨0, _⟩ => Fin.ext e0.symm | ⟨1, _⟩ => rfl⟩
  obtain rfl : l = col h (hi d) := Fin.ext (e1.trans (by subst hp ho; exact Nat.add_assoc _ _ _))
  unfold refQ
  rw [out_q, ref_q_hi, pay25_at, cos_at, sin_at,
    dot_q m c t o inb r _ ⟨0 + (col h (lo d)).val, by omega⟩ (by subst ho; exact Nat.zero_add _),
    dot_q m c t o inb r _ ⟨0 + (col h (hi d)).val, by omega⟩ (by subst ho; exact Nat.zero_add _)]
  rfl

/-- The first half of head `h`'s keys. -/
theorem k_lo (t : Fin cfg0.N) (h : Fin 4) (o : ℕ) (ho : o = h.val * 256) (inb) (r : Fin 512) (l : Fin 1024) (x : S1x128x512.Idx)
    (e1 : l.val = o + (x 1).val) (e2 : r.val = (x 2).val) :
    k0_pay29 (F := Ideal) (blocks m c (k0_pay56 (F := Ideal)) t) (blocks m c (k0_pay59 (F := Ideal)) t) (blocks m c (k0_pay60 (F := Ideal)) t)
        (View.ld (iblk m c 3 t) (Rect.unit (s := S1x1024x1024) ![0, o, 0] S1x256x1024.size inb)) x
      = refK m c (ix3 (batch (token t r)) l (tok (token t r))) := by
  obtain ⟨d, rfl⟩ : ∃ d : Fin 128, x = ix3 0 d r := ⟨x 1, funext fun a => match a with
    | ⟨0, _⟩ => Subsingleton.elim (α := Fin 1) _ _ | ⟨1, _⟩ => rfl | ⟨2, _⟩ => Fin.ext e2.symm⟩
  obtain rfl : l = col h (lo d) := Fin.ext (e1.trans (by subst ho; rfl))
  unfold refK
  rw [out_k, ref_k_lo, pay29_at, cosT_at, sinT_at,
    dot_k m c t o (by omega) inb r _ ⟨1024 + (col h (lo d)).val, by omega⟩ (by subst ho; rfl),
    dot_k m c t o (by omega) inb r _ ⟨1024 + (col h (hi d)).val, by omega⟩ (by subst ho; rfl)]
  rfl

/-- The second half of head `h`'s keys. -/
theorem k_hi (t : Fin cfg0.N) (h : Fin 4) (o p : ℕ) (ho : o = h.val * 256) (hp : p = o + 128) (inb) (r : Fin 512) (l : Fin 1024)
    (x : S1x128x512.Idx) (e1 : l.val = p + (x 1).val) (e2 : r.val = (x 2).val) :
    k0_pay30 (F := Ideal) (blocks m c (k0_pay56 (F := Ideal)) t) (blocks m c (k0_pay59 (F := Ideal)) t) (blocks m c (k0_pay60 (F := Ideal)) t)
        (View.ld (iblk m c 3 t) (Rect.unit (s := S1x1024x1024) ![0, o, 0] S1x256x1024.size inb)) x
      = refK m c (ix3 (batch (token t r)) l (tok (token t r))) := by
  obtain ⟨d, rfl⟩ : ∃ d : Fin 128, x = ix3 0 d r := ⟨x 1, funext fun a => match a with
    | ⟨0, _⟩ => Subsingleton.elim (α := Fin 1) _ _ | ⟨1, _⟩ => rfl | ⟨2, _⟩ => Fin.ext e2.symm⟩
  obtain rfl : l = col h (hi d) := Fin.ext (e1.trans (by subst hp ho; exact Nat.add_assoc _ _ _))
  unfold refK
  rw [out_k, ref_k_hi, pay30_at, cosT_at, sinT_at,
    dot_k m c t o (by omega) inb r _ ⟨1024 + (col h (lo d)).val, by omega⟩ (by subst ho; rfl),
    dot_k m c t o (by omega) inb r _ ⟨1024 + (col h (hi d)).val, by omega⟩ (by subst ho; rfl)]
  rfl

/-- A quarter of the values. -/
theorem v_at (t : Fin cfg0.N) (o p : ℕ) (hp : p = 2048 + o) (inb) (r : Fin 512) (l : Fin 2048) (x : S512x512.Idx)
    (e0 : r.val = (x 0).val) (e1 : l.val = o + (x 1).val) :
    k0_pay51 (F := Ideal) (blocks m c (k0_pay56 (F := Ideal)) t)
        (View.ld (iblk m c 2 t) (Rect.unit (s := S1x1024x6144) ![0, 0, p] S1x1024x512.size inb)) x = refV m c (ix2 (token t r) l) := by
  obtain ⟨d, rfl⟩ : ∃ d : Fin 512, x = ix2 r d :=
    ⟨x 1, funext fun a => match a with | ⟨0, _⟩ => Fin.ext e0.symm | ⟨1, _⟩ => rfl⟩
  unfold refV
  rw [out_v, pay51_at]
  exact dot_v m c t p inb r _ _ (by show _ + l.val = _; rw [hp, e1]; exact (Nat.add_assoc _ _ _).symm)

/-- The rows, the gains and the weight are finite. -/
def Tame : Prop :=
  (∀ i, Fine (m ((c : Thread nD τ).loc main_arg0) i)) ∧ (∀ i, Fine (m ((c : Thread nD τ).loc main_arg1) i))
    ∧ ∀ i, Fine (m ((c : Thread nD τ).loc main_arg2) i)

/-- The precondition says so. -/
theorem tame [Cert.Pre_all_finite6.Facts]
    (h : Cert.Pre_all_finite6.fn (F := Ideal) (m ((c : Thread nD τ).loc main_arg0)) (m ((c : Thread nD τ).loc main_arg1))
      (m ((c : Thread nD τ).loc main_arg2)) = fun _ => 1#1) : Tame m c := by
  have e := congrFun h ix0
  unfold Cert.Pre_all_finite6.fn at e
  dsimp only [andi] at e
  simp only [IntOp.andi_eq_one] at e
  obtain ⟨⟨⟨-, e0⟩, e1⟩, e2⟩ := e
  exact ⟨Cert.Pre_all_finite.fine_of_test _ _ _ _ _ e0, Cert.Pre_all_finite.fine_of_test _ _ _ _ _ e1,
    Cert.Pre_all_finite.fine_of_test _ _ _ _ _ e2⟩

theorem at_fine (h : Tame m c) (R : Fin 65536) (n : Fin 6144) : Fine (at' m c R n) :=
  fine_sum _ fun k => (norm_fine (fun _ => h.2.1 _) (fun _ => h.1 _) k).mul (h.2.2 _)

/-- A quarter of the gate: the kernel's activation is the reference's where its operand is finite. -/
theorem g_at (ht : Tame m c) (t : Fin cfg0.N) (o p : ℕ) (hp : p = 4096 + o) (inb) (r : Fin 512) (l : Fin 2048) (x : S512x512.Idx)
    (e0 : r.val = (x 0).val) (e1 : l.val = o + (x 1).val) :
    k0_pay52 (F := Ideal) (blocks m c (k0_pay56 (F := Ideal)) t)
        (View.ld (iblk m c 2 t) (Rect.unit (s := S1x1024x6144) ![0, 0, p] S1x1024x512.size inb)) x = refG m c (ix2 (token t r) l) := by
  obtain ⟨d, rfl⟩ : ∃ d : Fin 512, x = ix2 r d :=
    ⟨x 1, funext fun a => match a with | ⟨0, _⟩ => Fin.ext e0.symm | ⟨1, _⟩ => rfl⟩
  unfold refG
  rw [out_gate, pay52_at, (at_fine m c ht (token t r) _).silu.1]
  exact congrArg siluK (dot_v m c t p inb r _ _ (by show _ + l.val = _; rw [hp, e1]; exact (Nat.add_assoc _ _ _).symm))

/-! ## A step's blocks -/

theorem block_q (t : Fin cfg0.N) (r : Fin 512) (l : Fin 1024) :
    blocks m c (out0_8 (F := Ideal)) t (ix2 r l) = refQ m c (ix2 (token t r) l) := by
  unfold blocks out0_8
  canon_tiles x h using cover0_8 ..
  · exact q_hi m c t 3 768 896 rfl rfl _ r l x h0 h1
  · exact q_lo m c t 3 768 rfl _ r l x h0 h1
  · exact q_hi m c t 2 512 640 rfl rfl _ r l x h0 h1
  · exact q_lo m c t 2 512 rfl _ r l x h0 h1
  · exact q_hi m c t 1 256 384 rfl rfl _ r l x h0 h1
  · exact q_lo m c t 1 256 rfl _ r l x h0 h1
  · exact q_hi m c t 0 0 128 rfl rfl _ r l x h0 h1
  · exact q_lo m c t 0 0 rfl _ r l x h0 (h1.trans (Nat.zero_add _).symm)

theorem block_k (t : Fin cfg0.N) (r : Fin 512) (l : Fin 1024) :
    blocks m c (out0_9 (F := Ideal)) t (ix3 0 l r) = refK m c (ix3 (batch (token t r)) l (tok (token t r))) := by
  unfold blocks out0_9
  canon_tiles x h using cover0_9 ..
  · exact k_hi m c t 3 768 896 rfl rfl _ r l x h1 h2
  · exact k_lo m c t 3 768 rfl _ r l x h1 h2
  · exact k_hi m c t 2 512 640 rfl rfl _ r l x h1 h2
  · exact k_lo m c t 2 512 rfl _ r l x h1 h2
  · exact k_hi m c t 1 256 384 rfl rfl _ r l x h1 h2
  · exact k_lo m c t 1 256 rfl _ r l x h1 h2
  · exact k_hi m c t 0 0 128 rfl rfl _ r l x h1 h2
  · exact k_lo m c t 0 0 rfl _ r l x (h1.trans (Nat.zero_add _).symm) h2

theorem block_v (t : Fin cfg0.N) (r : Fin 512) (l : Fin 2048) :
    blocks m c (out0_10 (F := Ideal)) t (ix2 r l) = refV m c (ix2 (token t r) l) := by
  unfold blocks out0_10
  canon_tiles x h using cover0_10 ..
  · exact v_at m c t 1536 3584 rfl _ r l x h0 h1
  · exact v_at m c t 1024 3072 rfl _ r l x h0 h1
  · exact v_at m c t 512 2560 rfl _ r l x h0 h1
  · exact v_at m c t 0 2048 rfl _ r l x h0 (h1.trans (Nat.zero_add _).symm)

theorem block_g (ht : Tame m c) (t : Fin cfg0.N) (r : Fin 512) (l : Fin 2048) :
    blocks m c (out0_11 (F := Ideal)) t (ix2 r l) = refG m c (ix2 (token t r) l) := by
  unfold blocks out0_11
  canon_tiles x h using cover0_11 ..
  · exact g_at m c ht t 1536 5632 rfl _ r l x h0 h1
  · exact g_at m c ht t 1024 5120 rfl _ r l x h0 h1
  · exact g_at m c ht t 512 4608 rfl _ r l x h0 h1
  · exact g_at m c ht t 0 4096 rfl _ r l x h0 (h1.trans (Nat.zero_add _).symm)

/-! ## The four results -/

/-- An index of a block is a row and a column. -/
theorem split {n : ℕ} (z : (⟨2, ![512, n]⟩ : Shape).Idx) : ∃ (r : Fin 512) (l : Fin n), z = ix2 r l :=
  ⟨z 0, z 1, by funext a; fin_cases a <;> rfl⟩

/-- An index of a block of keys is a row and a column. -/
theorem splitK (z : S1x1024x512.Idx) : ∃ (l : Fin 1024) (r : Fin 512), z = ix3 0 l r :=
  ⟨z 1, z 2, by
    funext a
    match a with
    | ⟨0, _⟩ => exact Subsingleton.elim (α := Fin 1) _ _
    | ⟨1, _⟩ => rfl
    | ⟨2, _⟩ => rfl⟩

theorem batch_at (t : Fin cfg0.N) (r : Fin 512) : (batch (token t r)).val = t.val / 8 := by
  show (t.val * 512 + r.val) / 4096 = _
  omega

/-- The queries are the reference's. -/
theorem final_q : (dats m 0 c).arrAt 8 (cfgs 0).N = refQ m c := by
  refine (dats m 0 c).arrAt_eq_of_covers 8 _ (by decide +kernel) fun t hf y => ?_
  blk_simp
  rw [after0_8]
  obtain ⟨r, l, rfl⟩ := split y
  have e : ((cfg0.win 8).blk t).view.emb (ix2 r l) = (ix2 (token t r) l : S65536x1024.Idx) := by
    blk_ext [place t, token]
  exact (block_q m c t r l).trans (congrArg _ e.symm)

/-- The keys are the reference's. -/
theorem final_k : (dats m 0 c).arrAt 9 (cfgs 0).N = refK m c := by
  refine (dats m 0 c).arrAt_eq_of_covers 9 _ (by decide +kernel) fun t hf y => ?_
  blk_simp
  rw [after0_9]
  obtain ⟨l, r, rfl⟩ := splitK y
  have e : ((cfg0.win 9).blk t).view.emb (ix3 0 l r) = (ix3 (batch (token t r)) l (tok (token t r)) : S16x1024x4096.Idx) := by
    blk_ext [place t, pos_lt, batch_at]
  exact (block_k m c t r l).trans (congrArg _ e.symm)

/-- The values are the reference's. -/
theorem final_v : (dats m 0 c).arrAt 10 (cfgs 0).N = refV m c := by
  refine (dats m 0 c).arrAt_eq_of_covers 10 _ (by decide +kernel) fun t hf y => ?_
  blk_simp
  rw [after0_10]
  obtain ⟨r, l, rfl⟩ := split y
  have e : ((cfg0.win 10).blk t).view.emb (ix2 r l) = (ix2 (token t r) l : S65536x2048.Idx) := by
    blk_ext [place t, token]
  exact (block_v m c t r l).trans (congrArg _ e.symm)

/-- The gate is the reference's. -/
theorem final_g (ht : Tame m c) : (dats m 0 c).arrAt 11 (cfgs 0).N = refG m c := by
  refine (dats m 0 c).arrAt_eq_of_covers 11 _ (by decide +kernel) fun t hf y => ?_
  blk_simp
  rw [after0_11]
  obtain ⟨r, l, rfl⟩ := split y
  have e : ((cfg0.win 11).blk t).view.emb (ix2 r l) = (ix2 (token t r) l : S65536x2048.Idx) := by
    blk_ext [place t, token]
  exact (block_g m c ht t r l).trans (congrArg _ e.symm)

end Cert.RetProject

end
-- ==== Proof.lean ====
/- The claim, for each of the six programs: both spellings of the kernel run and leave their arguments alone, they are the
   same program, and the idealized kernel computes the reference's arrays (the first three programs and the last: on
   arguments that are numbers). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_all_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_all_finite2
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_all_finite3
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Same
public import proofs.«01_k».proof.Proof.Value
public import proofs.«01_k».proof.Proof.Sb.Same
public import proofs.«01_k».proof.Proof.Sb.Value
public import proofs.«01_k».proof.Proof.Ret.Same
public import proofs.«01_k».proof.Proof.Ret.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_all_finite6
public import proofs.«01_k».proof.Proof.SbProject
public import proofs.«01_k».proof.Proof.MemoryKv
public import proofs.«01_k».proof.Proof.RetProject
public import Idealize.ShloMosaic.Lib.Claim
public import Idealize.ShloMosaic.Adequacy
public import Idealize.ShloMosaic.Init

@[expose] public section

noncomputable section

namespace Cert.Proof

open Idealize.ShloMosaic Idealize.SL.Sem

/-- The reference runs, leaves its arguments as they were and, having no semaphore, every counter at zero. -/
theorem frame_ref : Cert.quiescent_ReferenceIdeal := fun m g _ =>
  (θ_run _ _ _).mono (fun _ h => ⟨fun c => (h c).2, Idealize.ShloMosaic.sem_eq_zero_of_no_sems (by decide) _⟩) (Cert.ReferenceIdeal.Value.run m g)

section
open Cert.ReferenceIdeal

/-- The reference's result by its last stage. -/
theorem run_ref (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v121) = Read.val_main_v121 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run _ _ _).mono (fun _ h c => ⟨(h c).1.trans (Read.val_main_v121_eq (F := Ideal) (StableHlo.launchContents m c)), (h c).2⟩)
    (Value.run m g)

end

/-- On numbers the idealized kernel ends with the reference's array. -/
theorem algebraic : Cert.algebraic_KernelIdeal_ReferenceIdeal_pre_all_finite := by
  pair_intro
  · run_from Cert.KernelIdeal.Body.run_main m g
  · run_from run_ref m' g'
    exact (Cert.KernelIdeal.Body.value m c (hpre c)).symm

/-- The second layer's reference runs, leaves its arguments as they were and, having no semaphore, every counter at zero. -/
theorem frame_ref2 : Cert.quiescent_Reference2Ideal := fun m g _ =>
  (θ_run _ _ _).mono (fun _ h => ⟨fun c => (h c).2, Idealize.ShloMosaic.sem_eq_zero_of_no_sems (by decide) _⟩) (Cert.Reference2Ideal.Value.run m g)

section
open Cert.Reference2Ideal

/-- The second layer's reference's result by its last stage. -/
theorem run_ref2 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v124) = Read.val_main_v124 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run _ _ _).mono (fun _ h c => ⟨(h c).1.trans (Read.val_main_v124_eq (F := Ideal) (StableHlo.launchContents m c)), (h c).2⟩)
    (Value.run m g)

end

/-- On numbers the second layer's idealized kernel ends with its reference's array. -/
theorem algebraic2 : Cert.algebraic_Kernel2Ideal_Reference2Ideal_pre_all_finite2 := by
  pair_intro
  · run_from Cert.Kernel2Ideal.Body.run_main m g
  · run_from run_ref2 m' g'
    exact (Cert.Kernel2Ideal.Body.value m c (hpre c)).symm

/-- The third layer's reference runs, leaves its arguments as they were and, having no semaphore, every counter at zero. -/
theorem frame_ref3 : Cert.quiescent_Reference3Ideal := fun m g _ =>
  (θ_run _ _ _).mono (fun _ h => ⟨fun c => (h c).2, Idealize.ShloMosaic.sem_eq_zero_of_no_sems (by decide) _⟩) (Cert.Reference3Ideal.Value.run m g)

section
open Cert.Reference3Ideal

/-- The third layer's reference's result by its last stage. -/
theorem run_ref3 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v123) = Read.val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run _ _ _).mono (fun _ h c => ⟨(h c).1.trans (Read.val_main_v123_eq (F := Ideal) (StableHlo.launchContents m c)), (h c).2⟩)
    (Value.run m g)

end

/-- On numbers the third layer's idealized kernel ends with its reference's array. -/
theorem algebraic3 : Cert.algebraic_Kernel3Ideal_Reference3Ideal_pre_all_finite3 := by
  pair_intro
  · run_from Cert.Kernel3Ideal.Body.run_main m g
  · run_from run_ref3 m' g'
    exact (Cert.Kernel3Ideal.Body.value m c (hpre c)).symm

/-- The stick-breaking projection's reference runs, leaves its arguments as they were and, having no semaphore, every counter at zero. -/
theorem frame_ref4 : Cert.quiescent_Reference4Ideal := fun m g _ =>
  (θ_run _ _ _).mono (fun _ h => ⟨fun c => (h c).2.2.2, Idealize.ShloMosaic.sem_eq_zero_of_no_sems (by decide) _⟩) (Cert.Reference4Ideal.Value.run m g)

section
open Cert.Reference4Ideal

/-- The stick-breaking projection's reference's results by their last stages. -/
theorem run_ref4 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = Read.val_main_v23 (F := Ideal) (m ((c.tc : Thread nD τ).loc main_arg0)) (m ((c.tc : Thread nD τ).loc main_arg1)) (m ((c.tc : Thread nD τ).loc main_arg2))
      ∧ r.2.mem ((c.tc : Thread nD τ).loc main_v24) = Read.val_main_v24 (F := Ideal) (m ((c.tc : Thread nD τ).loc main_arg0)) (m ((c.tc : Thread nD τ).loc main_arg1)) (m ((c.tc : Thread nD τ).loc main_arg2))
      ∧ r.2.mem ((c.tc : Thread nD τ).loc main_v25) = Read.val_main_v25 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (Read.val_main_v23_eq (F := Ideal) _ _ _),
      (h c).2.1.trans (Read.val_main_v24_eq (F := Ideal) _ _ _),
      (h c).2.2.1.trans (Read.val_main_v25_eq (F := Ideal) _ _ _), (h c).2.2.2⟩)
    (Value.run m g)

end

section
open Cert.Kernel4Ideal

/-- The stick-breaking projection's idealized kernel ends with its reference's arrays. -/
theorem run_kernel4 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5_0) = Cert.Reference4Ideal.Read.val_main_v23 (F := Ideal) (m ((c.tc : Thread nD τ).loc main_arg0)) (m ((c.tc : Thread nD τ).loc main_arg1)) (m ((c.tc : Thread nD τ).loc main_arg2))
      ∧ r.2.mem ((c.tc : Thread nD τ).loc main_v5_1) = Cert.Reference4Ideal.Read.val_main_v24 (F := Ideal) (m ((c.tc : Thread nD τ).loc main_arg0)) (m ((c.tc : Thread nD τ).loc main_arg1)) (m ((c.tc : Thread nD τ).loc main_arg2))
      ∧ r.2.mem ((c.tc : Thread nD τ).loc main_v5_2) = Cert.Reference4Ideal.Read.val_main_v25 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (Cert.SbProject.final_q m c), (h c).2.1.trans (Cert.SbProject.final_k m c), (h c).2.2.1.trans (Cert.SbProject.final_v m c), (h c).2.2.2⟩)
    (Value.run_blocks m g)

end

/-- The stick-breaking projection's idealized kernel and its reference end with the same arrays. -/
theorem algebraic4 : Cert.algebraic_Kernel4Ideal_Reference4Ideal := by
  pair_intro
  · run_from run_kernel4 m g
  · run_from run_ref4 m' g'

/-- The memory projection's reference runs, leaves its arguments as they were and, having no semaphore, every counter at zero. -/
theorem frame_ref5 : Cert.quiescent_Reference5Ideal := fun m g _ =>
  (θ_run _ _ _).mono (fun _ h => ⟨fun c => (h c).2.2, Idealize.ShloMosaic.sem_eq_zero_of_no_sems (by decide) _⟩) (Cert.Reference5Ideal.Value.run m g)

section
open Cert.Reference5Ideal

/-- The memory projection's reference's results by their last stages. -/
theorem run_ref5 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v18) = Read.val_main_v18 (F := Ideal) (m ((c.tc : Thread nD τ).loc main_arg0)) (m ((c.tc : Thread nD τ).loc main_arg1)) (m ((c.tc : Thread nD τ).loc main_arg2))
      ∧ r.2.mem ((c.tc : Thread nD τ).loc main_v19) = Read.val_main_v19 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (Read.val_main_v18_eq (F := Ideal) _ _ _),
      (h c).2.1.trans (Read.val_main_v19_eq (F := Ideal) _ _ _), (h c).2.2⟩)
    (Value.run m g)

end

section
open Cert.Kernel5Ideal

/-- The memory projection's idealized kernel ends with its reference's arrays. -/
theorem run_kernel5 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2_0) = Cert.Reference5Ideal.Read.val_main_v18 (F := Ideal) (m ((c.tc : Thread nD τ).loc main_arg0)) (m ((c.tc : Thread nD τ).loc main_arg1)) (m ((c.tc : Thread nD τ).loc main_arg2))
      ∧ r.2.mem ((c.tc : Thread nD τ).loc main_v2_1) = Cert.Reference5Ideal.Read.val_main_v19 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (Cert.MemoryKv.final_k m c), (h c).2.1.trans (Cert.MemoryKv.final_v m c), (h c).2.2⟩)
    (Value.run_blocks m g)

end

/-- The memory projection's idealized kernel and its reference end with the same arrays. -/
theorem algebraic5 : Cert.algebraic_Kernel5Ideal_Reference5Ideal := by
  pair_intro
  · run_from run_kernel5 m g
  · run_from run_ref5 m' g'

/-- The retention projection's reference runs, leaves its arguments as they were and, having no semaphore, every counter at zero. -/
theorem frame_ref6 : Cert.quiescent_Reference6Ideal := fun m g _ =>
  (θ_run _ _ _).mono (fun _ h => ⟨fun c => (h c).2.2.2.2, Idealize.ShloMosaic.sem_eq_zero_of_no_sems (by decide) _⟩) (Cert.Reference6Ideal.Value.run m g)

section
open Cert.Reference6Ideal

/-- The retention projection's reference's results by their last stages. -/
theorem run_ref6 (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v93) = Read.val_main_v93 (F := Ideal) (m ((c.tc : Thread nD τ).loc main_arg0)) (m ((c.tc : Thread nD τ).loc main_arg1)) (m ((c.tc : Thread nD τ).loc main_arg2))
      ∧ r.2.mem ((c.tc : Thread nD τ).loc main_v94) = Read.val_main_v94 (F := Ideal) (m ((c.tc : Thread nD τ).loc main_arg0)) (m ((c.tc : Thread nD τ).loc main_arg1)) (m ((c.tc : Thread nD τ).loc main_arg2))
      ∧ r.2.mem ((c.tc : Thread nD τ).loc main_v96) = Read.val_main_v96 (F := Ideal) (m ((c.tc : Thread nD τ).loc main_arg0)) (m ((c.tc : Thread nD τ).loc main_arg1)) (m ((c.tc : Thread nD τ).loc main_arg2))
      ∧ r.2.mem ((c.tc : Thread nD τ).loc main_v97) = Read.val_main_v97 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (Read.val_main_v93_eq (F := Ideal) m c),
      (h c).2.1.trans (Read.val_main_v94_eq (F := Ideal) m c),
      (h c).2.2.1.trans (Read.val_main_v96_eq (F := Ideal) _ _ _),
      (h c).2.2.2.1.trans (Read.val_main_v97_eq (F := Ideal) _ _ _), (h c).2.2.2.2⟩)
    (Value.run m g)

end

section
open Cert.Kernel6Ideal

/-- On numbers the retention projection's idealized kernel ends with its reference's arrays. -/
theorem run_kernel6 (m : (ℓ : Loc nD τ sig) → Buf (Elt Ideal) ℓ) (g : Dev nD → PrngReg) (hpre : Cert.Pre_Kernel6Ideal_all_finite6 m) :
    θ_run (defs (F := Ideal)) (onTc (τ := τ) (main (F := Ideal))) ⟨m, fun _ => 0, g⟩ fun r => ∀ c : Dev nD,
      r.2.mem ((c.tc : Thread nD τ).loc main_v23_0) = Cert.Reference6Ideal.Read.val_main_v93 (F := Ideal) (m ((c.tc : Thread nD τ).loc main_arg0)) (m ((c.tc : Thread nD τ).loc main_arg1)) (m ((c.tc : Thread nD τ).loc main_arg2))
      ∧ r.2.mem ((c.tc : Thread nD τ).loc main_v23_1) = Cert.Reference6Ideal.Read.val_main_v94 (F := Ideal) (m ((c.tc : Thread nD τ).loc main_arg0)) (m ((c.tc : Thread nD τ).loc main_arg1)) (m ((c.tc : Thread nD τ).loc main_arg2))
      ∧ r.2.mem ((c.tc : Thread nD τ).loc main_v23_2) = Cert.Reference6Ideal.Read.val_main_v96 (F := Ideal) (m ((c.tc : Thread nD τ).loc main_arg0)) (m ((c.tc : Thread nD τ).loc main_arg1)) (m ((c.tc : Thread nD τ).loc main_arg2))
      ∧ r.2.mem ((c.tc : Thread nD τ).loc main_v23_3) = Cert.Reference6Ideal.Read.val_main_v97 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (Cert.RetProject.final_q m c), (h c).2.1.trans (Cert.RetProject.final_k m c),
      (h c).2.2.1.trans (Cert.RetProject.final_v m c),
      (h c).2.2.2.1.trans (Cert.RetProject.final_g m c (Cert.RetProject.tame m c (hpre c))), (h c).2.2.2.2⟩)
    (Value.run_blocks m g)

end

/-- A function of three arguments at equal arguments. -/
theorem same3 {α β γ δ : Type} (f : α → β → γ → δ) {a a' : α} {b b' : β} {c c' : γ} (ha : a' = a) (hb : b' = b) (hc : c' = c) :
    f a' b' c' = f a b c := by
  subst ha hb hc; rfl

/-- On numbers the retention projection's idealized kernel and its reference end with the same arrays. -/
theorem algebraic6 : Cert.algebraic_Kernel6Ideal_Reference6Ideal_pre_all_finite6 := fun m g m' g' hpre hargs =>
  ⟨fun c => Cert.RetProject.refQ m c,
    fun c => Cert.RetProject.refK m c,
    fun c => Cert.RetProject.refV m c,
    fun c => Cert.RetProject.refG m c,
    run_kernel6 m g hpre,
    (θ_run _ _ _).mono (fun _ h c => ⟨(h c).1.trans (same3 (Cert.Reference6Ideal.Read.val_main_v93 (F := Ideal)) (hargs c).1 (hargs c).2.1 (hargs c).2.2),
        (h c).2.1.trans (same3 (Cert.Reference6Ideal.Read.val_main_v94 (F := Ideal)) (hargs c).1 (hargs c).2.1 (hargs c).2.2),
        (h c).2.2.1.trans (same3 (Cert.Reference6Ideal.Read.val_main_v96 (F := Ideal)) (hargs c).1 (hargs c).2.1 (hargs c).2.2),
        (h c).2.2.2.1.trans (same3 (Cert.Reference6Ideal.Read.val_main_v97 (F := Ideal)) (hargs c).1 (hargs c).2.1 (hargs c).2.2),
        (h c).2.2.2.2⟩)
      (run_ref6 m' g')⟩

/-- All of it. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_all_finite.Gen.facts, Cert.Pre_all_finite2.Gen.facts, Cert.Pre_all_finite3.Gen.facts, Cert.Pre_all_finite6.Gen.facts,
  Cert.Kernel.Body.frame, fun m g _ => Cert.KernelIdeal.Body.frame m g, fun m g _ => Cert.KernelIdeal.Body.frame m g,
  frame_ref, fun m g _ => frame_ref m g trivial,
  Cert.Kernel2.Body.frame, fun m g _ => Cert.Kernel2Ideal.Body.frame m g, fun m g _ => Cert.Kernel2Ideal.Body.frame m g,
  frame_ref2, fun m g _ => frame_ref2 m g trivial,
  Cert.Kernel3.Body.frame, fun m g _ => Cert.Kernel3Ideal.Body.frame m g, fun m g _ => Cert.Kernel3Ideal.Body.frame m g,
  frame_ref3, fun m g _ => frame_ref3 m g trivial,
  fun m g _ => Cert.Kernel4.Gen.frame m g, fun m g _ => Cert.Kernel4Ideal.Gen.frame m g, frame_ref4,
  fun m g _ => Cert.Kernel5.Gen.frame m g, fun m g _ => Cert.Kernel5Ideal.Gen.frame m g, frame_ref5,
  fun m g _ => Cert.Kernel6.Gen.frame m g, fun m g _ => Cert.Kernel6Ideal.Gen.frame m g, fun m g _ => Cert.Kernel6Ideal.Gen.frame m g,
  frame_ref6, fun m g _ => frame_ref6 m g trivial,
  trivial, algebraic, trivial, algebraic2, trivial, algebraic3, trivial, algebraic4, trivial, algebraic5,
  trivial, algebraic6⟩

end Cert.Proof
